-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2 = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1 : Shape := ⟨1, ![1]⟩
abbrev S4096 : Shape := ⟨1, ![4096]⟩
abbrev S3840x128 : Shape := ⟨2, ![3840, 128]⟩
abbrev S4096x4x1024 : Shape := ⟨3, ![4096, 4, 1024]⟩
abbrev S4096x1024 : Shape := ⟨2, ![4096, 1024]⟩
abbrev S_ : Shape := ⟨0, ![]⟩

class Facts : Prop where
  bcast_S_S1 : S_.BroadcastsInDim S1 (![] : Fin 0 → Fin S1.rank)
  bcast_S_S4096 : S_.BroadcastsInDim S4096 (![] : Fin 0 → Fin S4096.rank)

variable [Facts]

def fn {F : FTy → Type} [FloatOps F] (main_arg0 : IVec S1 32) (main_arg1 : IVec S4096 32) (main_arg2 : FVec F S3840x128 .fp8e4m3) (main_arg3 : IVec S4096x4x1024 32) (main_arg4 : FVec F S4096x1024 .f32) : IVec S1 1 × IVec S4096 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 3840#32
  let main_v2 : IVec S1 32 := broadcastInDim S1 ![] bcast_S_S1 main_c_0
  let main_v3 : IVec S1 1 := cmpi .sle main_arg0 main_v2
  let main_v4 : IVec S1 1 := andi main_v1 main_v3
  let main_c_1 : IVec S_ 32 := constantI S_ 32 1#32
  let main_v5 : IVec S4096 32 := broadcastInDim S4096 ![] bcast_S_S4096 main_c_1
  let main_v6 : IVec S4096 1 := cmpi .sge main_arg1 main_v5
  let main_c_2 : IVec S_ 32 := constantI S_ 32 1024#32
  let main_v7 : IVec S4096 32 := broadcastInDim S4096 ![] bcast_S_S4096 main_c_2
  let main_v8 : IVec S4096 1 := cmpi .sle main_arg1 main_v7
  let main_v9 : IVec S4096 1 := andi main_v6 main_v8
  (main_v4, main_v9)
-- ==== Kernel.lean ====
abbrev S1 : Shape := ⟨1, ![1]⟩
abbrev S4096 : Shape := ⟨1, ![4096]⟩
abbrev S3840x128 : Shape := ⟨2, ![3840, 128]⟩
abbrev S4096x4x1024 : Shape := ⟨3, ![4096, 4, 1024]⟩
abbrev S4096x1024 : Shape := ⟨2, ![4096, 1024]⟩
abbrev S_ : Shape := ⟨0, ![]⟩
abbrev S4096x1 : Shape := ⟨2, ![4096, 1]⟩
abbrev S32x1x128 : Shape := ⟨3, ![32, 1, 128]⟩
abbrev S4096x1x1024 : Shape := ⟨3, ![4096, 1, 1024]⟩
abbrev S4096x1x3840 : Shape := ⟨3, ![4096, 1, 3840]⟩
abbrev S1x1x128 : Shape := ⟨3, ![1, 1, 128]⟩
abbrev S2x128x4x1024 : Shape := ⟨4, ![2, 128, 4, 1024]⟩
abbrev S2x128x1x1024 : Shape := ⟨4, ![2, 128, 1, 1024]⟩
abbrev S4x1024x128 : Shape := ⟨3, ![4, 1024, 128]⟩
abbrev S1024x128 : Shape := ⟨2, ![1024, 128]⟩
abbrev S128x1x3840 : Shape := ⟨3, ![128, 1, 3840]⟩
abbrev S2 : Shape := ⟨1, ![2]⟩
abbrev S1x1x4x1024 : Shape := ⟨4, ![1, 1, 4, 1024]⟩
abbrev S4x1024 : Shape := ⟨2, ![4, 1024]⟩
abbrev S1x4x1024 : Shape := ⟨3, ![1, 4, 1024]⟩
abbrev S1x1x1x1024 : Shape := ⟨4, ![1, 1, 1, 1024]⟩
abbrev S1x1024 : Shape := ⟨2, ![1, 1024]⟩
abbrev S1x1x1024 : Shape := ⟨3, ![1, 1, 1024]⟩
abbrev S1x128x4x1024 : Shape := ⟨4, ![1, 128, 4, 1024]⟩
abbrev S128x4x1024 : Shape := ⟨3, ![128, 4, 1024]⟩
abbrev S1x128x1x1024 : Shape := ⟨4, ![1, 128, 1, 1024]⟩
abbrev S128x1x1024 : Shape := ⟨3, ![128, 1, 1024]⟩
abbrev S1x128 : Shape := ⟨2, ![1, 128]⟩
abbrev S128x128 : Shape := ⟨2, ![128, 128]⟩
abbrev S1x128x1x128 : Shape := ⟨4, ![1, 128, 1, 128]⟩
abbrev S1x128x128 : Shape := ⟨3, ![1, 128, 128]⟩
abbrev S256x128 : Shape := ⟨2, ![256, 128]⟩
abbrev S8x128 : Shape := ⟨2, ![8, 128]⟩
abbrev S32x128 : Shape := ⟨2, ![32, 128]⟩
abbrev S128x256 : Shape := ⟨2, ![128, 256]⟩
abbrev S256x256 : Shape := ⟨2, ![256, 256]⟩
abbrev S1x1x3840 : Shape := ⟨3, ![1, 1, 3840]⟩
abbrev S1x3840 : Shape := ⟨2, ![1, 3840]⟩
abbrev S128x1x128 : Shape := ⟨3, ![128, 1, 128]⟩

abbrev nBuf : Space → Nat
  | .hbm => 17
  | .vmem => 9
  | .smem => 3
  | _ => 0

abbrev bufTy : (tb : Table) → Fin (tcTables nBuf tb) → BufTy
  | .hbm, ⟨0, _⟩ => ⟨S4096, .i32⟩
  | .hbm, ⟨1, _⟩ => ⟨S3840x128, .fp8e4m3⟩
  | .hbm, ⟨2, _⟩ => ⟨S4096x4x1024, .i32⟩
  | .hbm, ⟨3, _⟩ => ⟨S4096x1024, .f32⟩
  | .hbm, ⟨4, _⟩ => ⟨S4096, .i32⟩
  | .hbm, ⟨5, _⟩ => ⟨S4096, .i32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S32x1x128, .i32⟩
  | .hbm, ⟨15, _⟩ => ⟨S4096x1x1024, .f32⟩
  | .hbm, ⟨16, _⟩ => ⟨S4096x1x3840, .f32⟩
  | .local _ .vmem, ⟨0, _⟩ => ⟨S1x1x128, .i32⟩
  | .local _ .vmem, ⟨1, _⟩ => ⟨S1x1x128, .i32⟩
  | .local _ .vmem, ⟨2, _⟩ => ⟨S3840x128, .fp8e4m3⟩
  | .local _ .vmem, ⟨3, _⟩ => ⟨S2x128x4x1024, .i32⟩
  | .local _ .vmem, ⟨4, _⟩ => ⟨S2x128x1x1024, .f32⟩
  | .local _ .vmem, ⟨5, _⟩ => ⟨S4x1024x128, .i32⟩
  | .local _ .vmem, ⟨6, _⟩ => ⟨S1024x128, .f32⟩
  | .local _ .vmem, ⟨7, _⟩ => ⟨S3840x128, .f32⟩
  | .local _ .vmem, ⟨8, _⟩ => ⟨S128x1x3840, .f32⟩
  | .local _ .smem, ⟨0, _⟩ => ⟨S4096, .i32⟩
  | .local _ .smem, ⟨1, _⟩ => ⟨S4096, .i32⟩
  | .local _ .smem, ⟨2, _⟩ => ⟨S1, .i32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_call0_v0 : Ref sig .tc := ⟨.hbm, 4, rfl⟩
abbrev main_call0_v1_0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v0 : Ref sig .tc := ⟨.smem, 0, rfl⟩
abbrev main_v7 : Ref sig .tc := ⟨.smem, 1, rfl⟩
abbrev main_arg0 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![32], ![false]⟩

abbrev pre0 : Pipeline.Prefetch sig := ⟨3, ![main_v0.idx, main_v7.idx, main_arg0.idx], fun | 0 => main_v0.names | 1 => main_v7.names | 2 => main_arg0.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_55 : BitVec 32 := 0#32
  let c128_i32_56 : BitVec 32 := 128#32
  let v83 : BitVec 32 := Scalar.addi c0_i32_55 c128_i32_56
  let c1_i32_57 : BitVec 32 := 1#32
  ⟨c0_i32_55, v83, c1_i32_57⟩
def k0_off1 (k0_t1 : Fin k0_t1_loop.trips) : Fin 1 → Nat :=
  let c0_i32_62 : BitVec 32 := 0#32
  let c0_i32_55 : BitVec 32 := 0#32
  let c1_i32_57 : BitVec 32 := 1#32
  let arg17 : BitVec 32 := Scf.iv c0_i32_55 c1_i32_57 k0_t1
  let v88 : BitVec 32 := Scalar.addi c0_i32_62 arg17
  let v89 : Index := Scalar.indexCast v88
  ![v89.toNat]
def k0_off2 (k0_t1 : Fin k0_t1_loop.trips) : Fin 4 → Nat :=
  let c0_i32_63 : BitVec 32 := 0#32
  let c0_i32_55 : BitVec 32 := 0#32
  let c1_i32_57 : BitVec 32 := 1#32
  let arg17 : BitVec 32 := Scf.iv c0_i32_55 c1_i32_57 k0_t1
  let c0_i32_65 : BitVec 32 := 0#32
  let c0_i32_66 : BitVec 32 := 0#32
  ![0, arg17.toNat, 0, 0]
def k0_off3 (v90 : BitVec 32) : Fin 3 → Nat :=
  let c0_i32_67 : BitVec 32 := 0#32
  let c0_i32_68 : BitVec 32 := 0#32
  ![v90.toNat, 0, 0]

def k0_off4 (k0_t1 : Fin k0_t1_loop.trips) : Fin 4 → Nat :=
  let c0_i32_69 : BitVec 32 := 0#32
  let c0_i32_55 : BitVec 32 := 0#32
  let c1_i32_57 : BitVec 32 := 1#32
  let arg17 : BitVec 32 := Scf.iv c0_i32_55 c1_i32_57 k0_t1
  let c0_i32_71 : BitVec 32 := 0#32
  let c0_i32_72 : BitVec 32 := 0#32
  ![0, arg17.toNat, 0, 0]
def k0_off5 (v90 : BitVec 32) : Fin 3 → Nat :=
  let c0_i32_73 : BitVec 32 := 0#32
  let c0_i32_74 : BitVec 32 := 0#32
  ![v90.toNat, 0, 0]

def k0_chk1 (i : grid0.Coords) (v90 : BitVec 32) : Prop :=
  (∀ (k0_h1 : k0_cond1 i = 1#1), ∀ a, (k0_off3 v90) a + S1x4x1024.size a ≤ S4096x4x1024.size a) ∧
  (∀ (k0_h1 : k0_cond1 i = 1#1), ∀ a, (k0_off5 v90) a + S1x1x1024.size a ≤ S4096x1x1024.size a)
theorem k0_off3_inb : ∀ (i : grid0.Coords) (v90 : BitVec 32) (k0_hw1 : k0_chk1 i v90), ∀ (k0_h1 : k0_cond1 i = 1#1), ∀ a, (k0_off3 v90) a + S1x4x1024.size a ≤ S4096x4x1024.size a := fun i v90 k0_hw1 k0_h1 => k0_hw1.1 k0_h1
theorem k0_off5_inb : ∀ (i : grid0.Coords) (v90 : BitVec 32) (k0_hw1 : k0_chk1 i v90), ∀ (k0_h1 : k0_cond1 i = 1#1), ∀ a, (k0_off5 v90) a + S1x1x1024.size a ≤ S4096x1x1024.size a := fun i v90 k0_hw1 k0_h1 => k0_hw1.2 k0_h1

def k0_off6 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off7 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_5 : BitVec 32 := 0#32
  let c0_i32_6 : BitVec 32 := 0#32
  let c0_i32_7 : BitVec 32 := 0#32
  ![v9.toNat, 0, 0, 0]
def k0_off8 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_11 : BitVec 32 := 0#32
  let c0_i32_12 : BitVec 32 := 0#32
  let c0_i32_13 : BitVec 32 := 0#32
  ![v9.toNat, 0, 0, 0]
def k0_cond2 (i : grid0.Coords) : BitVec 1 :=
  let arg0 : BitVec 32 := BitVec.ofNat 32 (i 0).val
  let c1_i32_17 : BitVec 32 := 1#32
  let v25 : BitVec 32 := Scalar.addi arg0 c1_i32_17
  let c32_i32 : BitVec 32 := 32#32
  let v26 : BitVec 1 := Scalar.cmpi .slt v25 c32_i32
  let v27 : BitVec 32 := Scalar.extui v26
  let c0_i32_18 : BitVec 32 := 0#32
  let v28 : BitVec 1 := Scalar.cmpi .ne v27 c0_i32_18
  v28

@[reducible] def k0_t2_loop : Scf.Loop 32 :=
  let c0_i32_57 : BitVec 32 := 0#32
  let c128_i32_58 : BitVec 32 := 128#32
  let v85 : BitVec 32 := Scalar.addi c0_i32_57 c128_i32_58
  let c1_i32_59 : BitVec 32 := 1#32
  ⟨c0_i32_57, v85, c1_i32_59⟩
def k0_off9 (i : grid0.Coords) (k0_t2 : Fin k0_t2_loop.trips) : Fin 1 → Nat :=
  let arg0 : BitVec 32 := BitVec.ofNat 32 (i 0).val
  let c1_i32_55 : BitVec 32 := 1#32
  let v83 : BitVec 32 := Scalar.addi arg0 c1_i32_55
  let c128_i32_61 : BitVec 32 := 128#32
  let v86 : BitVec 32 := Scalar.muli v83 c128_i32_61
  let c0_i32_57 : BitVec 32 := 0#32
  let c1_i32_59 : BitVec 32 := 1#32
  let arg17 : BitVec 32 := Scf.iv c0_i32_57 c1_i32_59 k0_t2
  let v87 : BitVec 32 := Scalar.addi v86 arg17
  let v88 : Index := Scalar.indexCast v87
  ![v88.toNat]
def k0_off10 (i : grid0.Coords) : Fin 1 → Nat :=
  let c1_i32_56 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v84 : BitVec 32 := Scalar.subi c1_i32_56 v9
  ![v84.toNat]
def k0_off11 (i : grid0.Coords) (k0_t2 : Fin k0_t2_loop.trips) : Fin 4 → Nat :=
  let c1_i32_56 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v84 : BitVec 32 := Scalar.subi c1_i32_56 v9
  let c0_i32_57 : BitVec 32 := 0#32
  let c1_i32_59 : BitVec 32 := 1#32
  let arg17 : BitVec 32 := Scf.iv c0_i32_57 c1_i32_59 k0_t2
  let c0_i32_62 : BitVec 32 := 0#32
  let c0_i32_63 : BitVec 32 := 0#32
  ![v84.toNat, arg17.toNat, 0, 0]
def k0_off12 (v89 : BitVec 32) : Fin 3 → Nat :=
  let c0_i32_64 : BitVec 32 := 0#32
  let c0_i32_65 : BitVec 32 := 0#32
  ![v89.toNat, 0, 0]

def k0_off13 (i : grid0.Coords) : Fin 1 → Nat :=
  let c1_i32_56 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v84 : BitVec 32 := Scalar.subi c1_i32_56 v9
  ![v84.toNat]
def k0_off14 (i : grid0.Coords) (k0_t2 : Fin k0_t2_loop.trips) : Fin 4 → Nat :=
  let c1_i32_56 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v84 : BitVec 32 := Scalar.subi c1_i32_56 v9
  let c0_i32_57 : BitVec 32 := 0#32
  let c1_i32_59 : BitVec 32 := 1#32
  let arg17 : BitVec 32 := Scf.iv c0_i32_57 c1_i32_59 k0_t2
  let c0_i32_66 : BitVec 32 := 0#32
  let c0_i32_67 : BitVec 32 := 0#32
  ![v84.toNat, arg17.toNat, 0, 0]
def k0_off15 (v89 : BitVec 32) : Fin 3 → Nat :=
  let c0_i32_68 : BitVec 32 := 0#32
  let c0_i32_69 : BitVec 32 := 0#32
  ![v89.toNat, 0, 0]

def k0_chk2 (i : grid0.Coords) (v89 : BitVec 32) : Prop :=
  (∀ (k0_h2 : k0_cond2 i = 1#1), ∀ a, (k0_off12 v89) a + S1x4x1024.size a ≤ S4096x4x1024.size a) ∧
  (∀ (k0_h2 : k0_cond2 i = 1#1), ∀ a, (k0_off15 v89) a + S1x1x1024.size a ≤ S4096x1x1024.size a)
theorem k0_off12_inb : ∀ (i : grid0.Coords) (v89 : BitVec 32) (k0_hw2 : k0_chk2 i v89), ∀ (k0_h2 : k0_cond2 i = 1#1), ∀ a, (k0_off12 v89) a + S1x4x1024.size a ≤ S4096x4x1024.size a := fun i v89 k0_hw2 k0_h2 => k0_hw2.1 k0_h2
theorem k0_off15_inb : ∀ (i : grid0.Coords) (v89 : BitVec 32) (k0_hw2 : k0_chk2 i v89), ∀ (k0_h2 : k0_cond2 i = 1#1), ∀ a, (k0_off15 v89) a + S1x1x1024.size a ≤ S4096x1x1024.size a := fun i v89 k0_hw2 k0_h2 => k0_hw2.2 k0_h2

def k0_off16 (i : grid0.Coords) : Fin 1 → Nat :=
  let arg0 : BitVec 32 := BitVec.ofNat 32 (i 0).val
  let c128_i32 : BitVec 32 := 128#32
  let v32 : BitVec 32 := Scalar.muli arg0 c128_i32
  let c128_i32_21 : BitVec 32 := 128#32
  let v33 : BitVec 32 := Scalar.addi v32 c128_i32_21
  let c1_i32_22 : BitVec 32 := 1#32
  let v34 : BitVec 32 := Scalar.subi v33 c1_i32_22
  let v35 : Index := Scalar.indexCast v34
  ![v35.toNat]
@[reducible] def k0_t3_loop (v36 : BitVec 32) : Scf.Loop 32 :=
  let c0_i32_24 : BitVec 32 := 0#32
  let c127_i32 : BitVec 32 := 127#32
  let v37 : BitVec 32 := Scalar.addi v36 c127_i32
  let c128_i32_23 : BitVec 32 := 128#32
  let v38 : BitVec 32 := Scalar.divsi v37 c128_i32_23
  let v39 : BitVec 32 := Scalar.subi v38 c0_i32_24
  let c1_i32_26 : BitVec 32 := 1#32
  let v41 : BitVec 32 := Scalar.divsi v39 c1_i32_26
  let v42 : BitVec 32 := Scalar.muli v41 c1_i32_26
  let v43 : BitVec 32 := Scalar.addi c0_i32_24 v42
  let c1_i32_27 : BitVec 32 := 1#32
  ⟨c0_i32_24, v43, c1_i32_27⟩

def k0_mult1 (v36 : BitVec 32) (k0_t3 : Fin (k0_t3_loop v36).trips) : BitVec 32 :=
  let c0_i32_24 : BitVec 32 := 0#32
  let c1_i32_27 : BitVec 32 := 1#32
  let arg17 : BitVec 32 := Scf.iv c0_i32_24 c1_i32_27 k0_t3
  let c128_i32_55 : BitVec 32 := 128#32
  let v83 : BitVec 32 := Scalar.muli arg17 c128_i32_55
  v83
def k0_off17 (i : grid0.Coords) (v36 : BitVec 32) (k0_t3 : Fin (k0_t3_loop v36).trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v90 : Index := Scalar.indexCast v9
  let c0_56 : Index := 0#32
  let c0_57 : Index := 0#32
  let c0_i32_24 : BitVec 32 := 0#32
  let c1_i32_27 : BitVec 32 := 1#32
  let arg17 : BitVec 32 := Scf.iv c0_i32_24 c1_i32_27 k0_t3
  let c128_i32_55 : BitVec 32 := 128#32
  let v83 : BitVec 32 := Scalar.muli arg17 c128_i32_55
  let v84 : BitVec 32 := v83
  let v91 : Index := Scalar.indexCast v84
  ![v90.toNat, 0, 0, v91.toNat]
def k0_off18 (v36 : BitVec 32) (k0_t3 : Fin (k0_t3_loop v36).trips) : Fin 2 → Nat :=
  let c0_i32_24 : BitVec 32 := 0#32
  let c1_i32_27 : BitVec 32 := 1#32
  let arg17 : BitVec 32 := Scf.iv c0_i32_24 c1_i32_27 k0_t3
  let c128_i32_55 : BitVec 32 := 128#32
  let v83 : BitVec 32 := Scalar.muli arg17 c128_i32_55
  let v84 : BitVec 32 := v83
  let v95 : Index := Scalar.indexCast v84
  let c0_58 : Index := 0#32
  ![v95.toNat, 0]
def k0_off19 (i : grid0.Coords) (v36 : BitVec 32) (k0_t3 : Fin (k0_t3_loop v36).trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v107 : Index := Scalar.indexCast v9
  let c0_62 : Index := 0#32
  let c0_63 : Index := 0#32
  let c0_i32_24 : BitVec 32 := 0#32
  let c1_i32_27 : BitVec 32 := 1#32
  let arg17 : BitVec 32 := Scf.iv c0_i32_24 c1_i32_27 k0_t3
  let c128_i32_55 : BitVec 32 := 128#32
  let v83 : BitVec 32 := Scalar.muli arg17 c128_i32_55
  let v84 : BitVec 32 := v83
  let v108 : Index := Scalar.indexCast v84
  ![v107.toNat, 0, 0, v108.toNat]
def k0_off20 (v36 : BitVec 32) (k0_t3 : Fin (k0_t3_loop v36).trips) : Fin 3 → Nat :=
  let c0_64 : Index := 0#32
  let c0_i32_24 : BitVec 32 := 0#32
  let c1_i32_27 : BitVec 32 := 1#32
  let arg17 : BitVec 32 := Scf.iv c0_i32_24 c1_i32_27 k0_t3
  let c128_i32_55 : BitVec 32 := 128#32
  let v83 : BitVec 32 := Scalar.muli arg17 c128_i32_55
  let v84 : BitVec 32 := v83
  let v112 : Index := Scalar.indexCast v84
  let c0_65 : Index := 0#32
  ![0, v112.toNat, 0]
def k0_off21 (i : grid0.Coords) (v36 : BitVec 32) (k0_t3 : Fin (k0_t3_loop v36).trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v125 : Index := Scalar.indexCast v9
  let c0_71 : Index := 0#32
  let c1 : Index := 1#32
  let c0_i32_24 : BitVec 32 := 0#32
  let c1_i32_27 : BitVec 32 := 1#32
  let arg17 : BitVec 32 := Scf.iv c0_i32_24 c1_i32_27 k0_t3
  let c128_i32_55 : BitVec 32 := 128#32
  let v83 : BitVec 32 := Scalar.muli arg17 c128_i32_55
  let v84 : BitVec 32 := v83
  let v126 : Index := Scalar.indexCast v84
  ![v125.toNat, 0, 1, v126.toNat]
def k0_off22 (v36 : BitVec 32) (k0_t3 : Fin (k0_t3_loop v36).trips) : Fin 3 → Nat :=
  let c1_72 : Index := 1#32
  let c0_i32_24 : BitVec 32 := 0#32
  let c1_i32_27 : BitVec 32 := 1#32
  let arg17 : BitVec 32 := Scf.iv c0_i32_24 c1_i32_27 k0_t3
  let c128_i32_55 : BitVec 32 := 128#32
  let v83 : BitVec 32 := Scalar.muli arg17 c128_i32_55
  let v84 : BitVec 32 := v83
  let v130 : Index := Scalar.indexCast v84
  let c0_73 : Index := 0#32
  ![1, v130.toNat, 0]
def k0_off23 (i : grid0.Coords) (v36 : BitVec 32) (k0_t3 : Fin (k0_t3_loop v36).trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v143 : Index := Scalar.indexCast v9
  let c0_79 : Index := 0#32
  let c2 : Index := 2#32
  let c0_i32_24 : BitVec 32 := 0#32
  let c1_i32_27 : BitVec 32 := 1#32
  let arg17 : BitVec 32 := Scf.iv c0_i32_24 c1_i32_27 k0_t3
  let c128_i32_55 : BitVec 32 := 128#32
  let v83 : BitVec 32 := Scalar.muli arg17 c128_i32_55
  let v84 : BitVec 32 := v83
  let v144 : Index := Scalar.indexCast v84
  ![v143.toNat, 0, 2, v144.toNat]
def k0_off24 (v36 : BitVec 32) (k0_t3 : Fin (k0_t3_loop v36).trips) : Fin 3 → Nat :=
  let c2_80 : Index := 2#32
  let c0_i32_24 : BitVec 32 := 0#32
  let c1_i32_27 : BitVec 32 := 1#32
  let arg17 : BitVec 32 := Scf.iv c0_i32_24 c1_i32_27 k0_t3
  let c128_i32_55 : BitVec 32 := 128#32
  let v83 : BitVec 32 := Scalar.muli arg17 c128_i32_55
  let v84 : BitVec 32 := v83
  let v148 : Index := Scalar.indexCast v84
  let c0_81 : Index := 0#32
  ![2, v148.toNat, 0]
def k0_off25 (i : grid0.Coords) (v36 : BitVec 32) (k0_t3 : Fin (k0_t3_loop v36).trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v161 : Index := Scalar.indexCast v9
  let c0_87 : Index := 0#32
  let c3 : Index := 3#32
  let c0_i32_24 : BitVec 32 := 0#32
  let c1_i32_27 : BitVec 32 := 1#32
  let arg17 : BitVec 32 := Scf.iv c0_i32_24 c1_i32_27 k0_t3
  let c128_i32_55 : BitVec 32 := 128#32
  let v83 : BitVec 32 := Scalar.muli arg17 c128_i32_55
  let v84 : BitVec 32 := v83
  let v162 : Index := Scalar.indexCast v84
  ![v161.toNat, 0, 3, v162.toNat]
def k0_off26 (v36 : BitVec 32) (k0_t3 : Fin (k0_t3_loop v36).trips) : Fin 3 → Nat :=
  let c3_88 : Index := 3#32
  let c0_i32_24 : BitVec 32 := 0#32
  let c1_i32_27 : BitVec 32 := 1#32
  let arg17 : BitVec 32 := Scf.iv c0_i32_24 c1_i32_27 k0_t3
  let c128_i32_55 : BitVec 32 := 128#32
  let v83 : BitVec 32 := Scalar.muli arg17 c128_i32_55
  let v84 : BitVec 32 := v83
  let v166 : Index := Scalar.indexCast v84
  let c0_89 : Index := 0#32
  ![3, v166.toNat, 0]
@[reducible] def k0_t4_loop (v36 : BitVec 32) : Scf.Loop 32 :=
  let c0_i32_24 : BitVec 32 := 0#32
  let c127_i32 : BitVec 32 := 127#32
  let v37 : BitVec 32 := Scalar.addi v36 c127_i32
  let c128_i32_23 : BitVec 32 := 128#32
  let v38 : BitVec 32 := Scalar.divsi v37 c128_i32_23
  let v39 : BitVec 32 := Scalar.subi v38 c0_i32_24
  let c1_i32_26 : BitVec 32 := 1#32
  let v41 : BitVec 32 := Scalar.divsi v39 c1_i32_26
  let v42 : BitVec 32 := Scalar.muli v41 c1_i32_26
  let v43 : BitVec 32 := Scalar.addi c0_i32_24 v42
  let v40 : BitVec 32 := Scalar.addi c0_i32_24 v39
  let c1_i32_28 : BitVec 32 := 1#32
  ⟨v43, v40, c1_i32_28⟩
def k0_mult2 (v36 : BitVec 32) (k0_t4 : Fin (k0_t4_loop v36).trips) : BitVec 32 :=
  let c0_i32_24 : BitVec 32 := 0#32
  let c127_i32 : BitVec 32 := 127#32
  let v37 : BitVec 32 := Scalar.addi v36 c127_i32
  let c128_i32_23 : BitVec 32 := 128#32
  let v38 : BitVec 32 := Scalar.divsi v37 c128_i32_23
  let v39 : BitVec 32 := Scalar.subi v38 c0_i32_24
  let c1_i32_26 : BitVec 32 := 1#32
  let v41 : BitVec 32 := Scalar.divsi v39 c1_i32_26
  let v42 : BitVec 32 := Scalar.muli v41 c1_i32_26
  let v43 : BitVec 32 := Scalar.addi c0_i32_24 v42
  let c1_i32_28 : BitVec 32 := 1#32
  let arg17 : BitVec 32 := Scf.iv v43 c1_i32_28 k0_t4
  let c128_i32_55 : BitVec 32 := 128#32
  let v83 : BitVec 32 := Scalar.muli arg17 c128_i32_55
  v83
def k0_off27 (i : grid0.Coords) (v36 : BitVec 32) (k0_t4 : Fin (k0_t4_loop v36).trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v90 : Index := Scalar.indexCast v9
  let c0_56 : Index := 0#32
  let c0_57 : Index := 0#32
  let c0_i32_24 : BitVec 32 := 0#32
  let c127_i32 : BitVec 32 := 127#32
  let v37 : BitVec 32 := Scalar.addi v36 c127_i32
  let c128_i32_23 : BitVec 32 := 128#32
  let v38 : BitVec 32 := Scalar.divsi v37 c128_i32_23
  let v39 : BitVec 32 := Scalar.subi v38 c0_i32_24
  let c1_i32_26 : BitVec 32 := 1#32
  let v41 : BitVec 32 := Scalar.divsi v39 c1_i32_26
  let v42 : BitVec 32 := Scalar.muli v41 c1_i32_26
  let v43 : BitVec 32 := Scalar.addi c0_i32_24 v42
  let c1_i32_28 : BitVec 32 := 1#32
  let arg17 : BitVec 32 := Scf.iv v43 c1_i32_28 k0_t4
  let c128_i32_55 : BitVec 32 := 128#32
  let v83 : BitVec 32 := Scalar.muli arg17 c128_i32_55
  let v84 : BitVec 32 := v83
  let v91 : Index := Scalar.indexCast v84
  ![v90.toNat, 0, 0, v91.toNat]
def k0_off28 (v36 : BitVec 32) (k0_t4 : Fin (k0_t4_loop v36).trips) : Fin 2 → Nat :=
  let c0_i32_24 : BitVec 32 := 0#32
  let c127_i32 : BitVec 32 := 127#32
  let v37 : BitVec 32 := Scalar.addi v36 c127_i32
  let c128_i32_23 : BitVec 32 := 128#32
  let v38 : BitVec 32 := Scalar.divsi v37 c128_i32_23
  let v39 : BitVec 32 := Scalar.subi v38 c0_i32_24
  let c1_i32_26 : BitVec 32 := 1#32
  let v41 : BitVec 32 := Scalar.divsi v39 c1_i32_26
  let v42 : BitVec 32 := Scalar.muli v41 c1_i32_26
  let v43 : BitVec 32 := Scalar.addi c0_i32_24 v42
  let c1_i32_28 : BitVec 32 := 1#32
  let arg17 : BitVec 32 := Scf.iv v43 c1_i32_28 k0_t4
  let c128_i32_55 : BitVec 32 := 128#32
  let v83 : BitVec 32 := Scalar.muli arg17 c128_i32_55
  let v84 : BitVec 32 := v83
  let v95 : Index := Scalar.indexCast v84
  let c0_58 : Index := 0#32
  ![v95.toNat, 0]
def k0_off29 (i : grid0.Coords) (v36 : BitVec 32) (k0_t4 : Fin (k0_t4_loop v36).trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v107 : Index := Scalar.indexCast v9
  let c0_62 : Index := 0#32
  let c0_63 : Index := 0#32
  let c0_i32_24 : BitVec 32 := 0#32
  let c127_i32 : BitVec 32 := 127#32
  let v37 : BitVec 32 := Scalar.addi v36 c127_i32
  let c128_i32_23 : BitVec 32 := 128#32
  let v38 : BitVec 32 := Scalar.divsi v37 c128_i32_23
  let v39 : BitVec 32 := Scalar.subi v38 c0_i32_24
  let c1_i32_26 : BitVec 32 := 1#32
  let v41 : BitVec 32 := Scalar.divsi v39 c1_i32_26
  let v42 : BitVec 32 := Scalar.muli v41 c1_i32_26
  let v43 : BitVec 32 := Scalar.addi c0_i32_24 v42
  let c1_i32_28 : BitVec 32 := 1#32
  let arg17 : BitVec 32 := Scf.iv v43 c1_i32_28 k0_t4
  let c128_i32_55 : BitVec 32 := 128#32
  let v83 : BitVec 32 := Scalar.muli arg17 c128_i32_55
  let v84 : BitVec 32 := v83
  let v108 : Index := Scalar.indexCast v84
  ![v107.toNat, 0, 0, v108.toNat]
def k0_off30 (v36 : BitVec 32) (k0_t4 : Fin (k0_t4_loop v36).trips) : Fin 3 → Nat :=
  let c0_64 : Index := 0#32
  let c0_i32_24 : BitVec 32 := 0#32
  let c127_i32 : BitVec 32 := 127#32
  let v37 : BitVec 32 := Scalar.addi v36 c127_i32
  let c128_i32_23 : BitVec 32 := 128#32
  let v38 : BitVec 32 := Scalar.divsi v37 c128_i32_23
  let v39 : BitVec 32 := Scalar.subi v38 c0_i32_24
  let c1_i32_26 : BitVec 32 := 1#32
  let v41 : BitVec 32 := Scalar.divsi v39 c1_i32_26
  let v42 : BitVec 32 := Scalar.muli v41 c1_i32_26
  let v43 : BitVec 32 := Scalar.addi c0_i32_24 v42
  let c1_i32_28 : BitVec 32 := 1#32
  let arg17 : BitVec 32 := Scf.iv v43 c1_i32_28 k0_t4
  let c128_i32_55 : BitVec 32 := 128#32
  let v83 : BitVec 32 := Scalar.muli arg17 c128_i32_55
  let v84 : BitVec 32 := v83
  let v112 : Index := Scalar.indexCast v84
  let c0_65 : Index := 0#32
  ![0, v112.toNat, 0]
def k0_off31 (i : grid0.Coords) (v36 : BitVec 32) (k0_t4 : Fin (k0_t4_loop v36).trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v125 : Index := Scalar.indexCast v9
  let c0_71 : Index := 0#32
  let c1 : Index := 1#32
  let c0_i32_24 : BitVec 32 := 0#32
  let c127_i32 : BitVec 32 := 127#32
  let v37 : BitVec 32 := Scalar.addi v36 c127_i32
  let c128_i32_23 : BitVec 32 := 128#32
  let v38 : BitVec 32 := Scalar.divsi v37 c128_i32_23
  let v39 : BitVec 32 := Scalar.subi v38 c0_i32_24
  let c1_i32_26 : BitVec 32 := 1#32
  let v41 : BitVec 32 := Scalar.divsi v39 c1_i32_26
  let v42 : BitVec 32 := Scalar.muli v41 c1_i32_26
  let v43 : BitVec 32 := Scalar.addi c0_i32_24 v42
  let c1_i32_28 : BitVec 32 := 1#32
  let arg17 : BitVec 32 := Scf.iv v43 c1_i32_28 k0_t4
  let c128_i32_55 : BitVec 32 := 128#32
  let v83 : BitVec 32 := Scalar.muli arg17 c128_i32_55
  let v84 : BitVec 32 := v83
  let v126 : Index := Scalar.indexCast v84
  ![v125.toNat, 0, 1, v126.toNat]
def k0_off32 (v36 : BitVec 32) (k0_t4 : Fin (k0_t4_loop v36).trips) : Fin 3 → Nat :=
  let c1_72 : Index := 1#32
  let c0_i32_24 : BitVec 32 := 0#32
  let c127_i32 : BitVec 32 := 127#32
  let v37 : BitVec 32 := Scalar.addi v36 c127_i32
  let c128_i32_23 : BitVec 32 := 128#32
  let v38 : BitVec 32 := Scalar.divsi v37 c128_i32_23
  let v39 : BitVec 32 := Scalar.subi v38 c0_i32_24
  let c1_i32_26 : BitVec 32 := 1#32
  let v41 : BitVec 32 := Scalar.divsi v39 c1_i32_26
  let v42 : BitVec 32 := Scalar.muli v41 c1_i32_26
  let v43 : BitVec 32 := Scalar.addi c0_i32_24 v42
  let c1_i32_28 : BitVec 32 := 1#32
  let arg17 : BitVec 32 := Scf.iv v43 c1_i32_28 k0_t4
  let c128_i32_55 : BitVec 32 := 128#32
  let v83 : BitVec 32 := Scalar.muli arg17 c128_i32_55
  let v84 : BitVec 32 := v83
  let v130 : Index := Scalar.indexCast v84
  let c0_73 : Index := 0#32
  ![1, v130.toNat, 0]
def k0_off33 (i : grid0.Coords) (v36 : BitVec 32) (k0_t4 : Fin (k0_t4_loop v36).trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v143 : Index := Scalar.indexCast v9
  let c0_79 : Index := 0#32
  let c2 : Index := 2#32
  let c0_i32_24 : BitVec 32 := 0#32
  let c127_i32 : BitVec 32 := 127#32
  let v37 : BitVec 32 := Scalar.addi v36 c127_i32
  let c128_i32_23 : BitVec 32 := 128#32
  let v38 : BitVec 32 := Scalar.divsi v37 c128_i32_23
  let v39 : BitVec 32 := Scalar.subi v38 c0_i32_24
  let c1_i32_26 : BitVec 32 := 1#32
  let v41 : BitVec 32 := Scalar.divsi v39 c1_i32_26
  let v42 : BitVec 32 := Scalar.muli v41 c1_i32_26
  let v43 : BitVec 32 := Scalar.addi c0_i32_24 v42
  let c1_i32_28 : BitVec 32 := 1#32
  let arg17 : BitVec 32 := Scf.iv v43 c1_i32_28 k0_t4
  let c128_i32_55 : BitVec 32 := 128#32
  let v83 : BitVec 32 := Scalar.muli arg17 c128_i32_55
  let v84 : BitVec 32 := v83
  let v144 : Index := Scalar.indexCast v84
  ![v143.toNat, 0, 2, v144.toNat]
def k0_off34 (v36 : BitVec 32) (k0_t4 : Fin (k0_t4_loop v36).trips) : Fin 3 → Nat :=
  let c2_80 : Index := 2#32
  let c0_i32_24 : BitVec 32 := 0#32
  let c127_i32 : BitVec 32 := 127#32
  let v37 : BitVec 32 := Scalar.addi v36 c127_i32
  let c128_i32_23 : BitVec 32 := 128#32
  let v38 : BitVec 32 := Scalar.divsi v37 c128_i32_23
  let v39 : BitVec 32 := Scalar.subi v38 c0_i32_24
  let c1_i32_26 : BitVec 32 := 1#32
  let v41 : BitVec 32 := Scalar.divsi v39 c1_i32_26
  let v42 : BitVec 32 := Scalar.muli v41 c1_i32_26
  let v43 : BitVec 32 := Scalar.addi c0_i32_24 v42
  let c1_i32_28 : BitVec 32 := 1#32
  let arg17 : BitVec 32 := Scf.iv v43 c1_i32_28 k0_t4
  let c128_i32_55 : BitVec 32 := 128#32
  let v83 : BitVec 32 := Scalar.muli arg17 c128_i32_55
  let v84 : BitVec 32 := v83
  let v148 : Index := Scalar.indexCast v84
  let c0_81 : Index := 0#32
  ![2, v148.toNat, 0]
def k0_off35 (i : grid0.Coords) (v36 : BitVec 32) (k0_t4 : Fin (k0_t4_loop v36).trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v161 : Index := Scalar.indexCast v9
  let c0_87 : Index := 0#32
  let c3 : Index := 3#32
  let c0_i32_24 : BitVec 32 := 0#32
  let c127_i32 : BitVec 32 := 127#32
  let v37 : BitVec 32 := Scalar.addi v36 c127_i32
  let c128_i32_23 : BitVec 32 := 128#32
  let v38 : BitVec 32 := Scalar.divsi v37 c128_i32_23
  let v39 : BitVec 32 := Scalar.subi v38 c0_i32_24
  let c1_i32_26 : BitVec 32 := 1#32
  let v41 : BitVec 32 := Scalar.divsi v39 c1_i32_26
  let v42 : BitVec 32 := Scalar.muli v41 c1_i32_26
  let v43 : BitVec 32 := Scalar.addi c0_i32_24 v42
  let c1_i32_28 : BitVec 32 := 1#32
  let arg17 : BitVec 32 := Scf.iv v43 c1_i32_28 k0_t4
  let c128_i32_55 : BitVec 32 := 128#32
  let v83 : BitVec 32 := Scalar.muli arg17 c128_i32_55
  let v84 : BitVec 32 := v83
  let v162 : Index := Scalar.indexCast v84
  ![v161.toNat, 0, 3, v162.toNat]
def k0_off36 (v36 : BitVec 32) (k0_t4 : Fin (k0_t4_loop v36).trips) : Fin 3 → Nat :=
  let c3_88 : Index := 3#32
  let c0_i32_24 : BitVec 32 := 0#32
  let c127_i32 : BitVec 32 := 127#32
  let v37 : BitVec 32 := Scalar.addi v36 c127_i32
  let c128_i32_23 : BitVec 32 := 128#32
  let v38 : BitVec 32 := Scalar.divsi v37 c128_i32_23
  let v39 : BitVec 32 := Scalar.subi v38 c0_i32_24
  let c1_i32_26 : BitVec 32 := 1#32
  let v41 : BitVec 32 := Scalar.divsi v39 c1_i32_26
  let v42 : BitVec 32 := Scalar.muli v41 c1_i32_26
  let v43 : BitVec 32 := Scalar.addi c0_i32_24 v42
  let c1_i32_28 : BitVec 32 := 1#32
  let arg17 : BitVec 32 := Scf.iv v43 c1_i32_28 k0_t4
  let c128_i32_55 : BitVec 32 := 128#32
  let v83 : BitVec 32 := Scalar.muli arg17 c128_i32_55
  let v84 : BitVec 32 := v83
  let v166 : Index := Scalar.indexCast v84
  let c0_89 : Index := 0#32
  ![3, v166.toNat, 0]
@[reducible] def k0_t5_loop (v46 : BitVec 32) : Scf.Loop 32 :=
  let c0_i32_30 : BitVec 32 := 0#32
  let c255_i32 : BitVec 32 := 255#32
  let v47 : BitVec 32 := Scalar.addi v46 c255_i32
  let c256_i32 : BitVec 32 := 256#32
  let v48 : BitVec 32 := Scalar.divsi v47 c256_i32
  let v49 : BitVec 32 := Scalar.subi v48 c0_i32_30
  let c1_i32_32 : BitVec 32 := 1#32
  let v51 : BitVec 32 := Scalar.divsi v49 c1_i32_32
  let v52 : BitVec 32 := Scalar.muli v51 c1_i32_32
  let v53 : BitVec 32 := Scalar.addi c0_i32_30 v52
  let c1_i32_33 : BitVec 32 := 1#32
  ⟨c0_i32_30, v53, c1_i32_33⟩

def k0_mult3 (v46 : BitVec 32) (k0_t5 : Fin (k0_t5_loop v46).trips) : BitVec 32 :=
  let c0_i32_30 : BitVec 32 := 0#32
  let c1_i32_33 : BitVec 32 := 1#32
  let arg17 : BitVec 32 := Scf.iv c0_i32_30 c1_i32_33 k0_t5
  let c256_i32_55 : BitVec 32 := 256#32
  let v84 : BitVec 32 := Scalar.muli arg17 c256_i32_55
  v84
def k0_off37 (v46 : BitVec 32) (k0_t5 : Fin (k0_t5_loop v46).trips) : Fin 2 → Nat :=
  let c0_i32_30 : BitVec 32 := 0#32
  let c1_i32_33 : BitVec 32 := 1#32
  let arg17 : BitVec 32 := Scf.iv c0_i32_30 c1_i32_33 k0_t5
  let c256_i32_55 : BitVec 32 := 256#32
  let v84 : BitVec 32 := Scalar.muli arg17 c256_i32_55
  let v85 : BitVec 32 := v84
  let v86 : Index := Scalar.indexCast v85
  let c0_56 : Index := 0#32
  ![v86.toNat, 0]
@[reducible] def k0_t6_loop (v46 : BitVec 32) : Scf.Loop 32 :=
  let c0_i32_30 : BitVec 32 := 0#32
  let c255_i32 : BitVec 32 := 255#32
  let v47 : BitVec 32 := Scalar.addi v46 c255_i32
  let c256_i32 : BitVec 32 := 256#32
  let v48 : BitVec 32 := Scalar.divsi v47 c256_i32
  let v49 : BitVec 32 := Scalar.subi v48 c0_i32_30
  let c1_i32_32 : BitVec 32 := 1#32
  let v51 : BitVec 32 := Scalar.divsi v49 c1_i32_32
  let v52 : BitVec 32 := Scalar.muli v51 c1_i32_32
  let v53 : BitVec 32 := Scalar.addi c0_i32_30 v52
  let v50 : BitVec 32 := Scalar.addi c0_i32_30 v49
  let c1_i32_34 : BitVec 32 := 1#32
  ⟨v53, v50, c1_i32_34⟩
def k0_mult4 (v46 : BitVec 32) (k0_t6 : Fin (k0_t6_loop v46).trips) : BitVec 32 :=
  let c0_i32_30 : BitVec 32 := 0#32
  let c255_i32 : BitVec 32 := 255#32
  let v47 : BitVec 32 := Scalar.addi v46 c255_i32
  let c256_i32 : BitVec 32 := 256#32
  let v48 : BitVec 32 := Scalar.divsi v47 c256_i32
  let v49 : BitVec 32 := Scalar.subi v48 c0_i32_30
  let c1_i32_32 : BitVec 32 := 1#32
  let v51 : BitVec 32 := Scalar.divsi v49 c1_i32_32
  let v52 : BitVec 32 := Scalar.muli v51 c1_i32_32
  let v53 : BitVec 32 := Scalar.addi c0_i32_30 v52
  let c1_i32_34 : BitVec 32 := 1#32
  let arg17 : BitVec 32 := Scf.iv v53 c1_i32_34 k0_t6
  let c256_i32_55 : BitVec 32 := 256#32
  let v84 : BitVec 32 := Scalar.muli arg17 c256_i32_55
  v84
def k0_off38 (v46 : BitVec 32) (k0_t6 : Fin (k0_t6_loop v46).trips) : Fin 2 → Nat :=
  let c0_i32_30 : BitVec 32 := 0#32
  let c255_i32 : BitVec 32 := 255#32
  let v47 : BitVec 32 := Scalar.addi v46 c255_i32
  let c256_i32 : BitVec 32 := 256#32
  let v48 : BitVec 32 := Scalar.divsi v47 c256_i32
  let v49 : BitVec 32 := Scalar.subi v48 c0_i32_30
  let c1_i32_32 : BitVec 32 := 1#32
  let v51 : BitVec 32 := Scalar.divsi v49 c1_i32_32
  let v52 : BitVec 32 := Scalar.muli v51 c1_i32_32
  let v53 : BitVec 32 := Scalar.addi c0_i32_30 v52
  let c1_i32_34 : BitVec 32 := 1#32
  let arg17 : BitVec 32 := Scf.iv v53 c1_i32_34 k0_t6
  let c256_i32_55 : BitVec 32 := 256#32
  let v84 : BitVec 32 := Scalar.muli arg17 c256_i32_55
  let v85 : BitVec 32 := v84
  let v86 : Index := Scalar.indexCast v85
  let c0_56 : Index := 0#32
  ![v86.toNat, 0]
@[reducible] def k0_t7_loop (v36 : BitVec 32) : Scf.Loop 32 :=
  let c0_i32_35 : BitVec 32 := 0#32
  let c3_i32 : BitVec 32 := 3#32
  let v57 : BitVec 32 := Scalar.addi v36 c3_i32
  let c4_i32 : BitVec 32 := 4#32
  let v58 : BitVec 32 := Scalar.divsi v57 c4_i32
  let v59 : BitVec 32 := Scalar.subi v58 c0_i32_35
  let c1_i32_37 : BitVec 32 := 1#32
  let v61 : BitVec 32 := Scalar.divsi v59 c1_i32_37
  let v62 : BitVec 32 := Scalar.muli v61 c1_i32_37
  let v63 : BitVec 32 := Scalar.addi c0_i32_35 v62
  let c1_i32_38 : BitVec 32 := 1#32
  ⟨c0_i32_35, v63, c1_i32_38⟩
def k0_off39 (v36 : BitVec 32) (k0_t7 : Fin (k0_t7_loop v36).trips) (c0_i32_56 : BitVec 32) : Fin 3 → Nat :=
  let c0_57 : Index := 0#32
  let c0_i32_35 : BitVec 32 := 0#32
  let c1_i32_38 : BitVec 32 := 1#32
  let arg17 : BitVec 32 := Scf.iv c0_i32_35 c1_i32_38 k0_t7
  let c4_i32_55 : BitVec 32 := 4#32
  let v83 : BitVec 32 := Scalar.muli arg17 c4_i32_55
  let v84 : BitVec 32 := Scalar.addi v83 c0_i32_56
  let v85 : Index := Scalar.indexCast v84
  let c0_58 : Index := 0#32
  ![0, v85.toNat, 0]
def k0_off40 (v36 : BitVec 32) (k0_t7 : Fin (k0_t7_loop v36).trips) (c0_i32_56 : BitVec 32) : Fin 3 → Nat :=
  let c1 : Index := 1#32
  let c0_i32_35 : BitVec 32 := 0#32
  let c1_i32_38 : BitVec 32 := 1#32
  let arg17 : BitVec 32 := Scf.iv c0_i32_35 c1_i32_38 k0_t7
  let c4_i32_55 : BitVec 32 := 4#32
  let v83 : BitVec 32 := Scalar.muli arg17 c4_i32_55
  let v84 : BitVec 32 := Scalar.addi v83 c0_i32_56
  let v96 : Index := Scalar.indexCast v84
  let c0_59 : Index := 0#32
  ![1, v96.toNat, 0]
def k0_off41 (v36 : BitVec 32) (k0_t7 : Fin (k0_t7_loop v36).trips) (c0_i32_56 : BitVec 32) : Fin 3 → Nat :=
  let c2 : Index := 2#32
  let c0_i32_35 : BitVec 32 := 0#32
  let c1_i32_38 : BitVec 32 := 1#32
  let arg17 : BitVec 32 := Scf.iv c0_i32_35 c1_i32_38 k0_t7
  let c4_i32_55 : BitVec 32 := 4#32
  let v83 : BitVec 32 := Scalar.muli arg17 c4_i32_55
  let v84 : BitVec 32 := Scalar.addi v83 c0_i32_56
  let v107 : Index := Scalar.indexCast v84
  let c0_62 : Index := 0#32
  ![2, v107.toNat, 0]
def k0_off42 (v36 : BitVec 32) (k0_t7 : Fin (k0_t7_loop v36).trips) (c0_i32_56 : BitVec 32) : Fin 3 → Nat :=
  let c3 : Index := 3#32
  let c0_i32_35 : BitVec 32 := 0#32
  let c1_i32_38 : BitVec 32 := 1#32
  let arg17 : BitVec 32 := Scf.iv c0_i32_35 c1_i32_38 k0_t7
  let c4_i32_55 : BitVec 32 := 4#32
  let v83 : BitVec 32 := Scalar.muli arg17 c4_i32_55
  let v84 : BitVec 32 := Scalar.addi v83 c0_i32_56
  let v118 : Index := Scalar.indexCast v84
  let c0_65 : Index := 0#32
  ![3, v118.toNat, 0]
def k0_off43 (v36 : BitVec 32) (k0_t7 : Fin (k0_t7_loop v36).trips) (c0_i32_68 : BitVec 32) : Fin 3 → Nat :=
  let c0_70 : Index := 0#32
  let c0_i32_35 : BitVec 32 := 0#32
  let c1_i32_38 : BitVec 32 := 1#32
  let arg17 : BitVec 32 := Scf.iv c0_i32_35 c1_i32_38 k0_t7
  let c4_i32_55 : BitVec 32 := 4#32
  let v83 : BitVec 32 := Scalar.muli arg17 c4_i32_55
  let v130 : BitVec 32 := Scalar.addi v83 c0_i32_68
  let c1_i32_69 : BitVec 32 := 1#32
  let v131 : BitVec 32 := Scalar.addi v130 c1_i32_69
  let v132 : Index := Scalar.indexCast v131
  let c0_71 : Index := 0#32
  ![0, v132.toNat, 0]
def k0_off44 (v36 : BitVec 32) (k0_t7 : Fin (k0_t7_loop v36).trips) (c0_i32_68 : BitVec 32) : Fin 3 → Nat :=
  let c1_74 : Index := 1#32
  let c0_i32_35 : BitVec 32 := 0#32
  let c1_i32_38 : BitVec 32 := 1#32
  let arg17 : BitVec 32 := Scf.iv c0_i32_35 c1_i32_38 k0_t7
  let c4_i32_55 : BitVec 32 := 4#32
  let v83 : BitVec 32 := Scalar.muli arg17 c4_i32_55
  let v130 : BitVec 32 := Scalar.addi v83 c0_i32_68
  let c1_i32_69 : BitVec 32 := 1#32
  let v131 : BitVec 32 := Scalar.addi v130 c1_i32_69
  let v143 : Index := Scalar.indexCast v131
  let c0_75 : Index := 0#32
  ![1, v143.toNat, 0]
def k0_off45 (v36 : BitVec 32) (k0_t7 : Fin (k0_t7_loop v36).trips) (c0_i32_68 : BitVec 32) : Fin 3 → Nat :=
  let c2_78 : Index := 2#32
  let c0_i32_35 : BitVec 32 := 0#32
  let c1_i32_38 : BitVec 32 := 1#32
  let arg17 : BitVec 32 := Scf.iv c0_i32_35 c1_i32_38 k0_t7
  let c4_i32_55 : BitVec 32 := 4#32
  let v83 : BitVec 32 := Scalar.muli arg17 c4_i32_55
  let v130 : BitVec 32 := Scalar.addi v83 c0_i32_68
  let c1_i32_69 : BitVec 32 := 1#32
  let v131 : BitVec 32 := Scalar.addi v130 c1_i32_69
  let v154 : Index := Scalar.indexCast v131
  let c0_79 : Index := 0#32
  ![2, v154.toNat, 0]
def k0_off46 (v36 : BitVec 32) (k0_t7 : Fin (k0_t7_loop v36).trips) (c0_i32_68 : BitVec 32) : Fin 3 → Nat :=
  let c3_82 : Index := 3#32
  let c0_i32_35 : BitVec 32 := 0#32
  let c1_i32_38 : BitVec 32 := 1#32
  let arg17 : BitVec 32 := Scf.iv c0_i32_35 c1_i32_38 k0_t7
  let c4_i32_55 : BitVec 32 := 4#32
  let v83 : BitVec 32 := Scalar.muli arg17 c4_i32_55
  let v130 : BitVec 32 := Scalar.addi v83 c0_i32_68
  let c1_i32_69 : BitVec 32 := 1#32
  let v131 : BitVec 32 := Scalar.addi v130 c1_i32_69
  let v165 : Index := Scalar.indexCast v131
  let c0_83 : Index := 0#32
  ![3, v165.toNat, 0]
def k0_off47 (v36 : BitVec 32) (k0_t7 : Fin (k0_t7_loop v36).trips) (c0_i32_121 : BitVec 32) : Fin 2 → Nat :=
  let c0_i32_35 : BitVec 32 := 0#32
  let c1_i32_38 : BitVec 32 := 1#32
  let arg17 : BitVec 32 := Scf.iv c0_i32_35 c1_i32_38 k0_t7
  let c4_i32_55 : BitVec 32 := 4#32
  let v83 : BitVec 32 := Scalar.muli arg17 c4_i32_55
  let v272 : BitVec 32 := Scalar.addi v83 c0_i32_121
  let v273 : Index := Scalar.indexCast v272
  let c0_122 : Index := 0#32
  ![v273.toNat, 0]
@[reducible] def k0_t8_loop (v46 : BitVec 32) : Scf.Loop 32 :=
  let c0_i32_129 : BitVec 32 := 0#32
  let c255_i32 : BitVec 32 := 255#32
  let v47 : BitVec 32 := Scalar.addi v46 c255_i32
  let c256_i32 : BitVec 32 := 256#32
  let v48 : BitVec 32 := Scalar.divsi v47 c256_i32
  let v284 : BitVec 32 := Scalar.subi v48 c0_i32_129
  let c1_i32_131 : BitVec 32 := 1#32
  let v286 : BitVec 32 := Scalar.divsi v284 c1_i32_131
  let v287 : BitVec 32 := Scalar.muli v286 c1_i32_131
  let v288 : BitVec 32 := Scalar.addi c0_i32_129 v287
  let c1_i32_132 : BitVec 32 := 1#32
  ⟨c0_i32_129, v288, c1_i32_132⟩
def k0_mult5 (v46 : BitVec 32) (k0_t8 : Fin (k0_t8_loop v46).trips) : BitVec 32 :=
  let c0_i32_129 : BitVec 32 := 0#32
  let c1_i32_132 : BitVec 32 := 1#32
  let arg19 : BitVec 32 := Scf.iv c0_i32_129 c1_i32_132 k0_t8
  let c256_i32_135 : BitVec 32 := 256#32
  let v291 : BitVec 32 := Scalar.muli arg19 c256_i32_135
  v291
def k0_off48 (v46 : BitVec 32) (k0_t8 : Fin (k0_t8_loop v46).trips) : Fin 2 → Nat :=
  let c0_i32_129 : BitVec 32 := 0#32
  let c1_i32_132 : BitVec 32 := 1#32
  let arg19 : BitVec 32 := Scf.iv c0_i32_129 c1_i32_132 k0_t8
  let c256_i32_135 : BitVec 32 := 256#32
  let v291 : BitVec 32 := Scalar.muli arg19 c256_i32_135
  let v292 : BitVec 32 := v291
  let v293 : Index := Scalar.indexCast v292
  let c0_136 : Index := 0#32
  ![v293.toNat, 0]
@[reducible] def k0_t9_loop (v46 : BitVec 32) : Scf.Loop 32 :=
  let c0_i32_129 : BitVec 32 := 0#32
  let c255_i32 : BitVec 32 := 255#32
  let v47 : BitVec 32 := Scalar.addi v46 c255_i32
  let c256_i32 : BitVec 32 := 256#32
  let v48 : BitVec 32 := Scalar.divsi v47 c256_i32
  let v284 : BitVec 32 := Scalar.subi v48 c0_i32_129
  let c1_i32_131 : BitVec 32 := 1#32
  let v286 : BitVec 32 := Scalar.divsi v284 c1_i32_131
  let v287 : BitVec 32 := Scalar.muli v286 c1_i32_131
  let v288 : BitVec 32 := Scalar.addi c0_i32_129 v287
  let v285 : BitVec 32 := Scalar.addi c0_i32_129 v284
  let c1_i32_133 : BitVec 32 := 1#32
  ⟨v288, v285, c1_i32_133⟩
def k0_mult6 (v46 : BitVec 32) (k0_t9 : Fin (k0_t9_loop v46).trips) : BitVec 32 :=
  let c0_i32_129 : BitVec 32 := 0#32
  let c255_i32 : BitVec 32 := 255#32
  let v47 : BitVec 32 := Scalar.addi v46 c255_i32
  let c256_i32 : BitVec 32 := 256#32
  let v48 : BitVec 32 := Scalar.divsi v47 c256_i32
  let v284 : BitVec 32 := Scalar.subi v48 c0_i32_129
  let c1_i32_131 : BitVec 32 := 1#32
  let v286 : BitVec 32 := Scalar.divsi v284 c1_i32_131
  let v287 : BitVec 32 := Scalar.muli v286 c1_i32_131
  let v288 : BitVec 32 := Scalar.addi c0_i32_129 v287
  let c1_i32_133 : BitVec 32 := 1#32
  let arg19 : BitVec 32 := Scf.iv v288 c1_i32_133 k0_t9
  let c256_i32_135 : BitVec 32 := 256#32
  let v291 : BitVec 32 := Scalar.muli arg19 c256_i32_135
  v291
def k0_off49 (v46 : BitVec 32) (k0_t9 : Fin (k0_t9_loop v46).trips) : Fin 2 → Nat :=
  let c0_i32_129 : BitVec 32 := 0#32
  let c255_i32 : BitVec 32 := 255#32
  let v47 : BitVec 32 := Scalar.addi v46 c255_i32
  let c256_i32 : BitVec 32 := 256#32
  let v48 : BitVec 32 := Scalar.divsi v47 c256_i32
  let v284 : BitVec 32 := Scalar.subi v48 c0_i32_129
  let c1_i32_131 : BitVec 32 := 1#32
  let v286 : BitVec 32 := Scalar.divsi v284 c1_i32_131
  let v287 : BitVec 32 := Scalar.muli v286 c1_i32_131
  let v288 : BitVec 32 := Scalar.addi c0_i32_129 v287
  let c1_i32_133 : BitVec 32 := 1#32
  let arg19 : BitVec 32 := Scf.iv v288 c1_i32_133 k0_t9
  let c256_i32_135 : BitVec 32 := 256#32
  let v291 : BitVec 32 := Scalar.muli arg19 c256_i32_135
  let v292 : BitVec 32 := v291
  let v293 : Index := Scalar.indexCast v292
  let c0_136 : Index := 0#32
  ![v293.toNat, 0]
@[reducible] def k0_t10_loop (v36 : BitVec 32) : Scf.Loop 32 :=
  let c0_i32_35 : BitVec 32 := 0#32
  let c3_i32 : BitVec 32 := 3#32
  let v57 : BitVec 32 := Scalar.addi v36 c3_i32
  let c4_i32 : BitVec 32 := 4#32
  let v58 : BitVec 32 := Scalar.divsi v57 c4_i32
  let v59 : BitVec 32 := Scalar.subi v58 c0_i32_35
  let c1_i32_37 : BitVec 32 := 1#32
  let v61 : BitVec 32 := Scalar.divsi v59 c1_i32_37
  let v62 : BitVec 32 := Scalar.muli v61 c1_i32_37
  let v63 : BitVec 32 := Scalar.addi c0_i32_35 v62
  let v60 : BitVec 32 := Scalar.addi c0_i32_35 v59
  let c1_i32_39 : BitVec 32 := 1#32
  ⟨v63, v60, c1_i32_39⟩
def k0_off50 (v36 : BitVec 32) (k0_t10 : Fin (k0_t10_loop v36).trips) (c0_i32_56 : BitVec 32) : Fin 3 → Nat :=
  let c0_57 : Index := 0#32
  let c0_i32_35 : BitVec 32 := 0#32
  let c3_i32 : BitVec 32 := 3#32
  let v57 : BitVec 32 := Scalar.addi v36 c3_i32
  let c4_i32 : BitVec 32 := 4#32
  let v58 : BitVec 32 := Scalar.divsi v57 c4_i32
  let v59 : BitVec 32 := Scalar.subi v58 c0_i32_35
  let c1_i32_37 : BitVec 32 := 1#32
  let v61 : BitVec 32 := Scalar.divsi v59 c1_i32_37
  let v62 : BitVec 32 := Scalar.muli v61 c1_i32_37
  let v63 : BitVec 32 := Scalar.addi c0_i32_35 v62
  let c1_i32_39 : BitVec 32 := 1#32
  let arg17 : BitVec 32 := Scf.iv v63 c1_i32_39 k0_t10
  let c4_i32_55 : BitVec 32 := 4#32
  let v83 : BitVec 32 := Scalar.muli arg17 c4_i32_55
  let v84 : BitVec 32 := Scalar.addi v83 c0_i32_56
  let v85 : Index := Scalar.indexCast v84
  let c0_58 : Index := 0#32
  ![0, v85.toNat, 0]
def k0_off51 (v36 : BitVec 32) (k0_t10 : Fin (k0_t10_loop v36).trips) (c0_i32_56 : BitVec 32) : Fin 3 → Nat :=
  let c1 : Index := 1#32
  let c0_i32_35 : BitVec 32 := 0#32
  let c3_i32 : BitVec 32 := 3#32
  let v57 : BitVec 32 := Scalar.addi v36 c3_i32
  let c4_i32 : BitVec 32 := 4#32
  let v58 : BitVec 32 := Scalar.divsi v57 c4_i32
  let v59 : BitVec 32 := Scalar.subi v58 c0_i32_35
  let c1_i32_37 : BitVec 32 := 1#32
  let v61 : BitVec 32 := Scalar.divsi v59 c1_i32_37
  let v62 : BitVec 32 := Scalar.muli v61 c1_i32_37
  let v63 : BitVec 32 := Scalar.addi c0_i32_35 v62
  let c1_i32_39 : BitVec 32 := 1#32
  let arg17 : BitVec 32 := Scf.iv v63 c1_i32_39 k0_t10
  let c4_i32_55 : BitVec 32 := 4#32
  let v83 : BitVec 32 := Scalar.muli arg17 c4_i32_55
  let v84 : BitVec 32 := Scalar.addi v83 c0_i32_56
  let v96 : Index := Scalar.indexCast v84
  let c0_59 : Index := 0#32
  ![1, v96.toNat, 0]
def k0_off52 (v36 : BitVec 32) (k0_t10 : Fin (k0_t10_loop v36).trips) (c0_i32_56 : BitVec 32) : Fin 3 → Nat :=
  let c2 : Index := 2#32
  let c0_i32_35 : BitVec 32 := 0#32
  let c3_i32 : BitVec 32 := 3#32
  let v57 : BitVec 32 := Scalar.addi v36 c3_i32
  let c4_i32 : BitVec 32 := 4#32
  let v58 : BitVec 32 := Scalar.divsi v57 c4_i32
  let v59 : BitVec 32 := Scalar.subi v58 c0_i32_35
  let c1_i32_37 : BitVec 32 := 1#32
  let v61 : BitVec 32 := Scalar.divsi v59 c1_i32_37
  let v62 : BitVec 32 := Scalar.muli v61 c1_i32_37
  let v63 : BitVec 32 := Scalar.addi c0_i32_35 v62
  let c1_i32_39 : BitVec 32 := 1#32
  let arg17 : BitVec 32 := Scf.iv v63 c1_i32_39 k0_t10
  let c4_i32_55 : BitVec 32 := 4#32
  let v83 : BitVec 32 := Scalar.muli arg17 c4_i32_55
  let v84 : BitVec 32 := Scalar.addi v83 c0_i32_56
  let v107 : Index := Scalar.indexCast v84
  let c0_62 : Index := 0#32
  ![2, v107.toNat, 0]
def k0_off53 (v36 : BitVec 32) (k0_t10 : Fin (k0_t10_loop v36).trips) (c0_i32_56 : BitVec 32) : Fin 3 → Nat :=
  let c3 : Index := 3#32
  let c0_i32_35 : BitVec 32 := 0#32
  let c3_i32 : BitVec 32 := 3#32
  let v57 : BitVec 32 := Scalar.addi v36 c3_i32
  let c4_i32 : BitVec 32 := 4#32
  let v58 : BitVec 32 := Scalar.divsi v57 c4_i32
  let v59 : BitVec 32 := Scalar.subi v58 c0_i32_35
  let c1_i32_37 : BitVec 32 := 1#32
  let v61 : BitVec 32 := Scalar.divsi v59 c1_i32_37
  let v62 : BitVec 32 := Scalar.muli v61 c1_i32_37
  let v63 : BitVec 32 := Scalar.addi c0_i32_35 v62
  let c1_i32_39 : BitVec 32 := 1#32
  let arg17 : BitVec 32 := Scf.iv v63 c1_i32_39 k0_t10
  let c4_i32_55 : BitVec 32 := 4#32
  let v83 : BitVec 32 := Scalar.muli arg17 c4_i32_55
  let v84 : BitVec 32 := Scalar.addi v83 c0_i32_56
  let v118 : Index := Scalar.indexCast v84
  let c0_65 : Index := 0#32
  ![3, v118.toNat, 0]
def k0_off54 (v36 : BitVec 32) (k0_t10 : Fin (k0_t10_loop v36).trips) (c0_i32_68 : BitVec 32) : Fin 3 → Nat :=
  let c0_70 : Index := 0#32
  let c0_i32_35 : BitVec 32 := 0#32
  let c3_i32 : BitVec 32 := 3#32
  let v57 : BitVec 32 := Scalar.addi v36 c3_i32
  let c4_i32 : BitVec 32 := 4#32
  let v58 : BitVec 32 := Scalar.divsi v57 c4_i32
  let v59 : BitVec 32 := Scalar.subi v58 c0_i32_35
  let c1_i32_37 : BitVec 32 := 1#32
  let v61 : BitVec 32 := Scalar.divsi v59 c1_i32_37
  let v62 : BitVec 32 := Scalar.muli v61 c1_i32_37
  let v63 : BitVec 32 := Scalar.addi c0_i32_35 v62
  let c1_i32_39 : BitVec 32 := 1#32
  let arg17 : BitVec 32 := Scf.iv v63 c1_i32_39 k0_t10
  let c4_i32_55 : BitVec 32 := 4#32
  let v83 : BitVec 32 := Scalar.muli arg17 c4_i32_55
  let v130 : BitVec 32 := Scalar.addi v83 c0_i32_68
  let c1_i32_69 : BitVec 32 := 1#32
  let v131 : BitVec 32 := Scalar.addi v130 c1_i32_69
  let v132 : Index := Scalar.indexCast v131
  let c0_71 : Index := 0#32
  ![0, v132.toNat, 0]
def k0_off55 (v36 : BitVec 32) (k0_t10 : Fin (k0_t10_loop v36).trips) (c0_i32_68 : BitVec 32) : Fin 3 → Nat :=
  let c1_74 : Index := 1#32
  let c0_i32_35 : BitVec 32 := 0#32
  let c3_i32 : BitVec 32 := 3#32
  let v57 : BitVec 32 := Scalar.addi v36 c3_i32
  let c4_i32 : BitVec 32 := 4#32
  let v58 : BitVec 32 := Scalar.divsi v57 c4_i32
  let v59 : BitVec 32 := Scalar.subi v58 c0_i32_35
  let c1_i32_37 : BitVec 32 := 1#32
  let v61 : BitVec 32 := Scalar.divsi v59 c1_i32_37
  let v62 : BitVec 32 := Scalar.muli v61 c1_i32_37
  let v63 : BitVec 32 := Scalar.addi c0_i32_35 v62
  let c1_i32_39 : BitVec 32 := 1#32
  let arg17 : BitVec 32 := Scf.iv v63 c1_i32_39 k0_t10
  let c4_i32_55 : BitVec 32 := 4#32
  let v83 : BitVec 32 := Scalar.muli arg17 c4_i32_55
  let v130 : BitVec 32 := Scalar.addi v83 c0_i32_68
  let c1_i32_69 : BitVec 32 := 1#32
  let v131 : BitVec 32 := Scalar.addi v130 c1_i32_69
  let v143 : Index := Scalar.indexCast v131
  let c0_75 : Index := 0#32
  ![1, v143.toNat, 0]
def k0_off56 (v36 : BitVec 32) (k0_t10 : Fin (k0_t10_loop v36).trips) (c0_i32_68 : BitVec 32) : Fin 3 → Nat :=
  let c2_78 : Index := 2#32
  let c0_i32_35 : BitVec 32 := 0#32
  let c3_i32 : BitVec 32 := 3#32
  let v57 : BitVec 32 := Scalar.addi v36 c3_i32
  let c4_i32 : BitVec 32 := 4#32
  let v58 : BitVec 32 := Scalar.divsi v57 c4_i32
  let v59 : BitVec 32 := Scalar.subi v58 c0_i32_35
  let c1_i32_37 : BitVec 32 := 1#32
  let v61 : BitVec 32 := Scalar.divsi v59 c1_i32_37
  let v62 : BitVec 32 := Scalar.muli v61 c1_i32_37
  let v63 : BitVec 32 := Scalar.addi c0_i32_35 v62
  let c1_i32_39 : BitVec 32 := 1#32
  let arg17 : BitVec 32 := Scf.iv v63 c1_i32_39 k0_t10
  let c4_i32_55 : BitVec 32 := 4#32
  let v83 : BitVec 32 := Scalar.muli arg17 c4_i32_55
  let v130 : BitVec 32 := Scalar.addi v83 c0_i32_68
  let c1_i32_69 : BitVec 32 := 1#32
  let v131 : BitVec 32 := Scalar.addi v130 c1_i32_69
  let v154 : Index := Scalar.indexCast v131
  let c0_79 : Index := 0#32
  ![2, v154.toNat, 0]
def k0_off57 (v36 : BitVec 32) (k0_t10 : Fin (k0_t10_loop v36).trips) (c0_i32_68 : BitVec 32) : Fin 3 → Nat :=
  let c3_82 : Index := 3#32
  let c0_i32_35 : BitVec 32 := 0#32
  let c3_i32 : BitVec 32 := 3#32
  let v57 : BitVec 32 := Scalar.addi v36 c3_i32
  let c4_i32 : BitVec 32 := 4#32
  let v58 : BitVec 32 := Scalar.divsi v57 c4_i32
  let v59 : BitVec 32 := Scalar.subi v58 c0_i32_35
  let c1_i32_37 : BitVec 32 := 1#32
  let v61 : BitVec 32 := Scalar.divsi v59 c1_i32_37
  let v62 : BitVec 32 := Scalar.muli v61 c1_i32_37
  let v63 : BitVec 32 := Scalar.addi c0_i32_35 v62
  let c1_i32_39 : BitVec 32 := 1#32
  let arg17 : BitVec 32 := Scf.iv v63 c1_i32_39 k0_t10
  let c4_i32_55 : BitVec 32 := 4#32
  let v83 : BitVec 32 := Scalar.muli arg17 c4_i32_55
  let v130 : BitVec 32 := Scalar.addi v83 c0_i32_68
  let c1_i32_69 : BitVec 32 := 1#32
  let v131 : BitVec 32 := Scalar.addi v130 c1_i32_69
  let v165 : Index := Scalar.indexCast v131
  let c0_83 : Index := 0#32
  ![3, v165.toNat, 0]
def k0_off58 (v36 : BitVec 32) (k0_t10 : Fin (k0_t10_loop v36).trips) (c0_i32_121 : BitVec 32) : Fin 2 → Nat :=
  let c0_i32_35 : BitVec 32 := 0#32
  let c3_i32 : BitVec 32 := 3#32
  let v57 : BitVec 32 := Scalar.addi v36 c3_i32
  let c4_i32 : BitVec 32 := 4#32
  let v58 : BitVec 32 := Scalar.divsi v57 c4_i32
  let v59 : BitVec 32 := Scalar.subi v58 c0_i32_35
  let c1_i32_37 : BitVec 32 := 1#32
  let v61 : BitVec 32 := Scalar.divsi v59 c1_i32_37
  let v62 : BitVec 32 := Scalar.muli v61 c1_i32_37
  let v63 : BitVec 32 := Scalar.addi c0_i32_35 v62
  let c1_i32_39 : BitVec 32 := 1#32
  let arg17 : BitVec 32 := Scf.iv v63 c1_i32_39 k0_t10
  let c4_i32_55 : BitVec 32 := 4#32
  let v83 : BitVec 32 := Scalar.muli arg17 c4_i32_55
  let v272 : BitVec 32 := Scalar.addi v83 c0_i32_121
  let v273 : Index := Scalar.indexCast v272
  let c0_122 : Index := 0#32
  ![v273.toNat, 0]

def k0_chk3_0 (i : grid0.Coords) (v36 : BitVec 32) : Prop :=
  ((k0_t3_loop v36).OK) ∧
  (∀ k0_t3 : Fin (k0_t3_loop v36).trips, 128 ∣ (k0_mult1 v36 k0_t3).toNat) ∧
  (∀ k0_t3 : Fin (k0_t3_loop v36).trips, ∀ a, (k0_off17 i v36 k0_t3) a + S1x128x1x128.size a ≤ S2x128x1x1024.size a) ∧
  (∀ k0_t3 : Fin (k0_t3_loop v36).trips, ∀ a, (k0_off18 v36 k0_t3) a + S128x128.size a ≤ S1024x128.size a) ∧
  (∀ k0_t3 : Fin (k0_t3_loop v36).trips, ∀ a, (k0_off19 i v36 k0_t3) a + S1x128x1x128.size a ≤ S2x128x4x1024.size a) ∧
  (∀ k0_t3 : Fin (k0_t3_loop v36).trips, ∀ a, (k0_off20 v36 k0_t3) a + S1x128x128.size a ≤ S4x1024x128.size a) ∧
  (∀ k0_t3 : Fin (k0_t3_loop v36).trips, ∀ a, (k0_off21 i v36 k0_t3) a + S1x128x1x128.size a ≤ S2x128x4x1024.size a) ∧
  (∀ k0_t3 : Fin (k0_t3_loop v36).trips, ∀ a, (k0_off22 v36 k0_t3) a + S1x128x128.size a ≤ S4x1024x128.size a) ∧
  (∀ k0_t3 : Fin (k0_t3_loop v36).trips, ∀ a, (k0_off23 i v36 k0_t3) a + S1x128x1x128.size a ≤ S2x128x4x1024.size a) ∧
  (∀ k0_t3 : Fin (k0_t3_loop v36).trips, ∀ a, (k0_off24 v36 k0_t3) a + S1x128x128.size a ≤ S4x1024x128.size a) ∧
  (∀ k0_t3 : Fin (k0_t3_loop v36).trips, ∀ a, (k0_off25 i v36 k0_t3) a + S1x128x1x128.size a ≤ S2x128x4x1024.size a) ∧
  (∀ k0_t3 : Fin (k0_t3_loop v36).trips, ∀ a, (k0_off26 v36 k0_t3) a + S1x128x128.size a ≤ S4x1024x128.size a) ∧
  ((k0_t4_loop v36).OK) ∧
  (∀ k0_t4 : Fin (k0_t4_loop v36).trips, 128 ∣ (k0_mult2 v36 k0_t4).toNat) ∧
  (∀ k0_t4 : Fin (k0_t4_loop v36).trips, ∀ a, (k0_off27 i v36 k0_t4) a + S1x128x1x128.size a ≤ S2x128x1x1024.size a) ∧
  (∀ k0_t4 : Fin (k0_t4_loop v36).trips, ∀ a, (k0_off28 v36 k0_t4) a + S128x128.size a ≤ S1024x128.size a) ∧
  (∀ k0_t4 : Fin (k0_t4_loop v36).trips, ∀ a, (k0_off29 i v36 k0_t4) a + S1x128x1x128.size a ≤ S2x128x4x1024.size a) ∧
  (∀ k0_t4 : Fin (k0_t4_loop v36).trips, ∀ a, (k0_off30 v36 k0_t4) a + S1x128x128.size a ≤ S4x1024x128.size a) ∧
  (∀ k0_t4 : Fin (k0_t4_loop v36).trips, ∀ a, (k0_off31 i v36 k0_t4) a + S1x128x1x128.size a ≤ S2x128x4x1024.size a) ∧
  (∀ k0_t4 : Fin (k0_t4_loop v36).trips, ∀ a, (k0_off32 v36 k0_t4) a + S1x128x128.size a ≤ S4x1024x128.size a) ∧
  (∀ k0_t4 : Fin (k0_t4_loop v36).trips, ∀ a, (k0_off33 i v36 k0_t4) a + S1x128x1x128.size a ≤ S2x128x4x1024.size a) ∧
  (∀ k0_t4 : Fin (k0_t4_loop v36).trips, ∀ a, (k0_off34 v36 k0_t4) a + S1x128x128.size a ≤ S4x1024x128.size a) ∧
  (∀ k0_t4 : Fin (k0_t4_loop v36).trips, ∀ a, (k0_off35 i v36 k0_t4) a + S1x128x1x128.size a ≤ S2x128x4x1024.size a) ∧
  (∀ k0_t4 : Fin (k0_t4_loop v36).trips, ∀ a, (k0_off36 v36 k0_t4) a + S1x128x128.size a ≤ S4x1024x128.size a) ∧
  ((k0_t7_loop v36).OK) ∧
  (∀ k0_t7 : Fin (k0_t7_loop v36).trips, ∀ (r : Fin 2), ∀ a, (k0_off39 v36 k0_t7 (BitVec.ofNat 32 (2 * r.val))) a + S1x1x128.size a ≤ S4x1024x128.size a) ∧
  (∀ k0_t7 : Fin (k0_t7_loop v36).trips, ∀ (r : Fin 2), ∀ a, (k0_off40 v36 k0_t7 (BitVec.ofNat 32 (2 * r.val))) a + S1x1x128.size a ≤ S4x1024x128.size a) ∧
  (∀ k0_t7 : Fin (k0_t7_loop v36).trips, ∀ (r : Fin 2), ∀ a, (k0_off41 v36 k0_t7 (BitVec.ofNat 32 (2 * r.val))) a + S1x1x128.size a ≤ S4x1024x128.size a) ∧
  (∀ k0_t7 : Fin (k0_t7_loop v36).trips, ∀ (r : Fin 2), ∀ a, (k0_off42 v36 k0_t7 (BitVec.ofNat 32 (2 * r.val))) a + S1x1x128.size a ≤ S4x1024x128.size a) ∧
  (∀ k0_t7 : Fin (k0_t7_loop v36).trips, ∀ (r : Fin 2), ∀ a, (k0_off43 v36 k0_t7 (BitVec.ofNat 32 (2 * r.val))) a + S1x1x128.size a ≤ S4x1024x128.size a) ∧
  (∀ k0_t7 : Fin (k0_t7_loop v36).trips, ∀ (r : Fin 2), ∀ a, (k0_off44 v36 k0_t7 (BitVec.ofNat 32 (2 * r.val))) a + S1x1x128.size a ≤ S4x1024x128.size a) ∧
  (∀ k0_t7 : Fin (k0_t7_loop v36).trips, ∀ (r : Fin 2), ∀ a, (k0_off45 v36 k0_t7 (BitVec.ofNat 32 (2 * r.val))) a + S1x1x128.size a ≤ S4x1024x128.size a)
def k0_chk3_1 (i : grid0.Coords) (v36 : BitVec 32) : Prop :=
  (∀ k0_t7 : Fin (k0_t7_loop v36).trips, ∀ (r : Fin 2), ∀ a, (k0_off46 v36 k0_t7 (BitVec.ofNat 32 (2 * r.val))) a + S1x1x128.size a ≤ S4x1024x128.size a) ∧
  (∀ k0_t7 : Fin (k0_t7_loop v36).trips, ∀ (r : Fin 4), ∀ a, (k0_off47 v36 k0_t7 (BitVec.ofNat 32 r.val)) a + S1x128.size a ≤ S1024x128.size a) ∧
  ((k0_t10_loop v36).OK) ∧
  (∀ k0_t10 : Fin (k0_t10_loop v36).trips, ∀ (r : Fin 2), ∀ a, (k0_off50 v36 k0_t10 (BitVec.ofNat 32 (2 * r.val))) a + S1x1x128.size a ≤ S4x1024x128.size a) ∧
  (∀ k0_t10 : Fin (k0_t10_loop v36).trips, ∀ (r : Fin 2), ∀ a, (k0_off51 v36 k0_t10 (BitVec.ofNat 32 (2 * r.val))) a + S1x1x128.size a ≤ S4x1024x128.size a) ∧
  (∀ k0_t10 : Fin (k0_t10_loop v36).trips, ∀ (r : Fin 2), ∀ a, (k0_off52 v36 k0_t10 (BitVec.ofNat 32 (2 * r.val))) a + S1x1x128.size a ≤ S4x1024x128.size a) ∧
  (∀ k0_t10 : Fin (k0_t10_loop v36).trips, ∀ (r : Fin 2), ∀ a, (k0_off53 v36 k0_t10 (BitVec.ofNat 32 (2 * r.val))) a + S1x1x128.size a ≤ S4x1024x128.size a) ∧
  (∀ k0_t10 : Fin (k0_t10_loop v36).trips, ∀ (r : Fin 2), ∀ a, (k0_off54 v36 k0_t10 (BitVec.ofNat 32 (2 * r.val))) a + S1x1x128.size a ≤ S4x1024x128.size a) ∧
  (∀ k0_t10 : Fin (k0_t10_loop v36).trips, ∀ (r : Fin 2), ∀ a, (k0_off55 v36 k0_t10 (BitVec.ofNat 32 (2 * r.val))) a + S1x1x128.size a ≤ S4x1024x128.size a) ∧
  (∀ k0_t10 : Fin (k0_t10_loop v36).trips, ∀ (r : Fin 2), ∀ a, (k0_off56 v36 k0_t10 (BitVec.ofNat 32 (2 * r.val))) a + S1x1x128.size a ≤ S4x1024x128.size a) ∧
  (∀ k0_t10 : Fin (k0_t10_loop v36).trips, ∀ (r : Fin 2), ∀ a, (k0_off57 v36 k0_t10 (BitVec.ofNat 32 (2 * r.val))) a + S1x1x128.size a ≤ S4x1024x128.size a) ∧
  (∀ k0_t10 : Fin (k0_t10_loop v36).trips, ∀ (r : Fin 4), ∀ a, (k0_off58 v36 k0_t10 (BitVec.ofNat 32 r.val)) a + S1x128.size a ≤ S1024x128.size a)
def k0_chk3 (i : grid0.Coords) (v36 : BitVec 32) : Prop :=
  k0_chk3_0 i v36 ∧
  k0_chk3_1 i v36
theorem k0_t3_ok : ∀ (i : grid0.Coords) (v36 : BitVec 32) (k0_hw3 : k0_chk3 i v36), (k0_t3_loop v36).OK := fun i v36 k0_hw3 => k0_hw3.1.1
theorem k0_mult1_dvd : ∀ (i : grid0.Coords) (v36 : BitVec 32) (k0_hw3 : k0_chk3 i v36) (k0_t3 : Fin (k0_t3_loop v36).trips), 128 ∣ (k0_mult1 v36 k0_t3).toNat := fun i v36 k0_hw3 k0_t3 => k0_hw3.1.2.1 k0_t3
theorem k0_off17_inb : ∀ (i : grid0.Coords) (v36 : BitVec 32) (k0_hw3 : k0_chk3 i v36) (k0_t3 : Fin (k0_t3_loop v36).trips), ∀ a, (k0_off17 i v36 k0_t3) a + S1x128x1x128.size a ≤ S2x128x1x1024.size a := fun i v36 k0_hw3 k0_t3 => k0_hw3.1.2.2.1 k0_t3
theorem k0_off18_inb : ∀ (i : grid0.Coords) (v36 : BitVec 32) (k0_hw3 : k0_chk3 i v36) (k0_t3 : Fin (k0_t3_loop v36).trips), ∀ a, (k0_off18 v36 k0_t3) a + S128x128.size a ≤ S1024x128.size a := fun i v36 k0_hw3 k0_t3 => k0_hw3.1.2.2.2.1 k0_t3
theorem k0_off19_inb : ∀ (i : grid0.Coords) (v36 : BitVec 32) (k0_hw3 : k0_chk3 i v36) (k0_t3 : Fin (k0_t3_loop v36).trips), ∀ a, (k0_off19 i v36 k0_t3) a + S1x128x1x128.size a ≤ S2x128x4x1024.size a := fun i v36 k0_hw3 k0_t3 => k0_hw3.1.2.2.2.2.1 k0_t3
theorem k0_off20_inb : ∀ (i : grid0.Coords) (v36 : BitVec 32) (k0_hw3 : k0_chk3 i v36) (k0_t3 : Fin (k0_t3_loop v36).trips), ∀ a, (k0_off20 v36 k0_t3) a + S1x128x128.size a ≤ S4x1024x128.size a := fun i v36 k0_hw3 k0_t3 => k0_hw3.1.2.2.2.2.2.1 k0_t3
theorem k0_off21_inb : ∀ (i : grid0.Coords) (v36 : BitVec 32) (k0_hw3 : k0_chk3 i v36) (k0_t3 : Fin (k0_t3_loop v36).trips), ∀ a, (k0_off21 i v36 k0_t3) a + S1x128x1x128.size a ≤ S2x128x4x1024.size a := fun i v36 k0_hw3 k0_t3 => k0_hw3.1.2.2.2.2.2.2.1 k0_t3
theorem k0_off22_inb : ∀ (i : grid0.Coords) (v36 : BitVec 32) (k0_hw3 : k0_chk3 i v36) (k0_t3 : Fin (k0_t3_loop v36).trips), ∀ a, (k0_off22 v36 k0_t3) a + S1x128x128.size a ≤ S4x1024x128.size a := fun i v36 k0_hw3 k0_t3 => k0_hw3.1.2.2.2.2.2.2.2.1 k0_t3
theorem k0_off23_inb : ∀ (i : grid0.Coords) (v36 : BitVec 32) (k0_hw3 : k0_chk3 i v36) (k0_t3 : Fin (k0_t3_loop v36).trips), ∀ a, (k0_off23 i v36 k0_t3) a + S1x128x1x128.size a ≤ S2x128x4x1024.size a := fun i v36 k0_hw3 k0_t3 => k0_hw3.1.2.2.2.2.2.2.2.2.1 k0_t3
theorem k0_off24_inb : ∀ (i : grid0.Coords) (v36 : BitVec 32) (k0_hw3 : k0_chk3 i v36) (k0_t3 : Fin (k0_t3_loop v36).trips), ∀ a, (k0_off24 v36 k0_t3) a + S1x128x128.size a ≤ S4x1024x128.size a := fun i v36 k0_hw3 k0_t3 => k0_hw3.1.2.2.2.2.2.2.2.2.2.1 k0_t3
theorem k0_off25_inb : ∀ (i : grid0.Coords) (v36 : BitVec 32) (k0_hw3 : k0_chk3 i v36) (k0_t3 : Fin (k0_t3_loop v36).trips), ∀ a, (k0_off25 i v36 k0_t3) a + S1x128x1x128.size a ≤ S2x128x4x1024.size a := fun i v36 k0_hw3 k0_t3 => k0_hw3.1.2.2.2.2.2.2.2.2.2.2.1 k0_t3
theorem k0_off26_inb : ∀ (i : grid0.Coords) (v36 : BitVec 32) (k0_hw3 : k0_chk3 i v36) (k0_t3 : Fin (k0_t3_loop v36).trips), ∀ a, (k0_off26 v36 k0_t3) a + S1x128x128.size a ≤ S4x1024x128.size a := fun i v36 k0_hw3 k0_t3 => k0_hw3.1.2.2.2.2.2.2.2.2.2.2.2.1 k0_t3
theorem k0_t4_ok : ∀ (i : grid0.Coords) (v36 : BitVec 32) (k0_hw3 : k0_chk3 i v36), (k0_t4_loop v36).OK := fun i v36 k0_hw3 => k0_hw3.1.2.2.2.2.2.2.2.2.2.2.2.2.1
theorem k0_mult2_dvd : ∀ (i : grid0.Coords) (v36 : BitVec 32) (k0_hw3 : k0_chk3 i v36) (k0_t4 : Fin (k0_t4_loop v36).trips), 128 ∣ (k0_mult2 v36 k0_t4).toNat := fun i v36 k0_hw3 k0_t4 => k0_hw3.1.2.2.2.2.2.2.2.2.2.2.2.2.2.1 k0_t4
theorem k0_off27_inb : ∀ (i : grid0.Coords) (v36 : BitVec 32) (k0_hw3 : k0_chk3 i v36) (k0_t4 : Fin (k0_t4_loop v36).trips), ∀ a, (k0_off27 i v36 k0_t4) a + S1x128x1x128.size a ≤ S2x128x1x1024.size a := fun i v36 k0_hw3 k0_t4 => k0_hw3.1.2.2.2.2.2.2.2.2.2.2.2.2.2.2.1 k0_t4
theorem k0_off28_inb : ∀ (i : grid0.Coords) (v36 : BitVec 32) (k0_hw3 : k0_chk3 i v36) (k0_t4 : Fin (k0_t4_loop v36).trips), ∀ a, (k0_off28 v36 k0_t4) a + S128x128.size a ≤ S1024x128.size a := fun i v36 k0_hw3 k0_t4 => k0_hw3.1.2.2.2.2.2.2.2.2.2.2.2.2.2.2.2.1 k0_t4
theorem k0_off29_inb : ∀ (i : grid0.Coords) (v36 : BitVec 32) (k0_hw3 : k0_chk3 i v36) (k0_t4 : Fin (k0_t4_loop v36).trips), ∀ a, (k0_off29 i v36 k0_t4) a + S1x128x1x128.size a ≤ S2x128x4x1024.size a := fun i v36 k0_hw3 k0_t4 => k0_hw3.1.2.2.2.2.2.2.2.2.2.2.2.2.2.2.2.2.1 k0_t4
theorem k0_off30_inb : ∀ (i : grid0.Coords) (v36 : BitVec 32) (k0_hw3 : k0_chk3 i v36) (k0_t4 : Fin (k0_t4_loop v36).trips), ∀ a, (k0_off30 v36 k0_t4) a + S1x128x128.size a ≤ S4x1024x128.size a := fun i v36 k0_hw3 k0_t4 => k0_hw3.1.2.2.2.2.2.2.2.2.2.2.2.2.2.2.2.2.2.1 k0_t4
theorem k0_off31_inb : ∀ (i : grid0.Coords) (v36 : BitVec 32) (k0_hw3 : k0_chk3 i v36) (k0_t4 : Fin (k0_t4_loop v36).trips), ∀ a, (k0_off31 i v36 k0_t4) a + S1x128x1x128.size a ≤ S2x128x4x1024.size a := fun i v36 k0_hw3 k0_t4 => k0_hw3.1.2.2.2.2.2.2.2.2.2.2.2.2.2.2.2.2.2.2.1 k0_t4
theorem k0_off32_inb : ∀ (i : grid0.Coords) (v36 : BitVec 32) (k0_hw3 : k0_chk3 i v36) (k0_t4 : Fin (k0_t4_loop v36).trips), ∀ a, (k0_off32 v36 k0_t4) a + S1x128x128.size a ≤ S4x1024x128.size a := fun i v36 k0_hw3 k0_t4 => k0_hw3.1.2.2.2.2.2.2.2.2.2.2.2.2.2.2.2.2.2.2.2.1 k0_t4
theorem k0_off33_inb : ∀ (i : grid0.Coords) (v36 : BitVec 32) (k0_hw3 : k0_chk3 i v36) (k0_t4 : Fin (k0_t4_loop v36).trips), ∀ a, (k0_off33 i v36 k0_t4) a + S1x128x1x128.size a ≤ S2x128x4x1024.size a := fun i v36 k0_hw3 k0_t4 => k0_hw3.1.2.2.2.2.2.2.2.2.2.2.2.2.2.2.2.2.2.2.2.2.1 k0_t4
theorem k0_off34_inb : ∀ (i : grid0.Coords) (v36 : BitVec 32) (k0_hw3 : k0_chk3 i v36) (k0_t4 : Fin (k0_t4_loop v36).trips), ∀ a, (k0_off34 v36 k0_t4) a + S1x128x128.size a ≤ S4x1024x128.size a := fun i v36 k0_hw3 k0_t4 => k0_hw3.1.2.2.2.2.2.2.2.2.2.2.2.2.2.2.2.2.2.2.2.2.2.1 k0_t4
theorem k0_off35_inb : ∀ (i : grid0.Coords) (v36 : BitVec 32) (k0_hw3 : k0_chk3 i v36) (k0_t4 : Fin (k0_t4_loop v36).trips), ∀ a, (k0_off35 i v36 k0_t4) a + S1x128x1x128.size a ≤ S2x128x4x1024.size a := fun i v36 k0_hw3 k0_t4 => k0_hw3.1.2.2.2.2.2.2.2.2.2.2.2.2.2.2.2.2.2.2.2.2.2.2.1 k0_t4
theorem k0_off36_inb : ∀ (i : grid0.Coords) (v36 : BitVec 32) (k0_hw3 : k0_chk3 i v36) (k0_t4 : Fin (k0_t4_loop v36).trips), ∀ a, (k0_off36 v36 k0_t4) a + S1x128x128.size a ≤ S4x1024x128.size a := fun i v36 k0_hw3 k0_t4 => k0_hw3.1.2.2.2.2.2.2.2.2.2.2.2.2.2.2.2.2.2.2.2.2.2.2.2.1 k0_t4
theorem k0_t7_ok : ∀ (i : grid0.Coords) (v36 : BitVec 32) (k0_hw3 : k0_chk3 i v36), (k0_t7_loop v36).OK := fun i v36 k0_hw3 => k0_hw3.1.2.2.2.2.2.2.2.2.2.2.2.2.2.2.2.2.2.2.2.2.2.2.2.2.1
theorem k0_off39_inb : ∀ (i : grid0.Coords) (v36 : BitVec 32) (k0_hw3 : k0_chk3 i v36) (k0_t7 : Fin (k0_t7_loop v36).trips), ∀ (r : Fin 2), ∀ a, (k0_off39 v36 k0_t7 (BitVec.ofNat 32 (2 * r.val))) a + S1x1x128.size a ≤ S4x1024x128.size a := fun i v36 k0_hw3 k0_t7 r => k0_hw3.1.2.2.2.2.2.2.2.2.2.2.2.2.2.2.2.2.2.2.2.2.2.2.2.2.2.1 k0_t7 r
theorem k0_off40_inb : ∀ (i : grid0.Coords) (v36 : BitVec 32) (k0_hw3 : k0_chk3 i v36) (k0_t7 : Fin (k0_t7_loop v36).trips), ∀ (r : Fin 2), ∀ a, (k0_off40 v36 k0_t7 (BitVec.ofNat 32 (2 * r.val))) a + S1x1x128.size a ≤ S4x1024x128.size a := fun i v36 k0_hw3 k0_t7 r => k0_hw3.1.2.2.2.2.2.2.2.2.2.2.2.2.2.2.2.2.2.2.2.2.2.2.2.2.2.2.1 k0_t7 r
theorem k0_off41_inb : ∀ (i : grid0.Coords) (v36 : BitVec 32) (k0_hw3 : k0_chk3 i v36) (k0_t7 : Fin (k0_t7_loop v36).trips), ∀ (r : Fin 2), ∀ a, (k0_off41 v36 k0_t7 (BitVec.ofNat 32 (2 * r.val))) a + S1x1x128.size a ≤ S4x1024x128.size a := fun i v36 k0_hw3 k0_t7 r => k0_hw3.1.2.2.2.2.2.2.2.2.2.2.2.2.2.2.2.2.2.2.2.2.2.2.2.2.2.2.2.1 k0_t7 r
theorem k0_off42_inb : ∀ (i : grid0.Coords) (v36 : BitVec 32) (k0_hw3 : k0_chk3 i v36) (k0_t7 : Fin (k0_t7_loop v36).trips), ∀ (r : Fin 2), ∀ a, (k0_off42 v36 k0_t7 (BitVec.ofNat 32 (2 * r.val))) a + S1x1x128.size a ≤ S4x1024x128.size a := fun i v36 k0_hw3 k0_t7 r => k0_hw3.1.2.2.2.2.2.2.2.2.2.2.2.2.2.2.2.2.2.2.2.2.2.2.2.2.2.2.2.2.1 k0_t7 r
theorem k0_off43_inb : ∀ (i : grid0.Coords) (v36 : BitVec 32) (k0_hw3 : k0_chk3 i v36) (k0_t7 : Fin (k0_t7_loop v36).trips), ∀ (r : Fin 2), ∀ a, (k0_off43 v36 k0_t7 (BitVec.ofNat 32 (2 * r.val))) a + S1x1x128.size a ≤ S4x1024x128.size a := fun i v36 k0_hw3 k0_t7 r => k0_hw3.1.2.2.2.2.2.2.2.2.2.2.2.2.2.2.2.2.2.2.2.2.2.2.2.2.2.2.2.2.2.1 k0_t7 r
theorem k0_off44_inb : ∀ (i : grid0.Coords) (v36 : BitVec 32) (k0_hw3 : k0_chk3 i v36) (k0_t7 : Fin (k0_t7_loop v36).trips), ∀ (r : Fin 2), ∀ a, (k0_off44 v36 k0_t7 (BitVec.ofNat 32 (2 * r.val))) a + S1x1x128.size a ≤ S4x1024x128.size a := fun i v36 k0_hw3 k0_t7 r => k0_hw3.1.2.2.2.2.2.2.2.2.2.2.2.2.2.2.2.2.2.2.2.2.2.2.2.2.2.2.2.2.2.2.1 k0_t7 r
theorem k0_off45_inb : ∀ (i : grid0.Coords) (v36 : BitVec 32) (k0_hw3 : k0_chk3 i v36) (k0_t7 : Fin (k0_t7_loop v36).trips), ∀ (r : Fin 2), ∀ a, (k0_off45 v36 k0_t7 (BitVec.ofNat 32 (2 * r.val))) a + S1x1x128.size a ≤ S4x1024x128.size a := fun i v36 k0_hw3 k0_t7 r => k0_hw3.1.2.2.2.2.2.2.2.2.2.2.2.2.2.2.2.2.2.2.2.2.2.2.2.2.2.2.2.2.2.2.2 k0_t7 r
theorem k0_off46_inb : ∀ (i : grid0.Coords) (v36 : BitVec 32) (k0_hw3 : k0_chk3 i v36) (k0_t7 : Fin (k0_t7_loop v36).trips), ∀ (r : Fin 2), ∀ a, (k0_off46 v36 k0_t7 (BitVec.ofNat 32 (2 * r.val))) a + S1x1x128.size a ≤ S4x1024x128.size a := fun i v36 k0_hw3 k0_t7 r => k0_hw3.2.1 k0_t7 r
theorem k0_off47_inb : ∀ (i : grid0.Coords) (v36 : BitVec 32) (k0_hw3 : k0_chk3 i v36) (k0_t7 : Fin (k0_t7_loop v36).trips), ∀ (r : Fin 4), ∀ a, (k0_off47 v36 k0_t7 (BitVec.ofNat 32 r.val)) a + S1x128.size a ≤ S1024x128.size a := fun i v36 k0_hw3 k0_t7 r => k0_hw3.2.2.1 k0_t7 r
theorem k0_t10_ok : ∀ (i : grid0.Coords) (v36 : BitVec 32) (k0_hw3 : k0_chk3 i v36), (k0_t10_loop v36).OK := fun i v36 k0_hw3 => k0_hw3.2.2.2.1
theorem k0_off50_inb : ∀ (i : grid0.Coords) (v36 : BitVec 32) (k0_hw3 : k0_chk3 i v36) (k0_t10 : Fin (k0_t10_loop v36).trips), ∀ (r : Fin 2), ∀ a, (k0_off50 v36 k0_t10 (BitVec.ofNat 32 (2 * r.val))) a + S1x1x128.size a ≤ S4x1024x128.size a := fun i v36 k0_hw3 k0_t10 r => k0_hw3.2.2.2.2.1 k0_t10 r
theorem k0_off51_inb : ∀ (i : grid0.Coords) (v36 : BitVec 32) (k0_hw3 : k0_chk3 i v36) (k0_t10 : Fin (k0_t10_loop v36).trips), ∀ (r : Fin 2), ∀ a, (k0_off51 v36 k0_t10 (BitVec.ofNat 32 (2 * r.val))) a + S1x1x128.size a ≤ S4x1024x128.size a := fun i v36 k0_hw3 k0_t10 r => k0_hw3.2.2.2.2.2.1 k0_t10 r
theorem k0_off52_inb : ∀ (i : grid0.Coords) (v36 : BitVec 32) (k0_hw3 : k0_chk3 i v36) (k0_t10 : Fin (k0_t10_loop v36).trips), ∀ (r : Fin 2), ∀ a, (k0_off52 v36 k0_t10 (BitVec.ofNat 32 (2 * r.val))) a + S1x1x128.size a ≤ S4x1024x128.size a := fun i v36 k0_hw3 k0_t10 r => k0_hw3.2.2.2.2.2.2.1 k0_t10 r
theorem k0_off53_inb : ∀ (i : grid0.Coords) (v36 : BitVec 32) (k0_hw3 : k0_chk3 i v36) (k0_t10 : Fin (k0_t10_loop v36).trips), ∀ (r : Fin 2), ∀ a, (k0_off53 v36 k0_t10 (BitVec.ofNat 32 (2 * r.val))) a + S1x1x128.size a ≤ S4x1024x128.size a := fun i v36 k0_hw3 k0_t10 r => k0_hw3.2.2.2.2.2.2.2.1 k0_t10 r
theorem k0_off54_inb : ∀ (i : grid0.Coords) (v36 : BitVec 32) (k0_hw3 : k0_chk3 i v36) (k0_t10 : Fin (k0_t10_loop v36).trips), ∀ (r : Fin 2), ∀ a, (k0_off54 v36 k0_t10 (BitVec.ofNat 32 (2 * r.val))) a + S1x1x128.size a ≤ S4x1024x128.size a := fun i v36 k0_hw3 k0_t10 r => k0_hw3.2.2.2.2.2.2.2.2.1 k0_t10 r
theorem k0_off55_inb : ∀ (i : grid0.Coords) (v36 : BitVec 32) (k0_hw3 : k0_chk3 i v36) (k0_t10 : Fin (k0_t10_loop v36).trips), ∀ (r : Fin 2), ∀ a, (k0_off55 v36 k0_t10 (BitVec.ofNat 32 (2 * r.val))) a + S1x1x128.size a ≤ S4x1024x128.size a := fun i v36 k0_hw3 k0_t10 r => k0_hw3.2.2.2.2.2.2.2.2.2.1 k0_t10 r
theorem k0_off56_inb : ∀ (i : grid0.Coords) (v36 : BitVec 32) (k0_hw3 : k0_chk3 i v36) (k0_t10 : Fin (k0_t10_loop v36).trips), ∀ (r : Fin 2), ∀ a, (k0_off56 v36 k0_t10 (BitVec.ofNat 32 (2 * r.val))) a + S1x1x128.size a ≤ S4x1024x128.size a := fun i v36 k0_hw3 k0_t10 r => k0_hw3.2.2.2.2.2.2.2.2.2.2.1 k0_t10 r
theorem k0_off57_inb : ∀ (i : grid0.Coords) (v36 : BitVec 32) (k0_hw3 : k0_chk3 i v36) (k0_t10 : Fin (k0_t10_loop v36).trips), ∀ (r : Fin 2), ∀ a, (k0_off57 v36 k0_t10 (BitVec.ofNat 32 (2 * r.val))) a + S1x1x128.size a ≤ S4x1024x128.size a := fun i v36 k0_hw3 k0_t10 r => k0_hw3.2.2.2.2.2.2.2.2.2.2.2.1 k0_t10 r
theorem k0_off58_inb : ∀ (i : grid0.Coords) (v36 : BitVec 32) (k0_hw3 : k0_chk3 i v36) (k0_t10 : Fin (k0_t10_loop v36).trips), ∀ (r : Fin 4), ∀ a, (k0_off58 v36 k0_t10 (BitVec.ofNat 32 r.val)) a + S1x128.size a ≤ S1024x128.size a := fun i v36 k0_hw3 k0_t10 r => k0_hw3.2.2.2.2.2.2.2.2.2.2.2.2 k0_t10 r

@[reducible] def k0_t11_loop (v46 : BitVec 32) : Scf.Loop 32 :=
  let c0_i32_129 : BitVec 32 := 0#32
  let c255_i32 : BitVec 32 := 255#32
  let v47 : BitVec 32 := Scalar.addi v46 c255_i32
  let c256_i32 : BitVec 32 := 256#32
  let v48 : BitVec 32 := Scalar.divsi v47 c256_i32
  let v284 : BitVec 32 := Scalar.subi v48 c0_i32_129
  let c1_i32_131 : BitVec 32 := 1#32
  let v286 : BitVec 32 := Scalar.divsi v284 c1_i32_131
  let v287 : BitVec 32 := Scalar.muli v286 c1_i32_131
  let v288 : BitVec 32 := Scalar.addi c0_i32_129 v287
  let c1_i32_132 : BitVec 32 := 1#32
  ⟨c0_i32_129, v288, c1_i32_132⟩
def k0_mult7 (v46 : BitVec 32) (k0_t11 : Fin (k0_t11_loop v46).trips) : BitVec 32 :=
  let c0_i32_129 : BitVec 32 := 0#32
  let c1_i32_132 : BitVec 32 := 1#32
  let arg19 : BitVec 32 := Scf.iv c0_i32_129 c1_i32_132 k0_t11
  let c256_i32_135 : BitVec 32 := 256#32
  let v291 : BitVec 32 := Scalar.muli arg19 c256_i32_135
  v291
def k0_off59 (v46 : BitVec 32) (k0_t11 : Fin (k0_t11_loop v46).trips) : Fin 2 → Nat :=
  let c0_i32_129 : BitVec 32 := 0#32
  let c1_i32_132 : BitVec 32 := 1#32
  let arg19 : BitVec 32 := Scf.iv c0_i32_129 c1_i32_132 k0_t11
  let c256_i32_135 : BitVec 32 := 256#32
  let v291 : BitVec 32 := Scalar.muli arg19 c256_i32_135
  let v292 : BitVec 32 := v291
  let v293 : Index := Scalar.indexCast v292
  let c0_136 : Index := 0#32
  ![v293.toNat, 0]
@[reducible] def k0_t12_loop (v46 : BitVec 32) : Scf.Loop 32 :=
  let c0_i32_129 : BitVec 32 := 0#32
  let c255_i32 : BitVec 32 := 255#32
  let v47 : BitVec 32 := Scalar.addi v46 c255_i32
  let c256_i32 : BitVec 32 := 256#32
  let v48 : BitVec 32 := Scalar.divsi v47 c256_i32
  let v284 : BitVec 32 := Scalar.subi v48 c0_i32_129
  let c1_i32_131 : BitVec 32 := 1#32
  let v286 : BitVec 32 := Scalar.divsi v284 c1_i32_131
  let v287 : BitVec 32 := Scalar.muli v286 c1_i32_131
  let v288 : BitVec 32 := Scalar.addi c0_i32_129 v287
  let v285 : BitVec 32 := Scalar.addi c0_i32_129 v284
  let c1_i32_133 : BitVec 32 := 1#32
  ⟨v288, v285, c1_i32_133⟩
def k0_mult8 (v46 : BitVec 32) (k0_t12 : Fin (k0_t12_loop v46).trips) : BitVec 32 :=
  let c0_i32_129 : BitVec 32 := 0#32
  let c255_i32 : BitVec 32 := 255#32
  let v47 : BitVec 32 := Scalar.addi v46 c255_i32
  let c256_i32 : BitVec 32 := 256#32
  let v48 : BitVec 32 := Scalar.divsi v47 c256_i32
  let v284 : BitVec 32 := Scalar.subi v48 c0_i32_129
  let c1_i32_131 : BitVec 32 := 1#32
  let v286 : BitVec 32 := Scalar.divsi v284 c1_i32_131
  let v287 : BitVec 32 := Scalar.muli v286 c1_i32_131
  let v288 : BitVec 32 := Scalar.addi c0_i32_129 v287
  let c1_i32_133 : BitVec 32 := 1#32
  let arg19 : BitVec 32 := Scf.iv v288 c1_i32_133 k0_t12
  let c256_i32_135 : BitVec 32 := 256#32
  let v291 : BitVec 32 := Scalar.muli arg19 c256_i32_135
  v291
def k0_off60 (v46 : BitVec 32) (k0_t12 : Fin (k0_t12_loop v46).trips) : Fin 2 → Nat :=
  let c0_i32_129 : BitVec 32 := 0#32
  let c255_i32 : BitVec 32 := 255#32
  let v47 : BitVec 32 := Scalar.addi v46 c255_i32
  let c256_i32 : BitVec 32 := 256#32
  let v48 : BitVec 32 := Scalar.divsi v47 c256_i32
  let v284 : BitVec 32 := Scalar.subi v48 c0_i32_129
  let c1_i32_131 : BitVec 32 := 1#32
  let v286 : BitVec 32 := Scalar.divsi v284 c1_i32_131
  let v287 : BitVec 32 := Scalar.muli v286 c1_i32_131
  let v288 : BitVec 32 := Scalar.addi c0_i32_129 v287
  let c1_i32_133 : BitVec 32 := 1#32
  let arg19 : BitVec 32 := Scf.iv v288 c1_i32_133 k0_t12
  let c256_i32_135 : BitVec 32 := 256#32
  let v291 : BitVec 32 := Scalar.muli arg19 c256_i32_135
  let v292 : BitVec 32 := v291
  let v293 : Index := Scalar.indexCast v292
  let c0_136 : Index := 0#32
  ![v293.toNat, 0]

def k0_chk4 (v36 : BitVec 32) (v46 : BitVec 32) : Prop :=
  ((k0_t5_loop v46).OK) ∧
  (∀ k0_t5 : Fin (k0_t5_loop v46).trips, 256 ∣ (k0_mult3 v46 k0_t5).toNat) ∧
  (∀ k0_t5 : Fin (k0_t5_loop v46).trips, ∀ a, (k0_off37 v46 k0_t5) a + S256x128.size a ≤ S3840x128.size a) ∧
  ((k0_t6_loop v46).OK) ∧
  (∀ k0_t6 : Fin (k0_t6_loop v46).trips, 256 ∣ (k0_mult4 v46 k0_t6).toNat) ∧
  (∀ k0_t6 : Fin (k0_t6_loop v46).trips, ∀ a, (k0_off38 v46 k0_t6) a + S256x128.size a ≤ S3840x128.size a) ∧
  (∀ k0_t7 : Fin (k0_t7_loop v36).trips, (k0_t8_loop v46).OK) ∧
  (∀ (k0_t7 : Fin (k0_t7_loop v36).trips) (k0_t8 : Fin (k0_t8_loop v46).trips), 256 ∣ (k0_mult5 v46 k0_t8).toNat) ∧
  (∀ (k0_t7 : Fin (k0_t7_loop v36).trips) (k0_t8 : Fin (k0_t8_loop v46).trips), ∀ a, (k0_off48 v46 k0_t8) a + S256x128.size a ≤ S3840x128.size a) ∧
  (∀ k0_t7 : Fin (k0_t7_loop v36).trips, (k0_t9_loop v46).OK) ∧
  (∀ (k0_t7 : Fin (k0_t7_loop v36).trips) (k0_t9 : Fin (k0_t9_loop v46).trips), 256 ∣ (k0_mult6 v46 k0_t9).toNat) ∧
  (∀ (k0_t7 : Fin (k0_t7_loop v36).trips) (k0_t9 : Fin (k0_t9_loop v46).trips), ∀ a, (k0_off49 v46 k0_t9) a + S256x128.size a ≤ S3840x128.size a) ∧
  (∀ k0_t10 : Fin (k0_t10_loop v36).trips, (k0_t11_loop v46).OK) ∧
  (∀ (k0_t10 : Fin (k0_t10_loop v36).trips) (k0_t11 : Fin (k0_t11_loop v46).trips), 256 ∣ (k0_mult7 v46 k0_t11).toNat) ∧
  (∀ (k0_t10 : Fin (k0_t10_loop v36).trips) (k0_t11 : Fin (k0_t11_loop v46).trips), ∀ a, (k0_off59 v46 k0_t11) a + S256x128.size a ≤ S3840x128.size a) ∧
  (∀ k0_t10 : Fin (k0_t10_loop v36).trips, (k0_t12_loop v46).OK) ∧
  (∀ (k0_t10 : Fin (k0_t10_loop v36).trips) (k0_t12 : Fin (k0_t12_loop v46).trips), 256 ∣ (k0_mult8 v46 k0_t12).toNat) ∧
  (∀ (k0_t10 : Fin (k0_t10_loop v36).trips) (k0_t12 : Fin (k0_t12_loop v46).trips), ∀ a, (k0_off60 v46 k0_t12) a + S256x128.size a ≤ S3840x128.size a)
theorem k0_t5_ok : ∀ (v36 : BitVec 32) (v46 : BitVec 32) (k0_hw4 : k0_chk4 v36 v46), (k0_t5_loop v46).OK := fun v36 v46 k0_hw4 => k0_hw4.1
theorem k0_mult3_dvd : ∀ (v36 : BitVec 32) (v46 : BitVec 32) (k0_hw4 : k0_chk4 v36 v46) (k0_t5 : Fin (k0_t5_loop v46).trips), 256 ∣ (k0_mult3 v46 k0_t5).toNat := fun v36 v46 k0_hw4 k0_t5 => k0_hw4.2.1 k0_t5
theorem k0_off37_inb : ∀ (v36 : BitVec 32) (v46 : BitVec 32) (k0_hw4 : k0_chk4 v36 v46) (k0_t5 : Fin (k0_t5_loop v46).trips), ∀ a, (k0_off37 v46 k0_t5) a + S256x128.size a ≤ S3840x128.size a := fun v36 v46 k0_hw4 k0_t5 => k0_hw4.2.2.1 k0_t5
theorem k0_t6_ok : ∀ (v36 : BitVec 32) (v46 : BitVec 32) (k0_hw4 : k0_chk4 v36 v46), (k0_t6_loop v46).OK := fun v36 v46 k0_hw4 => k0_hw4.2.2.2.1
theorem k0_mult4_dvd : ∀ (v36 : BitVec 32) (v46 : BitVec 32) (k0_hw4 : k0_chk4 v36 v46) (k0_t6 : Fin (k0_t6_loop v46).trips), 256 ∣ (k0_mult4 v46 k0_t6).toNat := fun v36 v46 k0_hw4 k0_t6 => k0_hw4.2.2.2.2.1 k0_t6
theorem k0_off38_inb : ∀ (v36 : BitVec 32) (v46 : BitVec 32) (k0_hw4 : k0_chk4 v36 v46) (k0_t6 : Fin (k0_t6_loop v46).trips), ∀ a, (k0_off38 v46 k0_t6) a + S256x128.size a ≤ S3840x128.size a := fun v36 v46 k0_hw4 k0_t6 => k0_hw4.2.2.2.2.2.1 k0_t6
theorem k0_t8_ok : ∀ (v36 : BitVec 32) (v46 : BitVec 32) (k0_hw4 : k0_chk4 v36 v46) (k0_t7 : Fin (k0_t7_loop v36).trips), (k0_t8_loop v46).OK := fun v36 v46 k0_hw4 k0_t7 => k0_hw4.2.2.2.2.2.2.1 k0_t7
theorem k0_mult5_dvd : ∀ (v36 : BitVec 32) (v46 : BitVec 32) (k0_hw4 : k0_chk4 v36 v46) (k0_t7 : Fin (k0_t7_loop v36).trips) (k0_t8 : Fin (k0_t8_loop v46).trips), 256 ∣ (k0_mult5 v46 k0_t8).toNat := fun v36 v46 k0_hw4 k0_t7 k0_t8 => k0_hw4.2.2.2.2.2.2.2.1 k0_t7 k0_t8
theorem k0_off48_inb : ∀ (v36 : BitVec 32) (v46 : BitVec 32) (k0_hw4 : k0_chk4 v36 v46) (k0_t7 : Fin (k0_t7_loop v36).trips) (k0_t8 : Fin (k0_t8_loop v46).trips), ∀ a, (k0_off48 v46 k0_t8) a + S256x128.size a ≤ S3840x128.size a := fun v36 v46 k0_hw4 k0_t7 k0_t8 => k0_hw4.2.2.2.2.2.2.2.2.1 k0_t7 k0_t8
theorem k0_t9_ok : ∀ (v36 : BitVec 32) (v46 : BitVec 32) (k0_hw4 : k0_chk4 v36 v46) (k0_t7 : Fin (k0_t7_loop v36).trips), (k0_t9_loop v46).OK := fun v36 v46 k0_hw4 k0_t7 => k0_hw4.2.2.2.2.2.2.2.2.2.1 k0_t7
theorem k0_mult6_dvd : ∀ (v36 : BitVec 32) (v46 : BitVec 32) (k0_hw4 : k0_chk4 v36 v46) (k0_t7 : Fin (k0_t7_loop v36).trips) (k0_t9 : Fin (k0_t9_loop v46).trips), 256 ∣ (k0_mult6 v46 k0_t9).toNat := fun v36 v46 k0_hw4 k0_t7 k0_t9 => k0_hw4.2.2.2.2.2.2.2.2.2.2.1 k0_t7 k0_t9
theorem k0_off49_inb : ∀ (v36 : BitVec 32) (v46 : BitVec 32) (k0_hw4 : k0_chk4 v36 v46) (k0_t7 : Fin (k0_t7_loop v36).trips) (k0_t9 : Fin (k0_t9_loop v46).trips), ∀ a, (k0_off49 v46 k0_t9) a + S256x128.size a ≤ S3840x128.size a := fun v36 v46 k0_hw4 k0_t7 k0_t9 => k0_hw4.2.2.2.2.2.2.2.2.2.2.2.1 k0_t7 k0_t9
theorem k0_t11_ok : ∀ (v36 : BitVec 32) (v46 : BitVec 32) (k0_hw4 : k0_chk4 v36 v46) (k0_t10 : Fin (k0_t10_loop v36).trips), (k0_t11_loop v46).OK := fun v36 v46 k0_hw4 k0_t10 => k0_hw4.2.2.2.2.2.2.2.2.2.2.2.2.1 k0_t10
theorem k0_mult7_dvd : ∀ (v36 : BitVec 32) (v46 : BitVec 32) (k0_hw4 : k0_chk4 v36 v46) (k0_t10 : Fin (k0_t10_loop v36).trips) (k0_t11 : Fin (k0_t11_loop v46).trips), 256 ∣ (k0_mult7 v46 k0_t11).toNat := fun v36 v46 k0_hw4 k0_t10 k0_t11 => k0_hw4.2.2.2.2.2.2.2.2.2.2.2.2.2.1 k0_t10 k0_t11
theorem k0_off59_inb : ∀ (v36 : BitVec 32) (v46 : BitVec 32) (k0_hw4 : k0_chk4 v36 v46) (k0_t10 : Fin (k0_t10_loop v36).trips) (k0_t11 : Fin (k0_t11_loop v46).trips), ∀ a, (k0_off59 v46 k0_t11) a + S256x128.size a ≤ S3840x128.size a := fun v36 v46 k0_hw4 k0_t10 k0_t11 => k0_hw4.2.2.2.2.2.2.2.2.2.2.2.2.2.2.1 k0_t10 k0_t11
theorem k0_t12_ok : ∀ (v36 : BitVec 32) (v46 : BitVec 32) (k0_hw4 : k0_chk4 v36 v46) (k0_t10 : Fin (k0_t10_loop v36).trips), (k0_t12_loop v46).OK := fun v36 v46 k0_hw4 k0_t10 => k0_hw4.2.2.2.2.2.2.2.2.2.2.2.2.2.2.2.1 k0_t10
theorem k0_mult8_dvd : ∀ (v36 : BitVec 32) (v46 : BitVec 32) (k0_hw4 : k0_chk4 v36 v46) (k0_t10 : Fin (k0_t10_loop v36).trips) (k0_t12 : Fin (k0_t12_loop v46).trips), 256 ∣ (k0_mult8 v46 k0_t12).toNat := fun v36 v46 k0_hw4 k0_t10 k0_t12 => k0_hw4.2.2.2.2.2.2.2.2.2.2.2.2.2.2.2.2.1 k0_t10 k0_t12
theorem k0_off60_inb : ∀ (v36 : BitVec 32) (v46 : BitVec 32) (k0_hw4 : k0_chk4 v36 v46) (k0_t10 : Fin (k0_t10_loop v36).trips) (k0_t12 : Fin (k0_t12_loop v46).trips), ∀ a, (k0_off60 v46 k0_t12) a + S256x128.size a ≤ S3840x128.size a := fun v36 v46 k0_hw4 k0_t10 k0_t12 => k0_hw4.2.2.2.2.2.2.2.2.2.2.2.2.2.2.2.2.2 k0_t10 k0_t12

def k0_cond3 (i : grid0.Coords) : BitVec 1 :=
  let arg0 : BitVec 32 := BitVec.ofNat 32 (i 0).val
  let c0_i32_40 : BitVec 32 := 0#32
  let v66 : BitVec 1 := Scalar.cmpi .sgt arg0 c0_i32_40
  let v67 : BitVec 32 := Scalar.extui v66
  let c0_i32_41 : BitVec 32 := 0#32
  let v68 : BitVec 1 := Scalar.cmpi .ne v67 c0_i32_41
  v68

@[reducible] def k0_t13_loop : Scf.Loop 32 :=
  let c0_i32_55 : BitVec 32 := 0#32
  let c128_i32_56 : BitVec 32 := 128#32
  let v83 : BitVec 32 := Scalar.addi c0_i32_55 c128_i32_56
  let c1_i32_57 : BitVec 32 := 1#32
  ⟨c0_i32_55, v83, c1_i32_57⟩
def k0_off61 (i : grid0.Coords) (k0_t13 : Fin k0_t13_loop.trips) : Fin 1 → Nat :=
  let arg0 : BitVec 32 := BitVec.ofNat 32 (i 0).val
  let c128_i32_59 : BitVec 32 := 128#32
  let v84 : BitVec 32 := Scalar.muli arg0 c128_i32_59
  let c0_i32_55 : BitVec 32 := 0#32
  let c1_i32_57 : BitVec 32 := 1#32
  let arg17 : BitVec 32 := Scf.iv c0_i32_55 c1_i32_57 k0_t13
  let v85 : BitVec 32 := Scalar.addi v84 arg17
  let v86 : Index := Scalar.indexCast v85
  ![v86.toNat]
def k0_off62 (v87 : BitVec 32) : Fin 3 → Nat :=
  let c0_i32_60 : BitVec 32 := 0#32
  let c0_i32_61 : BitVec 32 := 0#32
  ![v87.toNat, 0, 0]

def k0_chk5 (i : grid0.Coords) (v87 : BitVec 32) : Prop :=
  (∀ (k0_h3 : k0_cond3 i = 1#1), ∀ a, (k0_off62 v87) a + S1x1x3840.size a ≤ S4096x1x3840.size a)
theorem k0_off62_inb : ∀ (i : grid0.Coords) (v87 : BitVec 32) (k0_hw5 : k0_chk5 i v87), ∀ (k0_h3 : k0_cond3 i = 1#1), ∀ a, (k0_off62 v87) a + S1x1x3840.size a ≤ S4096x1x3840.size a := fun i v87 k0_hw5 k0_h3 => k0_hw5 k0_h3

def k0_off63 (k0_t13 : Fin k0_t13_loop.trips) : Fin 3 → Nat :=
  let c0_i32_55 : BitVec 32 := 0#32
  let c1_i32_57 : BitVec 32 := 1#32
  let arg17 : BitVec 32 := Scf.iv c0_i32_55 c1_i32_57 k0_t13
  let c0_i32_62 : BitVec 32 := 0#32
  let c0_i32_63 : BitVec 32 := 0#32
  ![arg17.toNat, 0, 0]
@[reducible] def k0_t14_loop (v69 : BitVec 32) : Scf.Loop 32 :=
  let c0_i32_45 : BitVec 32 := 0#32
  let c127_i32_43 : BitVec 32 := 127#32
  let v70 : BitVec 32 := Scalar.addi v69 c127_i32_43
  let c128_i32_44 : BitVec 32 := 128#32
  let v71 : BitVec 32 := Scalar.divsi v70 c128_i32_44
  let v72 : BitVec 32 := Scalar.subi v71 c0_i32_45
  let c1_i32_47 : BitVec 32 := 1#32
  let v74 : BitVec 32 := Scalar.divsi v72 c1_i32_47
  let v75 : BitVec 32 := Scalar.muli v74 c1_i32_47
  let v76 : BitVec 32 := Scalar.addi c0_i32_45 v75
  let c1_i32_48 : BitVec 32 := 1#32
  ⟨c0_i32_45, v76, c1_i32_48⟩

def k0_mult9 (v69 : BitVec 32) (k0_t14 : Fin (k0_t14_loop v69).trips) : BitVec 32 :=
  let c0_i32_45 : BitVec 32 := 0#32
  let c1_i32_48 : BitVec 32 := 1#32
  let arg17 : BitVec 32 := Scf.iv c0_i32_45 c1_i32_48 k0_t14
  let c128_i32_55 : BitVec 32 := 128#32
  let v83 : BitVec 32 := Scalar.muli arg17 c128_i32_55
  v83
def k0_off64 (v69 : BitVec 32) (k0_t14 : Fin (k0_t14_loop v69).trips) : Fin 2 → Nat :=
  let c0_i32_45 : BitVec 32 := 0#32
  let c1_i32_48 : BitVec 32 := 1#32
  let arg17 : BitVec 32 := Scf.iv c0_i32_45 c1_i32_48 k0_t14
  let c128_i32_55 : BitVec 32 := 128#32
  let v83 : BitVec 32 := Scalar.muli arg17 c128_i32_55
  let v84 : BitVec 32 := v83
  let v85 : Index := Scalar.indexCast v84
  let c0_56 : Index := 0#32
  ![v85.toNat, 0]
def k0_off65 (v69 : BitVec 32) (k0_t14 : Fin (k0_t14_loop v69).trips) : Fin 3 → Nat :=
  let c0_57 : Index := 0#32
  let c0_58 : Index := 0#32
  let c0_i32_45 : BitVec 32 := 0#32
  let c1_i32_48 : BitVec 32 := 1#32
  let arg17 : BitVec 32 := Scf.iv c0_i32_45 c1_i32_48 k0_t14
  let c128_i32_55 : BitVec 32 := 128#32
  let v83 : BitVec 32 := Scalar.muli arg17 c128_i32_55
  let v84 : BitVec 32 := v83
  let v88 : Index := Scalar.indexCast v84
  ![0, 0, v88.toNat]
@[reducible] def k0_t15_loop (v69 : BitVec 32) : Scf.Loop 32 :=
  let c0_i32_45 : BitVec 32 := 0#32
  let c127_i32_43 : BitVec 32 := 127#32
  let v70 : BitVec 32 := Scalar.addi v69 c127_i32_43
  let c128_i32_44 : BitVec 32 := 128#32
  let v71 : BitVec 32 := Scalar.divsi v70 c128_i32_44
  let v72 : BitVec 32 := Scalar.subi v71 c0_i32_45
  let c1_i32_47 : BitVec 32 := 1#32
  let v74 : BitVec 32 := Scalar.divsi v72 c1_i32_47
  let v75 : BitVec 32 := Scalar.muli v74 c1_i32_47
  let v76 : BitVec 32 := Scalar.addi c0_i32_45 v75
  let v73 : BitVec 32 := Scalar.addi c0_i32_45 v72
  let c1_i32_49 : BitVec 32 := 1#32
  ⟨v76, v73, c1_i32_49⟩
def k0_mult10 (v69 : BitVec 32) (k0_t15 : Fin (k0_t15_loop v69).trips) : BitVec 32 :=
  let c0_i32_45 : BitVec 32 := 0#32
  let c127_i32_43 : BitVec 32 := 127#32
  let v70 : BitVec 32 := Scalar.addi v69 c127_i32_43
  let c128_i32_44 : BitVec 32 := 128#32
  let v71 : BitVec 32 := Scalar.divsi v70 c128_i32_44
  let v72 : BitVec 32 := Scalar.subi v71 c0_i32_45
  let c1_i32_47 : BitVec 32 := 1#32
  let v74 : BitVec 32 := Scalar.divsi v72 c1_i32_47
  let v75 : BitVec 32 := Scalar.muli v74 c1_i32_47
  let v76 : BitVec 32 := Scalar.addi c0_i32_45 v75
  let c1_i32_49 : BitVec 32 := 1#32
  let arg17 : BitVec 32 := Scf.iv v76 c1_i32_49 k0_t15
  let c128_i32_55 : BitVec 32 := 128#32
  let v83 : BitVec 32 := Scalar.muli arg17 c128_i32_55
  v83
def k0_off66 (v69 : BitVec 32) (k0_t15 : Fin (k0_t15_loop v69).trips) : Fin 2 → Nat :=
  let c0_i32_45 : BitVec 32 := 0#32
  let c127_i32_43 : BitVec 32 := 127#32
  let v70 : BitVec 32 := Scalar.addi v69 c127_i32_43
  let c128_i32_44 : BitVec 32 := 128#32
  let v71 : BitVec 32 := Scalar.divsi v70 c128_i32_44
  let v72 : BitVec 32 := Scalar.subi v71 c0_i32_45
  let c1_i32_47 : BitVec 32 := 1#32
  let v74 : BitVec 32 := Scalar.divsi v72 c1_i32_47
  let v75 : BitVec 32 := Scalar.muli v74 c1_i32_47
  let v76 : BitVec 32 := Scalar.addi c0_i32_45 v75
  let c1_i32_49 : BitVec 32 := 1#32
  let arg17 : BitVec 32 := Scf.iv v76 c1_i32_49 k0_t15
  let c128_i32_55 : BitVec 32 := 128#32
  let v83 : BitVec 32 := Scalar.muli arg17 c128_i32_55
  let v84 : BitVec 32 := v83
  let v85 : Index := Scalar.indexCast v84
  let c0_56 : Index := 0#32
  ![v85.toNat, 0]
def k0_off67 (v69 : BitVec 32) (k0_t15 : Fin (k0_t15_loop v69).trips) : Fin 3 → Nat :=
  let c0_57 : Index := 0#32
  let c0_58 : Index := 0#32
  let c0_i32_45 : BitVec 32 := 0#32
  let c127_i32_43 : BitVec 32 := 127#32
  let v70 : BitVec 32 := Scalar.addi v69 c127_i32_43
  let c128_i32_44 : BitVec 32 := 128#32
  let v71 : BitVec 32 := Scalar.divsi v70 c128_i32_44
  let v72 : BitVec 32 := Scalar.subi v71 c0_i32_45
  let c1_i32_47 : BitVec 32 := 1#32
  let v74 : BitVec 32 := Scalar.divsi v72 c1_i32_47
  let v75 : BitVec 32 := Scalar.muli v74 c1_i32_47
  let v76 : BitVec 32 := Scalar.addi c0_i32_45 v75
  let c1_i32_49 : BitVec 32 := 1#32
  let arg17 : BitVec 32 := Scf.iv v76 c1_i32_49 k0_t15
  let c128_i32_55 : BitVec 32 := 128#32
  let v83 : BitVec 32 := Scalar.muli arg17 c128_i32_55
  let v84 : BitVec 32 := v83
  let v88 : Index := Scalar.indexCast v84
  ![0, 0, v88.toNat]

def k0_chk6 (v69 : BitVec 32) : Prop :=
  ((k0_t14_loop v69).OK) ∧
  (∀ k0_t14 : Fin (k0_t14_loop v69).trips, 128 ∣ (k0_mult9 v69 k0_t14).toNat) ∧
  (∀ k0_t14 : Fin (k0_t14_loop v69).trips, ∀ a, (k0_off64 v69 k0_t14) a + S128x128.size a ≤ S3840x128.size a) ∧
  (∀ k0_t14 : Fin (k0_t14_loop v69).trips, ∀ a, (k0_off65 v69 k0_t14) a + S128x1x128.size a ≤ S128x1x3840.size a) ∧
  ((k0_t15_loop v69).OK) ∧
  (∀ k0_t15 : Fin (k0_t15_loop v69).trips, 128 ∣ (k0_mult10 v69 k0_t15).toNat) ∧
  (∀ k0_t15 : Fin (k0_t15_loop v69).trips, ∀ a, (k0_off66 v69 k0_t15) a + S128x128.size a ≤ S3840x128.size a) ∧
  (∀ k0_t15 : Fin (k0_t15_loop v69).trips, ∀ a, (k0_off67 v69 k0_t15) a + S128x1x128.size a ≤ S128x1x3840.size a)
theorem k0_t14_ok : ∀ (v69 : BitVec 32) (k0_hw6 : k0_chk6 v69), (k0_t14_loop v69).OK := fun v69 k0_hw6 => k0_hw6.1
theorem k0_mult9_dvd : ∀ (v69 : BitVec 32) (k0_hw6 : k0_chk6 v69) (k0_t14 : Fin (k0_t14_loop v69).trips), 128 ∣ (k0_mult9 v69 k0_t14).toNat := fun v69 k0_hw6 k0_t14 => k0_hw6.2.1 k0_t14
theorem k0_off64_inb : ∀ (v69 : BitVec 32) (k0_hw6 : k0_chk6 v69) (k0_t14 : Fin (k0_t14_loop v69).trips), ∀ a, (k0_off64 v69 k0_t14) a + S128x128.size a ≤ S3840x128.size a := fun v69 k0_hw6 k0_t14 => k0_hw6.2.2.1 k0_t14
theorem k0_off65_inb : ∀ (v69 : BitVec 32) (k0_hw6 : k0_chk6 v69) (k0_t14 : Fin (k0_t14_loop v69).trips), ∀ a, (k0_off65 v69 k0_t14) a + S128x1x128.size a ≤ S128x1x3840.size a := fun v69 k0_hw6 k0_t14 => k0_hw6.2.2.2.1 k0_t14
theorem k0_t15_ok : ∀ (v69 : BitVec 32) (k0_hw6 : k0_chk6 v69), (k0_t15_loop v69).OK := fun v69 k0_hw6 => k0_hw6.2.2.2.2.1
theorem k0_mult10_dvd : ∀ (v69 : BitVec 32) (k0_hw6 : k0_chk6 v69) (k0_t15 : Fin (k0_t15_loop v69).trips), 128 ∣ (k0_mult10 v69 k0_t15).toNat := fun v69 k0_hw6 k0_t15 => k0_hw6.2.2.2.2.2.1 k0_t15
theorem k0_off66_inb : ∀ (v69 : BitVec 32) (k0_hw6 : k0_chk6 v69) (k0_t15 : Fin (k0_t15_loop v69).trips), ∀ a, (k0_off66 v69 k0_t15) a + S128x128.size a ≤ S3840x128.size a := fun v69 k0_hw6 k0_t15 => k0_hw6.2.2.2.2.2.2.1 k0_t15
theorem k0_off67_inb : ∀ (v69 : BitVec 32) (k0_hw6 : k0_chk6 v69) (k0_t15 : Fin (k0_t15_loop v69).trips), ∀ a, (k0_off67 v69 k0_t15) a + S128x1x128.size a ≤ S128x1x3840.size a := fun v69 k0_hw6 k0_t15 => k0_hw6.2.2.2.2.2.2.2 k0_t15

@[reducible] def k0_t16_loop : Scf.Loop 32 :=
  let c0_i32_50 : BitVec 32 := 0#32
  let c128_i32_51 : BitVec 32 := 128#32
  let v79 : BitVec 32 := Scalar.addi c0_i32_50 c128_i32_51
  let c1_i32_52 : BitVec 32 := 1#32
  ⟨c0_i32_50, v79, c1_i32_52⟩
def k0_off68 (i : grid0.Coords) (k0_t16 : Fin k0_t16_loop.trips) : Fin 1 → Nat :=
  let arg0 : BitVec 32 := BitVec.ofNat 32 (i 0).val
  let c128_i32_55 : BitVec 32 := 128#32
  let v83 : BitVec 32 := Scalar.muli arg0 c128_i32_55
  let c0_i32_50 : BitVec 32 := 0#32
  let c1_i32_52 : BitVec 32 := 1#32
  let arg17 : BitVec 32 := Scf.iv c0_i32_50 c1_i32_52 k0_t16
  let v84 : BitVec 32 := Scalar.addi v83 arg17
  let v85 : Index := Scalar.indexCast v84
  ![v85.toNat]
def k0_off69 (v86 : BitVec 32) : Fin 3 → Nat :=
  let c0_i32_56 : BitVec 32 := 0#32
  let c0_i32_57 : BitVec 32 := 0#32
  ![v86.toNat, 0, 0]

def k0_chk7 (v86 : BitVec 32) : Prop :=
  (∀ a, (k0_off69 v86) a + S1x1x3840.size a ≤ S4096x1x3840.size a)
theorem k0_off69_inb : ∀ (v86 : BitVec 32) (k0_hw7 : k0_chk7 v86), ∀ a, (k0_off69 v86) a + S1x1x3840.size a ≤ S4096x1x3840.size a := fun v86 k0_hw7 => k0_hw7

def k0_off70 (k0_t16 : Fin k0_t16_loop.trips) : Fin 3 → Nat :=
  let c0_i32_50 : BitVec 32 := 0#32
  let c1_i32_52 : BitVec 32 := 1#32
  let arg17 : BitVec 32 := Scf.iv c0_i32_50 c1_i32_52 k0_t16
  let c0_i32_58 : BitVec 32 := 0#32
  let c0_i32_59 : BitVec 32 := 0#32
  ![arg17.toNat, 0, 0]
def k0_cond4 (i : grid0.Coords) : BitVec 1 :=
  let arg0 : BitVec 32 := BitVec.ofNat 32 (i 0).val
  let c31_i32 : BitVec 32 := 31#32
  let v80 : BitVec 1 := Scalar.cmpi .eq arg0 c31_i32
  let v81 : BitVec 32 := Scalar.extui v80
  let c0_i32_54 : BitVec 32 := 0#32
  let v82 : BitVec 1 := Scalar.cmpi .ne v81 c0_i32_54
  v82

@[reducible] def k0_t17_loop : Scf.Loop 32 :=
  let c0_i32_55 : BitVec 32 := 0#32
  let c128_i32_56 : BitVec 32 := 128#32
  let v83 : BitVec 32 := Scalar.addi c0_i32_55 c128_i32_56
  let c1_i32_57 : BitVec 32 := 1#32
  ⟨c0_i32_55, v83, c1_i32_57⟩
def k0_off71 (i : grid0.Coords) (k0_t17 : Fin k0_t17_loop.trips) : Fin 1 → Nat :=
  let arg0 : BitVec 32 := BitVec.ofNat 32 (i 0).val
  let c128_i32_59 : BitVec 32 := 128#32
  let v84 : BitVec 32 := Scalar.muli arg0 c128_i32_59
  let c0_i32_55 : BitVec 32 := 0#32
  let c1_i32_57 : BitVec 32 := 1#32
  let arg17 : BitVec 32 := Scf.iv c0_i32_55 c1_i32_57 k0_t17
  let v85 : BitVec 32 := Scalar.addi v84 arg17
  let v86 : Index := Scalar.indexCast v85
  ![v86.toNat]
def k0_off72 (v87 : BitVec 32) : Fin 3 → Nat :=
  let c0_i32_60 : BitVec 32 := 0#32
  let c0_i32_61 : BitVec 32 := 0#32
  ![v87.toNat, 0, 0]

def k0_chk8 (i : grid0.Coords) (v87 : BitVec 32) : Prop :=
  (∀ (k0_h4 : k0_cond4 i = 1#1), ∀ a, (k0_off72 v87) a + S1x1x3840.size a ≤ S4096x1x3840.size a)
theorem k0_off72_inb : ∀ (i : grid0.Coords) (v87 : BitVec 32) (k0_hw8 : k0_chk8 i v87), ∀ (k0_h4 : k0_cond4 i = 1#1), ∀ a, (k0_off72 v87) a + S1x1x3840.size a ≤ S4096x1x3840.size a := fun i v87 k0_hw8 k0_h4 => k0_hw8 k0_h4

def k0_off73 (k0_t17 : Fin k0_t17_loop.trips) : Fin 3 → Nat :=
  let c0_i32_55 : BitVec 32 := 0#32
  let c1_i32_57 : BitVec 32 := 1#32
  let arg17 : BitVec 32 := Scf.iv c0_i32_55 c1_i32_57 k0_t17
  let c0_i32_62 : BitVec 32 := 0#32
  let c0_i32_63 : BitVec 32 := 0#32
  ![arg17.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3840x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S1 : Shape := ⟨1, ![1]⟩
abbrev S4096 : Shape := ⟨1, ![4096]⟩
abbrev S3840x128 : Shape := ⟨2, ![3840, 128]⟩
abbrev S4096x4x1024 : Shape := ⟨3, ![4096, 4, 1024]⟩
abbrev S4096x1024 : Shape := ⟨2, ![4096, 1024]⟩
abbrev S3840x4x8x4 : Shape := ⟨4, ![3840, 4, 8, 4]⟩
abbrev S3840x4x4x8 : Shape := ⟨4, ![3840, 4, 4, 8]⟩
abbrev S32 : Shape := ⟨1, ![32]⟩
abbrev S1024 : Shape := ⟨1, ![1024]⟩
abbrev S1x1024 : Shape := ⟨2, ![1, 1024]⟩
abbrev S4096x1 : Shape := ⟨2, ![4096, 1]⟩
abbrev S4096x1x1024 : Shape := ⟨3, ![4096, 1, 1024]⟩
abbrev S4096x4x1 : Shape := ⟨3, ![4096, 4, 1]⟩
abbrev S4096x4x1x1024 : Shape := ⟨4, ![4096, 4, 1, 1024]⟩
abbrev S1x1x32x1 : Shape := ⟨4, ![1, 1, 32, 1]⟩
abbrev S4096x4x32x1024 : Shape := ⟨4, ![4096, 4, 32, 1024]⟩
abbrev S_ : Shape := ⟨0, ![]⟩
abbrev S4096x128x1024 : Shape := ⟨3, ![4096, 128, 1024]⟩
abbrev S4096x1024x128 : Shape := ⟨3, ![4096, 1024, 128]⟩
abbrev S4096x1024x3840 : Shape := ⟨3, ![4096, 1024, 3840]⟩
abbrev S4096x1024x1 : Shape := ⟨3, ![4096, 1024, 1]⟩
abbrev S4096x3840 : Shape := ⟨2, ![4096, 3840]⟩
abbrev S3840 : Shape := ⟨1, ![3840]⟩
abbrev S1x3840 : Shape := ⟨2, ![1, 3840]⟩
abbrev S4096x1x3840 : Shape := ⟨3, ![4096, 1, 3840]⟩

abbrev nBuf : Space → Nat
  | .hbm => 76
  | .vmem => 2
  | .smem => 0
  | _ => 0

abbrev bufTy : (tb : Table) → Fin (tcTables nBuf tb) → BufTy
  | .hbm, ⟨0, _⟩ => ⟨S1, .i32⟩
  | .hbm, ⟨1, _⟩ => ⟨S4096, .i32⟩
  | .hbm, ⟨2, _⟩ => ⟨S3840x128, .fp8e4m3⟩
  | .hbm, ⟨3, _⟩ => ⟨S4096x4x1024, .i32⟩
  | .hbm, ⟨4, _⟩ => ⟨S4096x1024, .f32⟩
  | .hbm, ⟨5, _⟩ => ⟨S3840x128, .bf16⟩
  | .hbm, ⟨6, _⟩ => ⟨S3840x4x8x4, .bf16⟩
  | .hbm, ⟨7, _⟩ => ⟨S3840x4x4x8, .bf16⟩
  | .hbm, ⟨8, _⟩ => ⟨S3840x4x4x8, .bf16⟩
  | .hbm, ⟨9, _⟩ => ⟨S3840x128, .bf16⟩
  | .hbm, ⟨10, _⟩ => ⟨S32, .i32⟩
  | .hbm, ⟨11, _⟩ => ⟨S1024, .i32⟩
  | .hbm, ⟨12, _⟩ => ⟨S1x1024, .i32⟩
  | .hbm, ⟨13, _⟩ => ⟨S4096x1, .i32⟩
  | .hbm, ⟨14, _⟩ => ⟨S4096x1024, .i32⟩
  | .hbm, ⟨15, _⟩ => ⟨S4096x1024, .i32⟩
  | .hbm, ⟨16, _⟩ => ⟨S4096x1024, .i1⟩
  | .hbm, ⟨17, _⟩ => ⟨S4096x1x1024, .i1⟩
  | .hbm, ⟨18, _⟩ => ⟨S4096x4x1, .i32⟩
  | .hbm, ⟨19, _⟩ => ⟨S4096x4x1024, .i1⟩
  | .hbm, ⟨20, _⟩ => ⟨S4096x4x1024, .i32⟩
  | .hbm, ⟨21, _⟩ => ⟨S4096x4x1024, .i32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x4x1x1024, .i32⟩
  | .hbm, ⟨26, _⟩ => ⟨S1x1x32x1, .i32⟩
  | .hbm, ⟨27, _⟩ => ⟨S4096x4x32x1024, .i32⟩
  | .hbm, ⟨28, _⟩ => ⟨S4096x4x32x1024, .i32⟩
  | .hbm, ⟨29, _⟩ => ⟨S4096x4x32x1024, .i32⟩
  | .hbm, ⟨30, _⟩ => ⟨S_, .i32⟩
  | .hbm, ⟨31, _⟩ => ⟨S4096x4x32x1024, .i32⟩
  | .hbm, ⟨32, _⟩ => ⟨S4096x4x32x1024, .i32⟩
  | .hbm, ⟨33, _⟩ => ⟨S_, .i32⟩
  | .hbm, ⟨34, _⟩ => ⟨S4096x4x32x1024, .i32⟩
  | .hbm, ⟨35, _⟩ => ⟨S4096x4x32x1024, .i32⟩
  | .hbm, ⟨36, _⟩ => ⟨S_, .i32⟩
  | .hbm, ⟨37, _⟩ => ⟨S4096x4x32x1024, .i32⟩
  | .hbm, ⟨38, _⟩ => ⟨S4096x4x32x1024, .i32⟩
  | .hbm, ⟨39, _⟩ => ⟨S4096x4x32x1024, .bf16⟩
  | .hbm, ⟨40, _⟩ => ⟨S4096x128x1024, .bf16⟩
  | .hbm, ⟨41, _⟩ => ⟨S4096x1024x128, .bf16⟩
  | .hbm, ⟨42, _⟩ => ⟨S4096x1024x3840, .f32⟩
  | .hbm, ⟨43, _⟩ => ⟨S4096x1024x1, .f32⟩
  | .hbm, ⟨44, _⟩ => ⟨S4096x1024x3840, .f32⟩
  | .hbm, ⟨45, _⟩ => ⟨S4096x1024x3840, .f32⟩
  | .hbm, ⟨46, _⟩ => ⟨S_, .f32⟩
  | .hbm, ⟨47, _⟩ => ⟨S4096x3840, .f32⟩
  | .hbm, ⟨48, _⟩ => ⟨S3840, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S_, .i1⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S3840, .i32⟩
  | .hbm, ⟨68, _⟩ => ⟨S3840, .i1⟩
  | .hbm, ⟨69, _⟩ => ⟨S1x3840, .i1⟩
  | .hbm, ⟨70, _⟩ => ⟨S_, .f32⟩
  | .hbm, ⟨71, _⟩ => ⟨S_, .f32⟩
  | .hbm, ⟨72, _⟩ => ⟨S4096x3840, .i1⟩
  | .hbm, ⟨73, _⟩ => ⟨S4096x3840, .f32⟩
  | .hbm, ⟨74, _⟩ => ⟨S4096x3840, .f32⟩
  | .hbm, ⟨75, _⟩ => ⟨S4096x1x3840, .f32⟩
  | .local _ .vmem, ⟨0, _⟩ => ⟨S3840x128, .fp8e4m3⟩
  | .local _ .vmem, ⟨1, _⟩ => ⟨S3840x128, .bf16⟩
  | _, _ => ⟨S1, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_v1 : Ref sig .tc := ⟨.hbm, 20, rfl⟩
abbrev main_v14 : Ref sig .tc := ⟨.hbm, 21, rfl⟩
abbrev main_v15 : Ref sig .tc := ⟨.hbm, 22, rfl⟩
abbrev main_call1_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_c_0 : Ref sig .tc := ⟨.hbm, 33, rfl⟩
abbrev main_v24 : Ref sig .tc := ⟨.hbm, 34, rfl⟩
abbrev main_v25 : Ref sig .tc := ⟨.hbm, 35, rfl⟩
abbrev main_c_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_2 : Ref sig .tc := ⟨.hbm, 50, rfl⟩
abbrev main_v38 : Ref sig .tc := ⟨.hbm, 51, rfl⟩
abbrev main_c_3 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c : Ref sig .tc := ⟨.hbm, 59, rfl⟩
abbrev main_call2_v6 : Ref sig .tc := ⟨.hbm, 60, rfl⟩
abbrev main_call2_v7 : Ref sig .tc := ⟨.hbm, 61, rfl⟩
abbrev main_call2_c_0 : Ref sig .tc := ⟨.hbm, 62, rfl⟩
abbrev main_call2_v8 : Ref sig .tc := ⟨.hbm, 63, rfl⟩
abbrev main_v39 : Ref sig .tc := ⟨.hbm, 64, rfl⟩
abbrev main_c_4 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_5 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_v44 : Ref sig .tc := ⟨.hbm, 74, rfl⟩
abbrev main_v45 : Ref sig .tc := ⟨.hbm, 75, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S3840x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3840x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Words.lean ====
/-
  The integers of the kernel: how many trips its run-time loops make and where its accesses lie, in closed form, and the
  side conditions it assumes on the words it reads.
-/
module

public import proofs.«01_k».proof.Proof.Gen.Kernel
public import Idealize.ShloMosaic.Lib.LoopRemainder
public import Idealize.ShloMosaic.Lib.WordCmp

@[expose] public section

noncomputable section

namespace Cert.Kernel.Hand

open Cert.Kernel Cert.Kernel.Gen
open Idealize.ShloMosaic Idealize.SL.Sem Idealize.ShloMosaic.WordCmp

/-! ## Loops from 0 by 1 -/

theorem iv01 (k : ℕ) : Scf.iv 0#32 1#32 k = BitVec.ofNat 32 k := by
  simp [Scf.iv]

theorem mul_toNat (k c : ℕ) (h : k * c < 2 ^ 32) : (Scalar.muli (BitVec.ofNat 32 k) (BitVec.ofNat 32 c)).toNat = k * c := by
  show (IntOp.muli _ _).toNat = _
  rw [muli_ofNat, toNat_ofNat_of_lt h]

theorem mul_add_toNat (k c d : ℕ) (h : k * c + d < 2 ^ 32) :
    (Scalar.addi (Scalar.muli (BitVec.ofNat 32 k) (BitVec.ofNat 32 c)) (BitVec.ofNat 32 d)).toNat = k * c + d := by
  show (IntOp.addi (IntOp.muli _ _) _).toNat = _
  rw [muli_ofNat, addi_ofNat, toNat_ofNat_of_lt h]

theorem mul_add_add_toNat (k c d e : ℕ) (h : k * c + d + e < 2 ^ 32) :
    (Scalar.addi (Scalar.addi (Scalar.muli (BitVec.ofNat 32 k) (BitVec.ofNat 32 c)) (BitVec.ofNat 32 d)) (BitVec.ofNat 32 e)).toNat = k * c + d + e := by
  show (IntOp.addi (IntOp.addi (IntOp.muli _ _) _) _).toNat = _
  rw [muli_ofNat, addi_ofNat, addi_ofNat, toNat_ofNat_of_lt h]

/-- The kernel's count of blocks: the words of `cdiv`, the first loop's upper bound. -/
theorem ub_isInt {x : BitVec 32} {n : ℕ} (c d : ℕ) (hx : Affine.IsInt x (n : ℤ)) (hn : n < 2 ^ 16) (hc : c < 2 ^ 16) (hd : 0 < d) (hd' : d < 2 ^ 16) :
    Affine.IsInt (Scalar.addi 0#32 (Scalar.muli (Scalar.divsi (Scalar.subi (Scalar.divsi (Scalar.addi x (BitVec.ofNat 32 c)) (BitVec.ofNat 32 d)) 0#32) 1#32) 1#32))
      (((n + c) / d : ℕ) : ℤ) := by
  have h0 : Affine.IsInt 0#32 0 := Affine.ofNat _ (by omega)
  have h1 : Affine.IsInt 1#32 1 := Affine.ofNat _ (by omega)
  have hcI : Affine.IsInt (BitVec.ofNat 32 c) (c : ℤ) := Affine.ofNat _ (by omega)
  have hdI : Affine.IsInt (BitVec.ofNat 32 d) (d : ℤ) := Affine.ofNat _ (by omega)
  have ha : Affine.IsInt _ ((n : ℤ) + c) := Affine.addi hx hcI (by omega)
  have hle : (n + c) / d ≤ n + c := Nat.div_le_self _ _
  have hq0 : (0 : ℤ) ≤ (((n + c) / d : ℕ) : ℤ) := Int.natCast_nonneg _
  have hq1 : (((n + c) / d : ℕ) : ℤ) ≤ n + c := by exact_mod_cast hle
  generalize hqq : (((n + c) / d : ℕ) : ℤ) = q at *
  have hq : Affine.IsInt (Scalar.divsi (Scalar.addi x (BitVec.ofNat 32 c)) (BitVec.ofNat 32 d)) q :=
    Affine.divsi ha hdI ⟨by rw [← hqq]; push_cast; rfl, by omega, by omega⟩
  have hs : Affine.IsInt _ q := Affine.subi hq h0 (by omega)
  rw [Scalar.muli_divsi_one]
  exact Affine.addi h0 hs (by omega)

theorem trips01 {ub : BitVec 32} {n : ℕ} (h : Affine.IsInt ub (n : ℤ)) : Scf.trips 0#32 ub 1#32 = n := by
  have h' : ub.toInt = n := by simpa [Affine.IsInt] using h
  have h1 : (1#32 : BitVec 32).toInt = 1 := by decide
  have h0 : (0#32 : BitVec 32).toInt = 0 := by decide
  unfold Scf.trips
  rw [h1, h0, h']
  omega

theorem ok01 {ub : BitVec 32} {n : ℕ} (h : Affine.IsInt ub (n : ℤ)) (hn : n < 2 ^ 30) : Scf.OK 0#32 ub 1#32 := by
  have h1 : (1#32 : BitVec 32).toInt = 1 := by decide
  have h0 : (0#32 : BitVec 32).toInt = 0 := by decide
  refine ⟨by rw [h1]; omega, ?_⟩
  rw [trips01 h, h1, h0]
  omega

section Page
variable {v36 : BitVec 32} {L : ℕ} (hL : Affine.IsInt v36 (L : ℤ)) (hL' : L ≤ 1024)
include hL hL'

theorem t3_trips : (k0_t3_loop v36).trips = (L + 127) / 128 := trips01 (ub_isInt 127 128 hL (by omega) (by omega) (by omega) (by omega))
theorem t3_ok : (k0_t3_loop v36).OK := ok01 (ub_isInt 127 128 hL (by omega) (by omega) (by omega) (by omega)) (by omega)
theorem t7_trips : (k0_t7_loop v36).trips = (L + 3) / 4 := trips01 (ub_isInt 3 4 hL (by omega) (by omega) (by omega) (by omega))
theorem t7_ok : (k0_t7_loop v36).OK := ok01 (ub_isInt 3 4 hL (by omega) (by omega) (by omega) (by omega)) (by omega)
end Page

theorem t4_trips (v36 : BitVec 32) : (k0_t4_loop v36).trips = 0 := Scf.rem_trips _ _
theorem t10_trips (v36 : BitVec 32) : (k0_t10_loop v36).trips = 0 := Scf.rem_trips _ _
theorem t6_trips (v : BitVec 32) : (k0_t6_loop v).trips = 0 := Scf.rem_trips _ _
theorem t9_trips (v : BitVec 32) : (k0_t9_loop v).trips = 0 := Scf.rem_trips _ _
theorem t12_trips (v : BitVec 32) : (k0_t12_loop v).trips = 0 := Scf.rem_trips _ _
theorem t15_trips (v : BitVec 32) : (k0_t15_loop v).trips = 0 := Scf.rem_trips _ _
theorem no_trip {n : ℕ} (h : n = 0) (k : Fin n) {P : Prop} : P := absurd k.isLt (by omega)

section Rows
variable {v46 : BitVec 32} {n : ℕ} (hn : Affine.IsInt v46 (n : ℤ)) (hn' : n ≤ 3840)
include hn hn'

theorem t5_trips : (k0_t5_loop v46).trips = (n + 255) / 256 := trips01 (ub_isInt 255 256 hn (by omega) (by omega) (by omega) (by omega))
theorem t5_ok : (k0_t5_loop v46).OK := ok01 (ub_isInt 255 256 hn (by omega) (by omega) (by omega) (by omega)) (by omega)
theorem t8_trips : (k0_t8_loop v46).trips = (n + 255) / 256 := trips01 (ub_isInt 255 256 hn (by omega) (by omega) (by omega) (by omega))
theorem t8_ok : (k0_t8_loop v46).OK := ok01 (ub_isInt 255 256 hn (by omega) (by omega) (by omega) (by omega)) (by omega)
theorem t11_trips : (k0_t11_loop v46).trips = (n + 255) / 256 := trips01 (ub_isInt 255 256 hn (by omega) (by omega) (by omega) (by omega))
theorem t11_ok : (k0_t11_loop v46).OK := ok01 (ub_isInt 255 256 hn (by omega) (by omega) (by omega) (by omega)) (by omega)
theorem t14_trips : (k0_t14_loop v46).trips = (n + 127) / 128 := trips01 (ub_isInt 127 128 hn (by omega) (by omega) (by omega) (by omega))
theorem t14_ok : (k0_t14_loop v46).OK := ok01 (ub_isInt 127 128 hn (by omega) (by omega) (by omega) (by omega)) (by omega)
end Rows

/-! ## Offsets -/

theorem off6_eq : ∀ i : grid0.Coords, k0_off6 i = ![(i 0).val % 2] := by decide +kernel
theorem off7_eq : ∀ i : grid0.Coords, k0_off7 i = ![(i 0).val % 2, 0, 0, 0] := by decide +kernel
theorem off8_eq : ∀ i : grid0.Coords, k0_off8 i = ![(i 0).val % 2, 0, 0, 0] := by decide +kernel
theorem off10_eq : ∀ i : grid0.Coords, k0_off10 i = ![1 - (i 0).val % 2] := by decide +kernel
theorem off13_eq : ∀ i : grid0.Coords, k0_off13 i = ![1 - (i 0).val % 2] := by decide +kernel

theorem off11_eq (i : grid0.Coords) (k : Fin k0_t2_loop.trips) : k0_off11 i k = ![1 - (i 0).val % 2, k.val, 0, 0] := by
  have e := congrFun (off10_eq i) 0
  have hk : k.val < 128 := lt_of_lt_of_le k.isLt k0_t2_abs.2.1
  have e2 : ((Scf.iv 0#32 1#32 k.val : BitVec 32)).toNat = k.val := by rw [iv01, toNat_ofNat_of_lt (by omega)]
  funext a
  fin_cases a
  · exact e
  · exact e2
  · rfl
  · rfl
theorem off14_eq (i : grid0.Coords) (k : Fin k0_t2_loop.trips) : k0_off14 i k = ![1 - (i 0).val % 2, k.val, 0, 0] := by
  have e := congrFun (off10_eq i) 0
  have hk : k.val < 128 := lt_of_lt_of_le k.isLt k0_t2_abs.2.1
  have e2 : ((Scf.iv 0#32 1#32 k.val : BitVec 32)).toNat = k.val := by rw [iv01, toNat_ofNat_of_lt (by omega)]
  funext a
  fin_cases a
  · exact e
  · exact e2
  · rfl
  · rfl

theorem mulw (k c : ℕ) (h : k * c < 2 ^ 32) : (Scalar.muli (Scf.iv 0#32 1#32 k) (BitVec.ofNat 32 c)).toNat = c * k := by
  rw [iv01, mul_toNat k c h, Nat.mul_comm]

section T3
variable (i : grid0.Coords) (v36 : BitVec 32) (k : Fin (k0_t3_loop v36).trips) (hk : k.val < 8)
include hk
theorem off17_eq : k0_off17 i v36 k = ![(i 0).val % 2, 0, 0, 128 * k.val] := by
  funext a; fin_cases a
  · exact congrFun (off6_eq i) 0
  · rfl
  · rfl
  · exact mulw k.val 128 (by omega)
theorem off18_eq : k0_off18 v36 k = ![128 * k.val, 0] := by
  funext a; fin_cases a
  · exact mulw k.val 128 (by omega)
  · rfl
theorem off19_eq : k0_off19 i v36 k = ![(i 0).val % 2, 0, 0, 128 * k.val] := off17_eq i v36 k hk
theorem off21_eq : k0_off21 i v36 k = ![(i 0).val % 2, 0, 1, 128 * k.val] := by
  funext a; fin_cases a
  · exact congrFun (off6_eq i) 0
  · rfl
  · rfl
  · exact mulw k.val 128 (by omega)
theorem off23_eq : k0_off23 i v36 k = ![(i 0).val % 2, 0, 2, 128 * k.val] := by
  funext a; fin_cases a
  · exact congrFun (off6_eq i) 0
  · rfl
  · rfl
  · exact mulw k.val 128 (by omega)
theorem off25_eq : k0_off25 i v36 k = ![(i 0).val % 2, 0, 3, 128 * k.val] := by
  funext a; fin_cases a
  · exact congrFun (off6_eq i) 0
  · rfl
  · rfl
  · exact mulw k.val 128 (by omega)
theorem off20_eq : k0_off20 v36 k = ![0, 128 * k.val, 0] := by
  funext a; fin_cases a
  · rfl
  · exact mulw k.val 128 (by omega)
  · rfl
theorem off22_eq : k0_off22 v36 k = ![1, 128 * k.val, 0] := by
  funext a; fin_cases a
  · rfl
  · exact mulw k.val 128 (by omega)
  · rfl
theorem off24_eq : k0_off24 v36 k = ![2, 128 * k.val, 0] := by
  funext a; fin_cases a
  · rfl
  · exact mulw k.val 128 (by omega)
  · rfl
theorem off26_eq : k0_off26 v36 k = ![3, 128 * k.val, 0] := by
  funext a; fin_cases a
  · rfl
  · exact mulw k.val 128 (by omega)
  · rfl
end T3

section T7
variable (v36 : BitVec 32) (k : Fin (k0_t7_loop v36).trips) (hk : k.val < 256) (d : ℕ) (hd : d < 4)
include hk hd
theorem jj : (Scalar.addi (Scalar.muli (Scf.iv 0#32 1#32 k.val) 4#32) (BitVec.ofNat 32 d)).toNat = 4 * k.val + d := by
  rw [iv01]; exact (mul_add_toNat k.val 4 d (by omega)).trans (by omega)
theorem jj1 : (Scalar.addi (Scalar.addi (Scalar.muli (Scf.iv 0#32 1#32 k.val) 4#32) (BitVec.ofNat 32 d)) 1#32).toNat = 4 * k.val + d + 1 := by
  rw [iv01]; exact (mul_add_add_toNat k.val 4 d 1 (by omega)).trans (by omega)
theorem off39_eq : k0_off39 v36 k (BitVec.ofNat 32 d) = ![0, 4 * k.val + d, 0] := by
  funext a; fin_cases a; · rfl
  · exact jj v36 k hk d hd
  · rfl
theorem off40_eq : k0_off40 v36 k (BitVec.ofNat 32 d) = ![1, 4 * k.val + d, 0] := by
  funext a; fin_cases a; · rfl
  · exact jj v36 k hk d hd
  · rfl
theorem off41_eq : k0_off41 v36 k (BitVec.ofNat 32 d) = ![2, 4 * k.val + d, 0] := by
  funext a; fin_cases a; · rfl
  · exact jj v36 k hk d hd
  · rfl
theorem off42_eq : k0_off42 v36 k (BitVec.ofNat 32 d) = ![3, 4 * k.val + d, 0] := by
  funext a; fin_cases a; · rfl
  · exact jj v36 k hk d hd
  · rfl
theorem off43_eq : k0_off43 v36 k (BitVec.ofNat 32 d) = ![0, 4 * k.val + d + 1, 0] := by
  funext a; fin_cases a; · rfl
  · exact jj1 v36 k hk d hd
  · rfl
theorem off44_eq : k0_off44 v36 k (BitVec.ofNat 32 d) = ![1, 4 * k.val + d + 1, 0] := by
  funext a; fin_cases a; · rfl
  · exact jj1 v36 k hk d hd
  · rfl
theorem off45_eq : k0_off45 v36 k (BitVec.ofNat 32 d) = ![2, 4 * k.val + d + 1, 0] := by
  funext a; fin_cases a; · rfl
  · exact jj1 v36 k hk d hd
  · rfl
theorem off46_eq : k0_off46 v36 k (BitVec.ofNat 32 d) = ![3, 4 * k.val + d + 1, 0] := by
  funext a; fin_cases a; · rfl
  · exact jj1 v36 k hk d hd
  · rfl
theorem off47_eq : k0_off47 v36 k (BitVec.ofNat 32 d) = ![4 * k.val + d, 0] := by
  funext a; fin_cases a
  · exact jj v36 k hk d hd
  · rfl
end T7

theorem off37_eq (v : BitVec 32) (k : Fin (k0_t5_loop v).trips) (hk : k.val < 15) : k0_off37 v k = ![256 * k.val, 0] := by
  funext a; fin_cases a
  · exact mulw k.val 256 (by omega)
  · rfl
theorem off48_eq (v : BitVec 32) (k : Fin (k0_t8_loop v).trips) (hk : k.val < 15) : k0_off48 v k = ![256 * k.val, 0] := by
  funext a; fin_cases a
  · exact mulw k.val 256 (by omega)
  · rfl
theorem off64_eq (v : BitVec 32) (k : Fin (k0_t14_loop v).trips) (hk : k.val < 30) : k0_off64 v k = ![128 * k.val, 0] := by
  funext a; fin_cases a
  · exact mulw k.val 128 (by omega)
  · rfl
theorem off65_eq (v : BitVec 32) (k : Fin (k0_t14_loop v).trips) (hk : k.val < 30) : k0_off65 v k = ![0, 0, 128 * k.val] := by
  funext a; fin_cases a
  · rfl
  · rfl
  · exact mulw k.val 128 (by omega)

/-- The page numbers the tables hold. -/
theorem off3_eq (v : BitVec 32) : k0_off3 v = ![v.toNat, 0, 0] := rfl
theorem off5_eq (v : BitVec 32) : k0_off5 v = ![v.toNat, 0, 0] := rfl
theorem off12_eq (v : BitVec 32) : k0_off12 v = ![v.toNat, 0, 0] := rfl
theorem off15_eq (v : BitVec 32) : k0_off15 v = ![v.toNat, 0, 0] := rfl
theorem off69_eq (v : BitVec 32) : k0_off69 v = ![v.toNat, 0, 0] := rfl
theorem off62_eq (v : BitVec 32) : k0_off62 v = ![v.toNat, 0, 0] := rfl
theorem off72_eq (v : BitVec 32) : k0_off72 v = ![v.toNat, 0, 0] := rfl

theorem inb3 {o : Fin 3 → ℕ} {a b c a' b' c' x y z : ℕ} (ho : o = ![x, y, z]) {s t : Fin 3 → ℕ} (hs : s = ![a, b, c]) (ht : t = ![a', b', c'])
    (h0 : x + a ≤ a') (h1 : y + b ≤ b') (h2 : z + c ≤ c') : ∀ d, o d + s d ≤ t d := by
  subst ho hs ht; intro d; fin_cases d <;> assumption
theorem inb2 {o : Fin 2 → ℕ} {a b a' b' x y : ℕ} (ho : o = ![x, y]) {s t : Fin 2 → ℕ} (hs : s = ![a, b]) (ht : t = ![a', b'])
    (h0 : x + a ≤ a') (h1 : y + b ≤ b') : ∀ d, o d + s d ≤ t d := by
  subst ho hs ht; intro d; fin_cases d <;> assumption
theorem inb4 {o : Fin 4 → ℕ} {a b c e a' b' c' e' x y z w : ℕ} (ho : o = ![x, y, z, w]) {s t : Fin 4 → ℕ} (hs : s = ![a, b, c, e]) (ht : t = ![a', b', c', e'])
    (h0 : x + a ≤ a') (h1 : y + b ≤ b') (h2 : z + c ≤ c') (h3 : w + e ≤ e') : ∀ d, o d + s d ≤ t d := by
  subst ho hs ht; intro d; fin_cases d <;> assumption

theorem chk1_of (i : grid0.Coords) (v : BitVec 32) (hv : v.toNat < 4096) : k0_chk1 i v :=
  ⟨fun _ => inb3 (off3_eq v) rfl rfl (by omega) (by omega) (by omega), fun _ => inb3 (off5_eq v) rfl rfl (by omega) (by omega) (by omega)⟩
theorem chk2_of (i : grid0.Coords) (v : BitVec 32) (hv : v.toNat < 4096) : k0_chk2 i v :=
  ⟨fun _ => inb3 (off12_eq v) rfl rfl (by omega) (by omega) (by omega), fun _ => inb3 (off15_eq v) rfl rfl (by omega) (by omega) (by omega)⟩
theorem chk5_of (i : grid0.Coords) (v : BitVec 32) (hv : v.toNat < 4096) : k0_chk5 i v :=
  fun _ => inb3 (off62_eq v) rfl rfl (by omega) (by omega) (by omega)
theorem chk7_of (v : BitVec 32) (hv : v.toNat < 4096) : k0_chk7 v := inb3 (off69_eq v) rfl rfl (by omega) (by omega) (by omega)
theorem chk8_of (i : grid0.Coords) (v : BitVec 32) (hv : v.toNat < 4096) : k0_chk8 i v :=
  fun _ => inb3 (off72_eq v) rfl rfl (by omega) (by omega) (by omega)

theorem chk3_of (i : grid0.Coords) {v36 : BitVec 32} {L : ℕ} (hL : Affine.IsInt v36 (L : ℤ)) (hL' : L ≤ 1024) : k0_chk3 i v36 := by
  have h3 := t3_trips hL hL'
  have h7 := t7_trips hL hL'
  have hi : (i 0).val % 2 < 2 := Nat.mod_lt _ (by omega)
  have k3 : ∀ k : Fin (k0_t3_loop v36).trips, k.val < 8 := fun k => by have := k.isLt; omega
  have k7 : ∀ k : Fin (k0_t7_loop v36).trips, k.val < 256 := fun k => by have := k.isLt; omega
  refine ⟨⟨t3_ok hL hL', fun k => ⟨k.val, by rw [show (k0_mult1 v36 k).toNat = 128 * k.val from mulw k.val 128 (by have := k3 k; omega)]⟩,
    fun k => inb4 (off17_eq i v36 k (k3 k)) rfl rfl ?_ ?_ ?_ ?_, fun k => inb2 (off18_eq v36 k (k3 k)) rfl rfl ?_ ?_,
    fun k => inb4 (off19_eq i v36 k (k3 k)) rfl rfl ?_ ?_ ?_ ?_, fun k => inb3 (off20_eq v36 k (k3 k)) rfl rfl ?_ ?_ ?_,
    fun k => inb4 (off21_eq i v36 k (k3 k)) rfl rfl ?_ ?_ ?_ ?_, fun k => inb3 (off22_eq v36 k (k3 k)) rfl rfl ?_ ?_ ?_,
    fun k => inb4 (off23_eq i v36 k (k3 k)) rfl rfl ?_ ?_ ?_ ?_, fun k => inb3 (off24_eq v36 k (k3 k)) rfl rfl ?_ ?_ ?_,
    fun k => inb4 (off25_eq i v36 k (k3 k)) rfl rfl ?_ ?_ ?_ ?_, fun k => inb3 (off26_eq v36 k (k3 k)) rfl rfl ?_ ?_ ?_,
    Scf.rem_ok _ _, fun k => no_trip (t4_trips _) k, fun k => no_trip (t4_trips _) k, fun k => no_trip (t4_trips _) k, fun k => no_trip (t4_trips _) k,
    fun k => no_trip (t4_trips _) k, fun k => no_trip (t4_trips _) k, fun k => no_trip (t4_trips _) k, fun k => no_trip (t4_trips _) k,
    fun k => no_trip (t4_trips _) k, fun k => no_trip (t4_trips _) k, fun k => no_trip (t4_trips _) k,
    t7_ok hL hL', fun k r => inb3 (off39_eq v36 k (k7 k) _ ?_) rfl rfl ?_ ?_ ?_, fun k r => inb3 (off40_eq v36 k (k7 k) _ ?_) rfl rfl ?_ ?_ ?_,
    fun k r => inb3 (off41_eq v36 k (k7 k) _ ?_) rfl rfl ?_ ?_ ?_, fun k r => inb3 (off42_eq v36 k (k7 k) _ ?_) rfl rfl ?_ ?_ ?_,
    fun k r => inb3 (off43_eq v36 k (k7 k) _ ?_) rfl rfl ?_ ?_ ?_, fun k r => inb3 (off44_eq v36 k (k7 k) _ ?_) rfl rfl ?_ ?_ ?_,
    fun k r => inb3 (off45_eq v36 k (k7 k) _ ?_) rfl rfl ?_ ?_ ?_⟩,
    fun k r => inb3 (off46_eq v36 k (k7 k) _ ?_) rfl rfl ?_ ?_ ?_, fun k r => inb2 (off47_eq v36 k (k7 k) _ ?_) rfl rfl ?_ ?_,
    Scf.rem_ok _ _, fun k => no_trip (t10_trips _) k, fun k => no_trip (t10_trips _) k, fun k => no_trip (t10_trips _) k, fun k => no_trip (t10_trips _) k,
    fun k => no_trip (t10_trips _) k, fun k => no_trip (t10_trips _) k, fun k => no_trip (t10_trips _) k, fun k => no_trip (t10_trips _) k, fun k => no_trip (t10_trips _) k⟩
  all_goals first | omega | (have := k3 k; omega) | (have := k7 k; have := r.isLt; omega)

theorem chk4_of (v36 : BitVec 32) {v46 : BitVec 32} {n : ℕ} (hn : Affine.IsInt v46 (n : ℤ)) (hn' : n ≤ 3840) : k0_chk4 v36 v46 := by
  have h5 := t5_trips hn hn'
  have h8 := t8_trips hn hn'
  have h11 := t11_trips hn hn'
  have k5 : ∀ k : Fin (k0_t5_loop v46).trips, k.val < 15 := fun k => by have := k.isLt; omega
  have k8 : ∀ k : Fin (k0_t8_loop v46).trips, k.val < 15 := fun k => by have := k.isLt; omega
  refine ⟨t5_ok hn hn', fun k => ⟨k.val, by rw [show (k0_mult3 v46 k).toNat = 256 * k.val from mulw k.val 256 (by have := k5 k; omega)]⟩,
    fun k => inb2 (off37_eq v46 k (k5 k)) rfl rfl ?_ ?_, Scf.rem_ok _ _, fun k => no_trip (t6_trips _) k, fun k => no_trip (t6_trips _) k,
    fun _ => t8_ok hn hn', fun _ k => ⟨k.val, by rw [show (k0_mult5 v46 k).toNat = 256 * k.val from mulw k.val 256 (by have := k8 k; omega)]⟩,
    fun _ k => inb2 (off48_eq v46 k (k8 k)) rfl rfl ?_ ?_, fun _ => Scf.rem_ok _ _, fun _ k => no_trip (t9_trips _) k, fun _ k => no_trip (t9_trips _) k,
    fun k => no_trip (t10_trips _) k, fun k => no_trip (t10_trips _) k, fun k => no_trip (t10_trips _) k, fun k => no_trip (t10_trips _) k, fun k => no_trip (t10_trips _) k, fun k => no_trip (t10_trips _) k⟩
  all_goals first | omega | (have := k5 k; omega) | (have := k8 k; omega)

theorem chk6_of {v46 : BitVec 32} {n : ℕ} (hn : Affine.IsInt v46 (n : ℤ)) (hn' : n ≤ 3840) : k0_chk6 v46 := by
  have h14 := t14_trips hn hn'
  have k14 : ∀ k : Fin (k0_t14_loop v46).trips, k.val < 30 := fun k => by have := k.isLt; omega
  refine ⟨t14_ok hn hn', fun k => ⟨k.val, by rw [show (k0_mult9 v46 k).toNat = 128 * k.val from mulw k.val 128 (by have := k14 k; omega)]⟩,
    fun k => inb2 (off64_eq v46 k (k14 k)) rfl rfl ?_ ?_, fun k => inb3 (off65_eq v46 k (k14 k)) rfl rfl ?_ ?_ ?_, Scf.rem_ok _ _,
    fun k => no_trip (t15_trips _) k, fun k => no_trip (t15_trips _) k, fun k => no_trip (t15_trips _) k⟩
  all_goals first | omega | (have := k14 k; omega)

end Cert.Kernel.Hand

end
-- ==== Proof.Base.lean ====
/-
  The buffers of the kernel and the parts of them its transfers move: a page's bits, scales and scores in HBM, a page's
  slot row in the scratch, as sets of indices, and what the transfers' views are on them.
-/
module

public import proofs.«01_k».proof.Proof.Words
public import proofs.«01_k».proof.Proof.Gen.Kernel.Launch
public import proofs.«01_k».proof.Proof.Gen.Kernel.Skeleton
public import Idealize.ShloMosaic.Lib.Pipeline.FrameBody
public import Idealize.ShloMosaic.Lib.MixedBatch
public import Idealize.ShloMosaic.Lib.Ring
public import Idealize.ShloMosaic.Lib.Tactic
public import Idealize.ShloMosaic.Lib.ValueLayout

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Index builders -/

abbrev j1 {n : ℕ} (a : ℕ) (h : a < n) : (⟨1, ![n]⟩ : Shape).Idx := fun d => match d with | 0 => ⟨a, h⟩

/-! ## The transfers' views -/

abbrev bitsS (o : Fin 3 → ℕ) (h : ∀ a, o a + S1x4x1024.size a ≤ S4096x4x1024.size a) : Memref sig .tc .hbm S4x1024 .i32 :=
  ((Memref.whole main_arg3).slice (Rect.unit (s := S4096x4x1024) o S1x4x1024.size h) (fun _ => rfl)).squeeze S4x1024 squeezes_S1x4x1024_S4x1024

abbrev scaleS (o : Fin 3 → ℕ) (h : ∀ a, o a + S1x1x1024.size a ≤ S4096x1x1024.size a) : Memref sig .tc .hbm S1x1024 .f32 :=
  ((Memref.whole main_v9).slice (Rect.unit (s := S4096x1x1024) o S1x1x1024.size h) (fun _ => rfl)).squeeze S1x1024 squeezes_S1x1x1024_S1x1024

abbrev outS (o : Fin 3 → ℕ) (h : ∀ a, o a + S1x1x3840.size a ≤ S4096x1x3840.size a) : Memref sig .tc .hbm S1x3840 .f32 :=
  ((Memref.whole main_v10).slice (Rect.unit (s := S4096x1x3840) o S1x1x3840.size h) (fun _ => rfl)).squeeze S1x3840 squeezes_S1x1x3840_S1x3840

abbrev rawS (o : Fin 4 → ℕ) (h : ∀ a, o a + S1x1x4x1024.size a ≤ S2x128x4x1024.size a) : Memref sig .tc .vmem S4x1024 .i32 :=
  ((Memref.whole cc0_scratch0).slice (Rect.unit (s := S2x128x4x1024) o S1x1x4x1024.size h) (fun _ => rfl)).squeeze S4x1024 squeezes_S1x1x4x1024_S4x1024

abbrev rawsS (o : Fin 4 → ℕ) (h : ∀ a, o a + S1x1x1x1024.size a ≤ S2x128x1x1024.size a) : Memref sig .tc .vmem S1x1024 .f32 :=
  ((Memref.whole cc0_scratch1).slice (Rect.unit (s := S2x128x1x1024) o S1x1x1x1024.size h) (fun _ => rfl)).squeeze S1x1024 squeezes_S1x1x1x1024_S1x1024

abbrev outtS (o : Fin 3 → ℕ) (h : ∀ a, o a + S1x1x3840.size a ≤ S128x1x3840.size a) : Memref sig .tc .vmem S1x3840 .f32 :=
  ((Memref.whole cc0_scratch5).slice (Rect.unit (s := S128x1x3840) o S1x1x3840.size h) (fun _ => rfl)).squeeze S1x3840 squeezes_S1x1x3840_S1x3840

/-! ## The index sets -/

def BP (p : ℕ) : Finset S4096x4x1024.Idx := Finset.univ.filter fun x => (x 0).val = p
def SP (p : ℕ) : Finset S4096x1x1024.Idx := Finset.univ.filter fun x => (x 0).val = p
def OP (p : ℕ) : Finset S4096x1x3840.Idx := Finset.univ.filter fun x => (x 0).val = p
def RW (s i : ℕ) : Finset S2x128x4x1024.Idx := Finset.univ.filter fun x => (x 0).val = s ∧ (x 1).val = i
def RC (s i : ℕ) : Finset S2x128x1x1024.Idx := Finset.univ.filter fun x => (x 0).val = s ∧ (x 1).val = i
def RWs (s : ℕ) : Finset S2x128x4x1024.Idx := Finset.univ.filter fun x => (x 0).val = s
def RCs (s : ℕ) : Finset S2x128x1x1024.Idx := Finset.univ.filter fun x => (x 0).val = s
def OT (i : ℕ) : Finset S128x1x3840.Idx := Finset.univ.filter fun x => (x 0).val = i

theorem bitsS_set {o h} (p : ℕ) (ho : o = ![p, 0, 0]) : (bitsS o h).view.set = BP p := by
  subst ho
  refine (View.set_reshape _ _).trans ((View.set_slice_whole main_arg3 _).trans (Finset.ext fun (x : S4096x4x1024.Idx) => ?_))
  refine (Rect.mem_set_unit (s := S4096x4x1024)).trans ?_
  simp only [BP, Finset.mem_filter, Finset.mem_univ, _root_.true_and]
  have h0 : (x 1).val < 4 := (x 1).isLt
  have h1 : (x 2).val < 1024 := (x 2).isLt
  constructor
  · intro hx; have g0 := hx 0; simp at g0; omega
  · intro hx a; fin_cases a <;> simp <;> omega

theorem scaleS_set {o h} (p : ℕ) (ho : o = ![p, 0, 0]) : (scaleS o h).view.set = SP p := by
  subst ho
  refine (View.set_reshape _ _).trans ((View.set_slice_whole main_v9 _).trans (Finset.ext fun (x : S4096x1x1024.Idx) => ?_))
  refine (Rect.mem_set_unit (s := S4096x1x1024)).trans ?_
  simp only [SP, Finset.mem_filter, Finset.mem_univ, _root_.true_and]
  have h0 : (x 1).val < 1 := (x 1).isLt
  have h1 : (x 2).val < 1024 := (x 2).isLt
  constructor
  · intro hx; have g0 := hx 0; simp at g0; omega
  · intro hx a; fin_cases a <;> simp <;> omega

theorem outS_set {o h} (p : ℕ) (ho : o = ![p, 0, 0]) : (outS o h).view.set = OP p := by
  subst ho
  refine (View.set_reshape _ _).trans ((View.set_slice_whole main_v10 _).trans (Finset.ext fun (x : S4096x1x3840.Idx) => ?_))
  refine (Rect.mem_set_unit (s := S4096x1x3840)).trans ?_
  simp only [OP, Finset.mem_filter, Finset.mem_univ, _root_.true_and]
  have h0 : (x 1).val < 1 := (x 1).isLt
  have h1 : (x 2).val < 3840 := (x 2).isLt
  constructor
  · intro hx; have g0 := hx 0; simp at g0; omega
  · intro hx a; fin_cases a <;> simp <;> omega

theorem outtS_set {o h} (p : ℕ) (ho : o = ![p, 0, 0]) : (outtS o h).view.set = OT p := by
  subst ho
  refine (View.set_reshape _ _).trans ((View.set_slice_whole cc0_scratch5 _).trans (Finset.ext fun (x : S128x1x3840.Idx) => ?_))
  refine (Rect.mem_set_unit (s := S128x1x3840)).trans ?_
  simp only [OT, Finset.mem_filter, Finset.mem_univ, _root_.true_and]
  have h0 : (x 1).val < 1 := (x 1).isLt
  have h1 : (x 2).val < 3840 := (x 2).isLt
  constructor
  · intro hx; have g0 := hx 0; simp at g0; omega
  · intro hx a; fin_cases a <;> simp <;> omega

theorem rawS_set {o h} (s i : ℕ) (ho : o = ![s, i, 0, 0]) : (rawS o h).view.set = RW s i := by
  subst ho
  refine (View.set_reshape _ _).trans ((View.set_slice_whole cc0_scratch0 _).trans (Finset.ext fun (x : S2x128x4x1024.Idx) => ?_))
  refine (Rect.mem_set_unit (s := S2x128x4x1024)).trans ?_
  simp only [RW, Finset.mem_filter, Finset.mem_univ, _root_.true_and]
  have h0 : (x 2).val < 4 := (x 2).isLt
  have h1 : (x 3).val < 1024 := (x 3).isLt
  constructor
  · intro hx; have g0 := hx 0; have g1 := hx 1; simp at g0 g1; omega
  · intro hx a; fin_cases a <;> simp <;> omega

theorem rawsS_set {o h} (s i : ℕ) (ho : o = ![s, i, 0, 0]) : (rawsS o h).view.set = RC s i := by
  subst ho
  refine (View.set_reshape _ _).trans ((View.set_slice_whole cc0_scratch1 _).trans (Finset.ext fun (x : S2x128x1x1024.Idx) => ?_))
  refine (Rect.mem_set_unit (s := S2x128x1x1024)).trans ?_
  simp only [RC, Finset.mem_filter, Finset.mem_univ, _root_.true_and]
  have h0 : (x 2).val < 1 := (x 2).isLt
  have h1 : (x 3).val < 1024 := (x 3).isLt
  constructor
  · intro hx; have g0 := hx 0; have g1 := hx 1; simp at g0 g1; omega
  · intro hx a; fin_cases a <;> simp <;> omega

/-! ## Where a transfer's views lie -/

theorem bitsS_emb (p : ℕ) (hp : p < 4096) (h) (a : Fin 4) (b : Fin 1024) :
    (bitsS ![p, 0, 0] h).view.emb (ix2 a b) = ix3 ⟨p, hp⟩ a b := by
  refine (congrArg (Rect.unit (s := S4096x4x1024) ![p, 0, 0] S1x4x1024.size h).emb (reshapeEquiv_ix2_1ab (a := 4) (b := 1024) rfl a b)).trans ?_
  funext d; apply Fin.ext
  fin_cases d
  · show p + 1 * 0 = p; simp
  · show 0 + 1 * a.val = a.val; simp
  · show 0 + 1 * b.val = b.val; simp

theorem scaleS_emb (p : ℕ) (hp : p < 4096) (h) (a : Fin 1) (b : Fin 1024) :
    (scaleS ![p, 0, 0] h).view.emb (ix2 a b) = ix3 ⟨p, hp⟩ a b := by
  refine (congrArg (Rect.unit (s := S4096x1x1024) ![p, 0, 0] S1x1x1024.size h).emb (reshapeEquiv_ix2_1ab (a := 1) (b := 1024) rfl a b)).trans ?_
  funext d; apply Fin.ext
  fin_cases d
  · show p + 1 * 0 = p; simp
  · show 0 + 1 * a.val = a.val; simp
  · show 0 + 1 * b.val = b.val; simp

theorem outS_emb (p : ℕ) (hp : p < 4096) (h) (a : Fin 1) (b : Fin 3840) :
    (outS ![p, 0, 0] h).view.emb (ix2 a b) = ix3 ⟨p, hp⟩ a b := by
  refine (congrArg (Rect.unit (s := S4096x1x3840) ![p, 0, 0] S1x1x3840.size h).emb (reshapeEquiv_ix2_1ab (a := 1) (b := 3840) rfl a b)).trans ?_
  funext d; apply Fin.ext
  fin_cases d
  · show p + 1 * 0 = p; simp
  · show 0 + 1 * a.val = a.val; simp
  · show 0 + 1 * b.val = b.val; simp

theorem outtS_emb (p : ℕ) (hp : p < 128) (h) (a : Fin 1) (b : Fin 3840) :
    (outtS ![p, 0, 0] h).view.emb (ix2 a b) = ix3 ⟨p, hp⟩ a b := by
  refine (congrArg (Rect.unit (s := S128x1x3840) ![p, 0, 0] S1x1x3840.size h).emb (reshapeEquiv_ix2_1ab (a := 1) (b := 3840) rfl a b)).trans ?_
  funext d; apply Fin.ext
  fin_cases d
  · show p + 1 * 0 = p; simp
  · show 0 + 1 * a.val = a.val; simp
  · show 0 + 1 * b.val = b.val; simp

theorem rawS_emb (s i : ℕ) (hs : s < 2) (hi : i < 128) (h) (a : Fin 4) (b : Fin 1024) :
    (rawS ![s, i, 0, 0] h).view.emb (ix2 a b) = ix4 ⟨s, hs⟩ ⟨i, hi⟩ a b := by
  refine (congrArg (Rect.unit (s := S2x128x4x1024) ![s, i, 0, 0] S1x1x4x1024.size h).emb (reshapeEquiv_ix2_11ab (a := 4) (b := 1024) rfl a b)).trans ?_
  funext d; apply Fin.ext
  fin_cases d
  · show s + 1 * 0 = s; simp
  · show i + 1 * 0 = i; simp
  · show 0 + 1 * a.val = a.val; simp
  · show 0 + 1 * b.val = b.val; simp

theorem rawsS_emb (s i : ℕ) (hs : s < 2) (hi : i < 128) (h) (a : Fin 1) (b : Fin 1024) :
    (rawsS ![s, i, 0, 0] h).view.emb (ix2 a b) = ix4 ⟨s, hs⟩ ⟨i, hi⟩ a b := by
  refine (congrArg (Rect.unit (s := S2x128x1x1024) ![s, i, 0, 0] S1x1x1x1024.size h).emb (reshapeEquiv_ix2_11ab (a := 1) (b := 1024) rfl a b)).trans ?_
  funext d; apply Fin.ext
  fin_cases d
  · show s + 1 * 0 = s; simp
  · show i + 1 * 0 = i; simp
  · show 0 + 1 * a.val = a.val; simp
  · show 0 + 1 * b.val = b.val; simp

/-! ## What a transfer writes -/

theorem raw_write {o h o' h'} (s i p : ℕ) (ho : o = ![s, i, 0, 0]) (ho' : o' = ![p, 0, 0]) (hp : p < 4096)
    (fd : S2x128x4x1024.Idx → Elt F .i32) (fs : S4096x4x1024.Idx → Elt F .i32) (x : S2x128x4x1024.Idx) (hx : x ∈ RW s i) :
    (rawS o h).view.write (Elt F) fd ((bitsS o' h').view.read (Elt F) fs) Finset.univ x = fs (ix3 ⟨p, hp⟩ (x 2) (x 3)) := by
  subst ho ho'
  simp only [RW, Finset.mem_filter, Finset.mem_univ, _root_.true_and] at hx
  have e : (rawS ![s, i, 0, 0] h).view.emb (ix2 (x 2) (x 3)) = x := by
    rw [rawS_emb s i (by have := (x 0).isLt; have hx := hx; simp at this; omega) (by have := (x 1).isLt; have hx := hx; simp at this; omega) h (x 2) (x 3)]
    funext d; apply Fin.ext
    fin_cases d <;> first | rfl | (show _ = (x _).val; simp; omega)
  conv_lhs => rw [← e]
  rw [View.write_emb_of_mem _ _ (Finset.mem_univ _)]
  exact congrArg fs (bitsS_emb p hp h' (x 2) (x 3))

theorem raws_write {o h o' h'} (s i p : ℕ) (ho : o = ![s, i, 0, 0]) (ho' : o' = ![p, 0, 0]) (hp : p < 4096)
    (fd : S2x128x1x1024.Idx → Elt F .f32) (fs : S4096x1x1024.Idx → Elt F .f32) (x : S2x128x1x1024.Idx) (hx : x ∈ RC s i) :
    (rawsS o h).view.write (Elt F) fd ((scaleS o' h').view.read (Elt F) fs) Finset.univ x = fs (ix3 ⟨p, hp⟩ (x 2) (x 3)) := by
  subst ho ho'
  simp only [RC, Finset.mem_filter, Finset.mem_univ, _root_.true_and] at hx
  have e : (rawsS ![s, i, 0, 0] h).view.emb (ix2 (x 2) (x 3)) = x := by
    rw [rawsS_emb s i (by have := (x 0).isLt; have hx := hx; simp at this; omega) (by have := (x 1).isLt; have hx := hx; simp at this; omega) h (x 2) (x 3)]
    funext d; apply Fin.ext
    fin_cases d <;> first | rfl | (show _ = (x _).val; simp; omega)
  conv_lhs => rw [← e]
  rw [View.write_emb_of_mem _ _ (Finset.mem_univ _)]
  exact congrArg fs (scaleS_emb p hp h' (x 2) (x 3))

theorem out_write {o h o' h'} (p i : ℕ) (ho : o = ![p, 0, 0]) (ho' : o' = ![i, 0, 0]) (hp : i < 128)
    (fd : S4096x1x3840.Idx → Elt F .f32) (fs : S128x1x3840.Idx → Elt F .f32) (x : S4096x1x3840.Idx) (hx : x ∈ OP p) :
    (outS o h).view.write (Elt F) fd ((outtS o' h').view.read (Elt F) fs) Finset.univ x = fs (ix3 ⟨i, hp⟩ (x 1) (x 2)) := by
  subst ho ho'
  simp only [OP, Finset.mem_filter, Finset.mem_univ, _root_.true_and] at hx
  have e : (outS ![p, 0, 0] h).view.emb (ix2 (x 1) (x 2)) = x := by
    rw [outS_emb p (by have := (x 0).isLt; have hx := hx; simp at this; omega) h (x 1) (x 2)]
    funext d; apply Fin.ext
    fin_cases d <;> first | rfl | (show _ = (x _).val; simp; omega)
  conv_lhs => rw [← e]
  rw [View.write_emb_of_mem _ _ (Finset.mem_univ _)]
  exact congrArg fs (outtS_emb i hp h' (x 1) (x 2))

end Cert.Kernel.Hand
-- ==== Proof.Inp.lean ====
/-
  What the kernel is handed, and the memory rules in the form its body's statements have.
-/
module

public import proofs.«01_k».proof.Proof.Base

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Separated families over an interval of ℕ -/

theorem sep_empty {a b : ℕ} (h : b ≤ a) (Φ : ℕ → sProp 𝕄) : bigSep (Finset.Ico a b) Φ = (BI.emp : sProp 𝕄) := by
  rw [Finset.Ico_eq_empty (by omega), bigSep_empty]

theorem sep_head {a b : ℕ} (h : a < b) (Φ : ℕ → sProp 𝕄) :
    bigSep (Finset.Ico a b) Φ = iprop(Φ a ∗ bigSep (Finset.Ico (a + 1) b) Φ) := by
  rw [show Finset.Ico a b = insert a (Finset.Ico (a + 1) b) by ext x; simp only [Finset.mem_insert, Finset.mem_Ico]; omega, bigSep_insert (by simp)]; rfl

theorem sep_last {a b : ℕ} (h : a ≤ b) (Φ : ℕ → sProp 𝕄) :
    bigSep (Finset.Ico a (b + 1)) Φ = iprop(Φ b ∗ bigSep (Finset.Ico a b) Φ) := by
  rw [show Finset.Ico a (b + 1) = insert b (Finset.Ico a b) by ext x; simp only [Finset.mem_insert, Finset.mem_Ico]; omega, bigSep_insert (by simp)]; rfl

theorem sep_split {a b d : ℕ} (h : a ≤ b) (h' : b ≤ d) (Φ : ℕ → sProp 𝕄) :
    bigSep (Finset.Ico a d) Φ = iprop(bigSep (Finset.Ico a b) Φ ∗ bigSep (Finset.Ico b d) Φ) := by
  rw [← Finset.Ico_union_Ico_eq_Ico h h', BI.bigSep_union (Finset.Ico_disjoint_Ico_consecutive a b d)]; rfl

/-! ## The inputs -/

/-- The arrays the kernel reads, and what is known of them: the order of the pages is a permutation, the lengths in that
    order do not decrease, and the counts are in range. -/
structure Inp (F : FTy → Type) [FloatOps F] where
  B : S4096x4x1024.Idx → Elt F .i32
  S : S4096x1x1024.Idx → Elt F .f32
  T1 : S4096.Idx → Elt F .i32
  T2 : S4096.Idx → Elt F .i32
  T3 : S1.Idx → Elt F .i32
  L : S32x1x128.Idx → Elt F .i32
  Q : S3840x128.Idx → Elt F .fp8e4m3
  ord : Fin 4096 ≃ Fin 4096
  len : Fin 4096 → ℕ
  nv : ℕ
  hT1 : ∀ k : Fin 4096, (T1 (ix1 k) : BitVec 32).toNat = (ord k).val
  hT2 : ∀ k : Fin 4096, T2 (ix1 k) = BitVec.ofNat 32 (len k)
  hL : ∀ k : Fin 4096, L (ix3 (⟨k.val / 128, by omega⟩ : Fin 32) (0 : Fin 1) (⟨k.val % 128, Nat.mod_lt _ (by omega)⟩ : Fin 128)) = BitVec.ofNat 32 (len k)
  hT3 : T3 (ix1 0) = BitVec.ofNat 32 nv
  hnv : nv ≤ 3840
  hlen : ∀ k, 1 ≤ len k ∧ len k ≤ 1024
  hmono : ∀ k k' : Fin 4096, k ≤ k' → len k ≤ len k'

variable (X : Inp F)

/-- The page at sorted position `k`. -/
def Inp.pg (X : Inp F) (k : ℕ) : ℕ := if h : k < 4096 then (X.ord ⟨k, h⟩).val else 0
theorem Inp.pg_lt (X : Inp F) (k : ℕ) : X.pg k < 4096 := by unfold Inp.pg; split <;> omega

/-- The length of the page at sorted position `k`. -/
def Inp.ln (X : Inp F) (k : ℕ) : ℕ := if h : k < 4096 then X.len ⟨k, h⟩ else 1
theorem Inp.ln_pos (X : Inp F) (k : ℕ) : 1 ≤ X.ln k := by unfold Inp.ln; split; exact (X.hlen _).1; omega
theorem Inp.ln_le (X : Inp F) (k : ℕ) : X.ln k ≤ 1024 := by unfold Inp.ln; split; exact (X.hlen _).2; omega

/-- The raw rows of group `g`. -/
def Inp.raw (X : Inp F) (g : ℕ) : S2x128x4x1024.Idx → Elt F .i32 :=
  fun x => X.B (ix3 (⟨X.pg (128 * g + (x 1).val), X.pg_lt _⟩ : Fin 4096) (x 2) (x 3))
def Inp.raws (X : Inp F) (g : ℕ) : S2x128x1x1024.Idx → Elt F .f32 :=
  fun x => X.S (ix3 (⟨X.pg (128 * g + (x 1).val), X.pg_lt _⟩ : Fin 4096) (x 2) (x 3))

variable (c : Dev nD)

abbrev lBits : Loc nD τ sig := (c : Thread nD τ).loc main_arg3
abbrev lScale : Loc nD τ sig := (c : Thread nD τ).loc main_v9
abbrev lOut : Loc nD τ sig := (c : Thread nD τ).loc main_v10
abbrev lT1 : Loc nD τ sig := (c : Thread nD τ).loc main_v0
abbrev lT2 : Loc nD τ sig := (c : Thread nD τ).loc main_v7
abbrev lT3 : Loc nD τ sig := (c : Thread nD τ).loc main_arg0
abbrev lRaw : Loc nD τ sig := (c : Thread nD τ).loc cc0_scratch0
abbrev lRaws : Loc nD τ sig := (c : Thread nD τ).loc cc0_scratch1
abbrev lTb : Loc nD τ sig := (c : Thread nD τ).loc cc0_scratch2
abbrev lTs : Loc nD τ sig := (c : Thread nD τ).loc cc0_scratch3
abbrev lAcc : Loc nD τ sig := (c : Thread nD τ).loc cc0_scratch4
abbrev lOutt : Loc nD τ sig := (c : Thread nD τ).loc cc0_scratch5

/-! ## Rules for the body's statements -/

variable (𝒱 : Variants) (bd : Option 𝒱.V)

abbrev WP {α : Type} (p : Prog (TpuEff nD τ sig (Elt F) Λ₀ .tc) α) (Q : α → sProp 𝕄) : sProp 𝕄 :=
  wp frame (wpE (defs₀ (F := F)) 𝒱 (c : Thread nD τ) bd) Set.univ p Q

theorem wpb_smem {α : Type} {Q : α → sProp 𝕄} {s : Shape} {m : Memref sig .tc .smem s .i32} {r : Rect s} {h1 : r.shape.numel = 1} {hp : (.i32 : EltTy).packing = 1}
    {k : Elt F .i32 → Prog (TpuEff nD τ sig (Elt F) Λ₀ .tc) α} {q : PosShare TreeShare} {f : Buf (Elt F) (m.view.loc (c : Thread nD τ))} (v : Elt F .i32)
    (hv : (m.access r).read (Elt F) f (Shape.Idx.first (h1.symm ▸ Nat.one_pos)) = v) :
    (m.view.loc (c : Thread nD τ) ↦{q} f : sProp 𝕄) ⊢ iprop(((m.view.loc (c : Thread nD τ) ↦{q} f) -∗ WP c 𝒱 bd (k v) Q) -∗ WP c 𝒱 bd (smemLoad m r h1 hp >>= k) Q) := by
  subst hv
  exact wp_load_rect (defs := defs₀ (F := F)) 𝒱 (c : Thread nD τ) bd (Γ := .empty) Set.univ (Q := Q) (m := m) (r := r) (hl := View.loadsAt_rect (View.loads_smem_one hp h1)) (q := q) (f := f) (S := Finset.univ) (k := fun f => k (f (Shape.Idx.first (h1.symm ▸ Nat.one_pos)))) (Finset.subset_univ _)

theorem wpb_assume {α : Type} {Q : α → sProp 𝕄} {P : Prop} {d : Decidable P} {k : PLift P → Prog (TpuEff nD τ sig (Elt F) Λ₀ .tc) α} (h : P) :
    WP c 𝒱 bd (k ⟨h⟩) Q ⊢ WP c 𝒱 bd (Prog.lift (TpuEff.assume P d) >>= k) Q :=
  wp_assume 𝒱 (c : Thread nD τ) bd Set.univ h

theorem wpb_load {α : Type} {Q : α → sProp 𝕄} {cs : CoreSpace} {s : Shape} {e : EltTy} {m : Memref sig .tc cs s e} {r : Rect s} {hl : m.view.LoadsAt r.toLoadRect}
    {k : (r.shape.Idx → Elt F e) → Prog (TpuEff nD τ sig (Elt F) Λ₀ .tc) α} {S : Finset (Idx (m.view.loc (c : Thread nD τ)))}
    {q : PosShare TreeShare} {f : Buf (Elt F) (m.view.loc (c : Thread nD τ))} (v : r.shape.Idx → Elt F e)
    (hS : (m.access r).set ⊆ S) (hv : (m.access r).read (Elt F) f = v) :
    (m.view.loc (c : Thread nD τ) ↦[S]{q} f : sProp 𝕄)
      ⊢ iprop(((m.view.loc (c : Thread nD τ) ↦[S]{q} f) -∗ WP c 𝒱 bd (k v) Q) -∗ WP c 𝒱 bd (Prog.lift (.load m r.toLoadRect hl) >>= k) Q) := by
  subst hv
  exact wp_load_rect (defs := defs₀ (F := F)) 𝒱 (c : Thread nD τ) bd (Γ := .empty) Set.univ (Q := Q) (m := m) (r := r) (hl := hl) (q := q) (f := f) (S := S) (k := k) hS

theorem wpb_store {α : Type} {Q : α → sProp 𝕄} {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} {S : Finset (Idx (m.view.loc (c : Thread nD τ)))}
    {f : Buf (Elt F) (m.view.loc (c : Thread nD τ))} (g : Buf (Elt F) (m.view.loc (c : Thread nD τ)))
    (hS : (m.access r).set ⊆ S) (hg : ∀ i ∈ S, (m.access r).write (Elt F) f w Finset.univ i = g i) :
    (m.view.loc (c : Thread nD τ) ↦[S]{fullShare} f : sProp 𝕄)
      ⊢ iprop(((m.view.loc (c : Thread nD τ) ↦[S]{fullShare} g) -∗ WP c 𝒱 bd (k ⟨⟩) Q) -∗ WP c 𝒱 bd (Prog.lift (.store m r w Finset.univ hx hm) >>= k) Q) := by
  have e : (m.view.loc (c : Thread nD τ) ↦[S]{fullShare} (m.access r).write (Elt F) f w Finset.univ : sProp 𝕄) = (m.view.loc (c : Thread nD τ) ↦[S]{fullShare} g) := pointsTo_congr hg
  rw [← e]
  exact wp_store (defs := defs₀ (F := F)) 𝒱 (c : Thread nD τ) bd (Γ := .empty) Set.univ (Q := Q) (m := m) (r := r) (w := w) (Mk := Finset.univ) (hx := hx) (hm := hm) (f := f) (S := S) (k := k) (((m.access r).setOn_subset_set _).trans hS)

theorem wpb_ret {α : Type} {Q : α → sProp 𝕄} {a : α} : Q a ⊢ WP c 𝒱 bd (pure a) Q := by
  show Q a ⊢ wp frame (wpE (defs₀ (F := F)) 𝒱 (c : Thread nD τ) bd) Set.univ (.ret a) Q
  rw [wp_ret]; exact BI.fupd_intro

end Cert.Kernel.Hand
-- ==== Proof.TurnPure.lean ====
/-
  What the words of the transposing loop are, element by element.
-/
module

public import proofs.«01_k».proof.Proof.Inp
public import Idealize.ShloMosaic.Lib.Pointwise

@[expose] public section

noncomputable section

namespace Cert.Kernel.Hand

open Cert.Kernel Cert.Kernel.Gen
open Idealize.ShloMosaic Idealize.ShloMosaic.TcCoe Idealize.ShloMosaic.Tactic Idealize.ShloMosaic.Tactic
open Idealize.ShloMosaic.ValueIdx hiding ix0 ix1 ix2 ix3 ix4
open Idealize.ShloMosaic.WordCmp
open Idealize.SL Idealize.SL.RA Idealize.SL.BI
open scoped Idealize.SL.BI
open Idealize.SL.BI.BIBase Idealize.SL.BI.Laws Idealize.SL.ProofMode Idealize.SL.Sem

variable {F : FTy → Type} [FloatOps F]

section
variable (v36 : Elt F .i32) (k : Fin (k0_t3_loop v36).trips) (a b : Fin 128)

theorem pay9_at (v29 : Vec F S1x1x128 .i32) (n : ℕ) (hn : n ≤ 1024) (hk : k.val < 8) (hv : v29 (ix3 (0 : Fin 1) (0 : Fin 1) b) = BitVec.ofNat 32 n) :
    k0_pay9 (k0_pay74 v29) v36 0#32 1#32 k (ix2 a b) = BitVec.ofBool (decide (128 * k.val + a.val < n)) := by
  have e : k0_pay9 (F := F) (k0_pay74 v29) v36 0#32 1#32 k (ix2 a b)
      = IntOp.cmpi .slt (IntOp.addi (BitVec.ofNat 32 a.val) (Scalar.muli (Scf.iv 0#32 1#32 k.val) 128#32)) (v29 (ix3 (0 : Fin 1) (0 : Fin 1) b)) := by
    pointwise [k0_pay9, k0_pay74]
  rw [e, hv, iv01, show IntOp.addi (BitVec.ofNat 32 a.val) (Scalar.muli (BitVec.ofNat 32 k.val) 128#32) = BitVec.ofNat 32 (128 * k.val + a.val) by
    have ha := a.isLt
    show BitVec.ofNat 32 a.val + BitVec.ofNat 32 k.val * 128#32 = _
    apply BitVec.eq_of_toNat_eq; simp; omega, cmpi_slt_ofNat (by omega) (by omega)]

theorem pay11_at (v : Vec F S1x128x1x128 .f32) : k0_pay11 v (ix2 a b) = v (ix4 (0 : Fin 1) b (0 : Fin 1) a) := by
  pointwise [k0_pay11, k0_pay10]

theorem pay12_at (v31 : IVec S1x128 32) (v : Vec F S1x128x1x128 .f32) (r : Vec F S1x128 .f32) :
    k0_pay12 v31 v36 0#32 1#32 k v r (ix2 a b) = Scalar.select (k0_pay9 (F := F) v31 v36 0#32 1#32 k (ix2 a b)) (v (ix4 (0 : Fin 1) b (0 : Fin 1) a)) (r (ix2 (0 : Fin 1) b)) := by
  pointwise [k0_pay12, k0_pay10]

theorem pay14_at (v : Vec F S1x128x1x128 .i32) : k0_pay14 v (ix3 (0 : Fin 1) a b) = v (ix4 (0 : Fin 1) b (0 : Fin 1) a) := by
  pointwise [k0_pay14, k0_pay13]
theorem pay18_at (v : Vec F S1x128x1x128 .i32) : k0_pay18 v (ix3 (0 : Fin 1) a b) = v (ix4 (0 : Fin 1) b (0 : Fin 1) a) := by
  pointwise [k0_pay18, k0_pay17]
theorem pay21_at (v : Vec F S1x128x1x128 .i32) : k0_pay21 v (ix3 (0 : Fin 1) a b) = v (ix4 (0 : Fin 1) b (0 : Fin 1) a) := by
  pointwise [k0_pay21, k0_pay20]
theorem pay76_at (v : Vec F S1x128x1x128 .i32) : k0_pay76 v (ix3 (0 : Fin 1) a b) = v (ix4 (0 : Fin 1) b (0 : Fin 1) a) := by
  pointwise [k0_pay76, k0_pay75]

theorem pay16_at (v31 : IVec S1x128 32) (v : Vec F S1x128x1x128 .i32) (r : Vec F S1x1x128 .i32) :
    k0_pay16 (k0_pay15 v31 v36 0#32 1#32 k v r) (ix3 (0 : Fin 1) a b)
      = Scalar.select (k0_pay9 (F := F) v31 v36 0#32 1#32 k (ix2 a b)) (v (ix4 (0 : Fin 1) b (0 : Fin 1) a)) (r (ix3 (0 : Fin 1) (0 : Fin 1) b)) := by
  pointwise [k0_pay16, k0_pay15, k0_pay13]
theorem pay19_at (m : IVec S128x128 1) (v : Vec F S1x128x1x128 .i32) (r : Vec F S1x1x128 .i32) :
    k0_pay19 m v r (ix3 (0 : Fin 1) a b) = Scalar.select (m (ix2 a b)) (v (ix4 (0 : Fin 1) b (0 : Fin 1) a)) (r (ix3 (0 : Fin 1) (0 : Fin 1) b)) := by
  pointwise [k0_pay19, k0_pay17]
theorem pay22_at (m : IVec S128x128 1) (v : Vec F S1x128x1x128 .i32) (r : Vec F S1x1x128 .i32) :
    k0_pay22 m v r (ix3 (0 : Fin 1) a b) = Scalar.select (m (ix2 a b)) (v (ix4 (0 : Fin 1) b (0 : Fin 1) a)) (r (ix3 (0 : Fin 1) (0 : Fin 1) b)) := by
  pointwise [k0_pay22, k0_pay20]
theorem pay77_at (m : IVec S128x128 1) (v : Vec F S1x128x1x128 .i32) (r : Vec F S1x1x128 .i32) :
    k0_pay77 m v r (ix3 (0 : Fin 1) a b) = Scalar.select (m (ix2 a b)) (v (ix4 (0 : Fin 1) b (0 : Fin 1) a)) (r (ix3 (0 : Fin 1) (0 : Fin 1) b)) := by
  pointwise [k0_pay77, k0_pay75]

theorem pay7_at (v : Vec F S128x128 .f32) : k0_pay7 v (ix3 a (0 : Fin 1) b) = v (ix2 b a) := by
  pointwise [k0_pay7]
end

/-! ## A store of a block, pointwise -/

section
variable (X : Inp F)

/-- The rows of the tile's bits, the padding patches replaced by patch 0. -/
def tbc (g : ℕ) (w : Fin 4) (j : Fin 1024) (p : Fin 128) : Elt F .i32 :=
  X.B (ix3 (⟨X.pg (128 * g + p.val), X.pg_lt _⟩ : Fin 4096) w (if j.val < X.ln (128 * g + p.val) then j else (⟨0, by omega⟩ : Fin 1024)))
def tsc (g : ℕ) (j : Fin 1024) (p : Fin 128) : Elt F .f32 :=
  X.S (ix3 (⟨X.pg (128 * g + p.val), X.pg_lt _⟩ : Fin 4096) (0 : Fin 1) (if j.val < X.ln (128 * g + p.val) then j else (⟨0, by omega⟩ : Fin 1024)))
def tbV (g : ℕ) : S4x1024x128.Idx → Elt F .i32 := fun x => tbc X g (x 0) (x 1) (x 2)
def tsV (g : ℕ) : S1024x128.Idx → Elt F .f32 := fun x => tsc X g (x 0) (x 1)

theorem tbc_zero (g : ℕ) (w : Fin 4) (p : Fin 128) : tbc X g w ⟨0, by omega⟩ p = X.B (ix3 (⟨X.pg (128 * g + p.val), X.pg_lt _⟩ : Fin 4096) w (⟨0, by omega⟩ : Fin 1024)) := by
  unfold tbc; rw [ite_self]
theorem tsc_zero (g : ℕ) (p : Fin 128) : tsc X g ⟨0, by omega⟩ p = X.S (ix3 (⟨X.pg (128 * g + p.val), X.pg_lt _⟩ : Fin 4096) (0 : Fin 1) (⟨0, by omega⟩ : Fin 1024)) := by
  unfold tsc; rw [ite_self]

/-- Word row `w` of the tile's bits is in place up to patch `128 n`. -/
def GoodB (g w n : ℕ) (f : S4x1024x128.Idx → Elt F .i32) : Prop := ∀ x, (x 0).val = w → (x 1).val < 128 * n → f x = tbV X g x
def GoodS (g n : ℕ) (f : S1024x128.Idx → Elt F .f32) : Prop := ∀ x, (x 0).val < 128 * n → f x = tsV X g x

def updS (k : ℕ) (v : Vec F S128x128 .f32) (f : S1024x128.Idx → Elt F .f32) : S1024x128.Idx → Elt F .f32 := fun x =>
  if h : 128 * k ≤ (x 0).val ∧ (x 0).val < 128 * k + 128 then v (ix2 (⟨(x 0).val - 128 * k, by omega⟩ : Fin 128) (x 1)) else f x

def updB (w k : ℕ) (v : Vec F S1x128x128 .i32) (f : S4x1024x128.Idx → Elt F .i32) : S4x1024x128.Idx → Elt F .i32 := fun x =>
  if h : (x 0).val = w ∧ 128 * k ≤ (x 1).val ∧ (x 1).val < 128 * k + 128 then v (ix3 (0 : Fin 1) (⟨(x 1).val - 128 * k, by omega⟩ : Fin 128) (x 2)) else f x

theorem write_updS {o h} (k : ℕ) (ho : o = ![128 * k, 0]) (v : Vec F S128x128 .f32) (f : S1024x128.Idx → Elt F .f32) (x : S1024x128.Idx) :
    ((Memref.whole cc0_scratch3).access (Rect.unit (s := S1024x128) o S128x128.size h)).write (Elt F) f v Finset.univ x = updS k v f x := by
  subst ho
  unfold updS
  split
  · rename_i hx
    have e : ((Memref.whole cc0_scratch3).access (Rect.unit (s := S1024x128) ![128 * k, 0] S128x128.size h)).emb (ix2 (⟨(x 0).val - 128 * k, by omega⟩ : Fin 128) (x 1)) = x := by
      funext d; apply Fin.ext; fin_cases d
      · show 128 * k + 1 * ((x 0).val - 128 * k) = (x 0).val; omega
      · show 0 + 1 * (x 1).val = (x 1).val; omega
    have hw := View.write_emb_of_mem (v := (Memref.whole cc0_scratch3).access (Rect.unit (s := S1024x128) ![128 * k, 0] S128x128.size h)) (Val := Elt F) f v (M := Finset.univ)
      (x := ix2 (⟨(x 0).val - 128 * k, by omega⟩ : Fin 128) (x 1)) (Finset.mem_univ _)
    rw [e] at hw
    exact hw
  · rename_i hx
    refine View.write_of_not_mem _ _ _ ?_
    intro hm
    obtain ⟨y, -, hy⟩ := Finset.mem_map.1 hm
    apply hx
    have hy0 : (y 0).val < 128 := (y 0).isLt
    have := congrArg (fun z => (z 0).val) hy
    have : 128 * k + 1 * (y 0).val = (x 0).val := this
    omega

theorem write_updB {o h} (w k : ℕ) (ho : o = ![w, 128 * k, 0]) (v : Vec F S1x128x128 .i32) (f : S4x1024x128.Idx → Elt F .i32) (x : S4x1024x128.Idx) :
    ((Memref.whole cc0_scratch2).access (Rect.unit (s := S4x1024x128) o S1x128x128.size h)).write (Elt F) f v Finset.univ x = updB w k v f x := by
  subst ho
  unfold updB
  split
  · rename_i hx
    have e : ((Memref.whole cc0_scratch2).access (Rect.unit (s := S4x1024x128) ![w, 128 * k, 0] S1x128x128.size h)).emb (ix3 (0 : Fin 1) (⟨(x 1).val - 128 * k, by omega⟩ : Fin 128) (x 2)) = x := by
      funext d; apply Fin.ext; fin_cases d
      · show w + 1 * 0 = (x 0).val; omega
      · show 128 * k + 1 * ((x 1).val - 128 * k) = (x 1).val; omega
      · show 0 + 1 * (x 2).val = (x 2).val; omega
    have hw := View.write_emb_of_mem (v := (Memref.whole cc0_scratch2).access (Rect.unit (s := S4x1024x128) ![w, 128 * k, 0] S1x128x128.size h)) (Val := Elt F) f v (M := Finset.univ)
      (x := ix3 (0 : Fin 1) (⟨(x 1).val - 128 * k, by omega⟩ : Fin 128) (x 2)) (Finset.mem_univ _)
    rw [e] at hw
    exact hw
  · rename_i hx
    refine View.write_of_not_mem _ _ _ ?_
    intro hm
    obtain ⟨y, -, hy⟩ := Finset.mem_map.1 hm
    apply hx
    have hy0 : (y 0).val < 1 := (y 0).isLt
    have hy1 : (y 1).val < 128 := (y 1).isLt
    have h0 := congrArg (fun z => (z 0).val) hy
    have h1 := congrArg (fun z => (z 1).val) hy
    have h0 : w + 1 * (y 0).val = (x 0).val := h0
    have h1 : 128 * k + 1 * (y 1).val = (x 1).val := h1
    omega

theorem ix3_self {n0 n1 n2 : ℕ} (x : (⟨3, ![n0, n1, n2]⟩ : Shape).Idx) (a : Fin n0) (b : Fin n1) (d : Fin n2) (h0 : (x 0).val = a.val) (h1 : (x 1).val = b.val) (h2 : (x 2).val = d.val) : x = ix3 a b d := by
  funext e; match e with | ⟨0, _⟩ => exact Fin.ext h0 | ⟨1, _⟩ => exact Fin.ext h1 | ⟨2, _⟩ => exact Fin.ext h2
theorem ix2_self {n0 n1 : ℕ} (x : (⟨2, ![n0, n1]⟩ : Shape).Idx) (a : Fin n0) (b : Fin n1) (h0 : (x 0).val = a.val) (h1 : (x 1).val = b.val) : x = ix2 a b := by
  funext e; match e with | ⟨0, _⟩ => exact Fin.ext h0 | ⟨1, _⟩ => exact Fin.ext h1

/-- A block whose padding has been replaced extends the rows that are in place. -/
theorem goodB_step (g w k : ℕ) (hw : w < 4) (hk : k < 8) (m : IVec S128x128 1) (u v : Vec F S1x128x128 .i32) (r : Fin 128 → Elt F .i32) (f : S4x1024x128.Idx → Elt F .i32)
    (hm : ∀ a b : Fin 128, m (ix2 a b) = BitVec.ofBool (decide (128 * k + a.val < X.ln (128 * g + b.val))))
    (hu : ∀ a b : Fin 128, u (ix3 (0 : Fin 1) a b) = Scalar.select (m (ix2 a b)) (v (ix3 (0 : Fin 1) a b)) (r b))
    (hv : ∀ a b : Fin 128, v (ix3 (0 : Fin 1) a b) = X.B (ix3 (⟨X.pg (128 * g + b.val), X.pg_lt _⟩ : Fin 4096) (⟨w, hw⟩ : Fin 4) (⟨128 * k + a.val, by omega⟩ : Fin 1024)))
    (hr : ∀ b : Fin 128, r b = X.B (ix3 (⟨X.pg (128 * g + b.val), X.pg_lt _⟩ : Fin 4096) (⟨w, hw⟩ : Fin 4) (⟨0, by omega⟩ : Fin 1024)))
    (hf : GoodB X g w k f) : GoodB X g w (k + 1) (updB w k u (updB w k v f)) := by
  have key : ∀ a b : Fin 128, u (ix3 (0 : Fin 1) a b) = tbc X g ⟨w, hw⟩ ⟨128 * k + a.val, by omega⟩ b := by
    intro a b
    rw [hu, hm, hv, hr, select_ofBool]
    unfold tbc
    simp only [decide_eq_true_eq]
    split <;> rfl
  intro x hx0 hx1
  unfold updB
  by_cases h : (x 0).val = w ∧ 128 * k ≤ (x 1).val ∧ (x 1).val < 128 * k + 128
  · rw [dif_pos h]
    refine (key _ _).trans ?_
    have e : (⟨128 * k + ((x 1).val - 128 * k), by omega⟩ : Fin 1024) = x 1 := Fin.ext (by show 128 * k + ((x 1).val - 128 * k) = (x 1).val; omega)
    have e0 : (⟨w, hw⟩ : Fin 4) = x 0 := Fin.ext hx0.symm
    exact congrArg₂ (fun a b => tbc X g a b (x 2)) e0 e
  · rw [dif_neg h, dif_neg h]
    exact hf x hx0 (by omega)

theorem goodB_other (g w w' k n : ℕ) (hw : w ≠ w') (u v : Vec F S1x128x128 .i32) (f : S4x1024x128.Idx → Elt F .i32) (hf : GoodB X g w n f) :
    GoodB X g w n (updB w' k u (updB w' k v f)) := by
  intro x hx0 hx1
  unfold updB
  rw [dif_neg (by omega), dif_neg (by omega)]
  exact hf x hx0 hx1

theorem goodS_step (g k : ℕ) (hk : k < 8) (m : IVec S128x128 1) (u v : Vec F S128x128 .f32) (r : Fin 128 → Elt F .f32) (f : S1024x128.Idx → Elt F .f32)
    (hm : ∀ a b : Fin 128, m (ix2 a b) = BitVec.ofBool (decide (128 * k + a.val < X.ln (128 * g + b.val))))
    (hu : ∀ a b : Fin 128, u (ix2 a b) = Scalar.select (m (ix2 a b)) (v (ix2 a b)) (r b))
    (hv : ∀ a b : Fin 128, v (ix2 a b) = X.S (ix3 (⟨X.pg (128 * g + b.val), X.pg_lt _⟩ : Fin 4096) (0 : Fin 1) (⟨128 * k + a.val, by omega⟩ : Fin 1024)))
    (hr : ∀ b : Fin 128, r b = X.S (ix3 (⟨X.pg (128 * g + b.val), X.pg_lt _⟩ : Fin 4096) (0 : Fin 1) (⟨0, by omega⟩ : Fin 1024)))
    (hf : GoodS X g k f) : GoodS X g (k + 1) (updS k u (updS k v f)) := by
  have key : ∀ a b : Fin 128, u (ix2 a b) = tsc X g ⟨128 * k + a.val, by omega⟩ b := by
    intro a b
    rw [hu, hm, hv, hr, select_ofBool]
    unfold tsc
    simp only [decide_eq_true_eq]
    split <;> rfl
  intro x hx1
  unfold updS
  by_cases h : 128 * k ≤ (x 0).val ∧ (x 0).val < 128 * k + 128
  · rw [dif_pos h]
    refine (key _ _).trans ?_
    have e : (⟨128 * k + ((x 0).val - 128 * k), by omega⟩ : Fin 1024) = x 0 := Fin.ext (by show 128 * k + ((x 0).val - 128 * k) = (x 0).val; omega)
    exact congrArg (fun a => tsc X g a (x 1)) e
  · rw [dif_neg h, dif_neg h]
    exact hf x (by omega)

theorem goodB_pass (g w k : ℕ) (hw : w < 4) (hk : k < 8) (m : IVec S128x128 1) (rv : Vec F S1x128x1x128 .i32) (p u : Vec F S1x128x128 .i32) (row : Vec F S1x1x128 .i32) (f : S4x1024x128.Idx → Elt F .i32)
    (hm : ∀ a b : Fin 128, m (ix2 a b) = BitVec.ofBool (decide (128 * k + a.val < X.ln (128 * g + b.val))))
    (hrv : ∀ a b : Fin 128, rv (ix4 (0 : Fin 1) b (0 : Fin 1) a) = X.B (ix3 (⟨X.pg (128 * g + b.val), X.pg_lt _⟩ : Fin 4096) (⟨w, hw⟩ : Fin 4) (⟨128 * k + a.val, by omega⟩ : Fin 1024)))
    (hp : ∀ a b : Fin 128, p (ix3 (0 : Fin 1) a b) = rv (ix4 (0 : Fin 1) b (0 : Fin 1) a))
    (hrow : ∀ b : Fin 128, row (ix3 (0 : Fin 1) (0 : Fin 1) b) = updB w k p f (ix3 (⟨w, hw⟩ : Fin 4) (⟨0, by omega⟩ : Fin 1024) b))
    (hu : ∀ a b : Fin 128, u (ix3 (0 : Fin 1) a b) = Scalar.select (m (ix2 a b)) (rv (ix4 (0 : Fin 1) b (0 : Fin 1) a)) (row (ix3 (0 : Fin 1) (0 : Fin 1) b)))
    (hf : GoodB X g w k f) : GoodB X g w (k + 1) (updB w k u (updB w k p f)) := by
  refine goodB_step X g w k hw hk m u p (fun b => row (ix3 (0 : Fin 1) (0 : Fin 1) b)) f hm (fun a b => by rw [hu, hp]) (fun a b => by rw [hp, hrv]) (fun b => ?_) hf
  show row _ = _
  rw [hrow]
  unfold updB
  by_cases h : k = 0
  · subst h
    rw [dif_pos ⟨rfl, Nat.zero_le _, by show (0 : ℕ) < 128 * 0 + 128; omega⟩]
    exact (hp ⟨0, by omega⟩ b).trans (hrv _ _)
  · rw [dif_neg (fun h' => h (by have h2 : 128 * k ≤ 0 := h'.2.1; omega))]
    rw [hf _ rfl (by show 0 < 128 * k; omega)]
    exact tbc_zero X g ⟨w, hw⟩ b

theorem goodS_pass (g k : ℕ) (hk : k < 8) (m : IVec S128x128 1) (rv : Vec F S1x128x1x128 .f32) (p u : Vec F S128x128 .f32) (row : Vec F S1x128 .f32) (f : S1024x128.Idx → Elt F .f32)
    (hm : ∀ a b : Fin 128, m (ix2 a b) = BitVec.ofBool (decide (128 * k + a.val < X.ln (128 * g + b.val))))
    (hrv : ∀ a b : Fin 128, rv (ix4 (0 : Fin 1) b (0 : Fin 1) a) = X.S (ix3 (⟨X.pg (128 * g + b.val), X.pg_lt _⟩ : Fin 4096) (0 : Fin 1) (⟨128 * k + a.val, by omega⟩ : Fin 1024)))
    (hp : ∀ a b : Fin 128, p (ix2 a b) = rv (ix4 (0 : Fin 1) b (0 : Fin 1) a))
    (hrow : ∀ b : Fin 128, row (ix2 (0 : Fin 1) b) = updS k p f (ix2 (⟨0, by omega⟩ : Fin 1024) b))
    (hu : ∀ a b : Fin 128, u (ix2 a b) = Scalar.select (m (ix2 a b)) (rv (ix4 (0 : Fin 1) b (0 : Fin 1) a)) (row (ix2 (0 : Fin 1) b)))
    (hf : GoodS X g k f) : GoodS X g (k + 1) (updS k u (updS k p f)) := by
  refine goodS_step X g k hk m u p (fun b => row (ix2 (0 : Fin 1) b)) f hm (fun a b => by rw [hu, hp]) (fun a b => by rw [hp, hrv]) (fun b => ?_) hf
  show row _ = _
  rw [hrow]
  unfold updS
  by_cases h : k = 0
  · subst h
    rw [dif_pos ⟨Nat.zero_le _, by show (0 : ℕ) < 128 * 0 + 128; omega⟩]
    exact (hp ⟨0, by omega⟩ b).trans (hrv _ _)
  · rw [dif_neg (fun h' => h (by have h2 : 128 * k ≤ 0 := h'.1; omega))]
    rw [hf _ (by show 0 < 128 * k; omega)]
    exact tsc_zero X g b

/-! ## Reading a block of a raw slot, and a row of a block -/

theorem raw_read (g s w k : ℕ) (hw : w < 4) (hk : k < 8) {o h} (ho : o = ![s, 0, w, 128 * k]) (a b : Fin 128) :
    ((Memref.whole cc0_scratch0).access (Rect.unit (s := S2x128x4x1024) o S1x128x1x128.size h)).read (Elt F) (X.raw g) (ix4 (0 : Fin 1) b (0 : Fin 1) a)
      = X.B (ix3 (⟨X.pg (128 * g + b.val), X.pg_lt _⟩ : Fin 4096) (⟨w, hw⟩ : Fin 4) (⟨128 * k + a.val, by omega⟩ : Fin 1024)) := by
  subst ho
  refine congrArg X.B (ix3_self _ _ _ _ ?_ ?_ ?_)
  · show X.pg (128 * g + (0 + 1 * b.val)) = X.pg (128 * g + b.val)
    rw [Nat.zero_add, Nat.one_mul]
  · show w + 1 * 0 = w; omega
  · show 128 * k + 1 * a.val = 128 * k + a.val; omega

theorem raws_read (g s k : ℕ) (hk : k < 8) {o h} (ho : o = ![s, 0, 0, 128 * k]) (a b : Fin 128) :
    ((Memref.whole cc0_scratch1).access (Rect.unit (s := S2x128x1x1024) o S1x128x1x128.size h)).read (Elt F) (X.raws g) (ix4 (0 : Fin 1) b (0 : Fin 1) a)
      = X.S (ix3 (⟨X.pg (128 * g + b.val), X.pg_lt _⟩ : Fin 4096) (0 : Fin 1) (⟨128 * k + a.val, by omega⟩ : Fin 1024)) := by
  subst ho
  refine congrArg X.S (ix3_self _ _ _ _ ?_ ?_ ?_)
  · show X.pg (128 * g + (0 + 1 * b.val)) = X.pg (128 * g + b.val)
    rw [Nat.zero_add, Nat.one_mul]
  · rfl
  · show 128 * k + 1 * a.val = 128 * k + a.val; omega

theorem raw_sub (s w k : ℕ) {o h} (ho : o = ![s, 0, w, 128 * k]) :
    ((Memref.whole cc0_scratch0).access (Rect.unit (s := S2x128x4x1024) o S1x128x1x128.size h)).set ⊆ RWs s := by
  subst ho
  intro x hx
  obtain ⟨y, -, hy⟩ := Finset.mem_map.1 hx
  have hy0 : (y 0).val < 1 := (y 0).isLt
  have h0 := congrArg (fun z => (z 0).val) hy
  have h0 : s + 1 * (y 0).val = (x 0).val := h0
  unfold RWs
  exact Finset.mem_filter.2 ⟨Finset.mem_univ _, by show (x 0).val = s; omega⟩

theorem raws_sub (s k : ℕ) {o h} (ho : o = ![s, 0, 0, 128 * k]) :
    ((Memref.whole cc0_scratch1).access (Rect.unit (s := S2x128x1x1024) o S1x128x1x128.size h)).set ⊆ RCs s := by
  subst ho
  intro x hx
  obtain ⟨y, -, hy⟩ := Finset.mem_map.1 hx
  have hy0 : (y 0).val < 1 := (y 0).isLt
  have h0 := congrArg (fun z => (z 0).val) hy
  have h0 : s + 1 * (y 0).val = (x 0).val := h0
  unfold RCs
  exact Finset.mem_filter.2 ⟨Finset.mem_univ _, by show (x 0).val = s; omega⟩

theorem tsRow_read (f : S1024x128.Idx → Elt F .f32) {h} (b : Fin 128) :
    ((Memref.whole cc0_scratch3).access (Rect.unit (s := S1024x128) ![0, 0] S1x128.size h)).read (Elt F) f (ix2 (0 : Fin 1) b) = f (ix2 (⟨0, by omega⟩ : Fin 1024) b) := by
  refine congrArg f (ix2_self _ _ _ ?_ ?_)
  · rfl
  · show 0 + 1 * b.val = b.val; omega

theorem tbRow_read (f : S4x1024x128.Idx → Elt F .i32) (w : ℕ) (hw : w < 4) {h} (b : Fin 128) :
    ((Memref.whole cc0_scratch2).access (Rect.unit (s := S4x1024x128) ![w, 0, 0] S1x1x128.size h)).read (Elt F) f (ix3 (0 : Fin 1) (0 : Fin 1) b) = f (ix3 (⟨w, hw⟩ : Fin 4) (⟨0, by omega⟩ : Fin 1024) b) := by
  refine congrArg f (ix3_self _ _ _ _ ?_ ?_ ?_)
  · show w + 1 * 0 = w; omega
  · rfl
  · show 0 + 1 * b.val = b.val; omega

end

end Cert.Kernel.Hand
-- ==== Proof.Fetch.lean ====
/-
  The transfers that bring a group of pages into a slot: what each delivers, the loop that issues them, and the two waits.
-/
module

public import proofs.«01_k».proof.Proof.Inp

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Transfers (MixedBatch sumTo wp_dmaMixedBatch wp_waitMixedBatch mixedBatch_alloc' mixedBatch_collect')

variable (X : Inp F) (c : Dev nD) (𝒱 : Variants) (bd : Option 𝒱.V)

/-- The user algebra's counters. -/
abbrev EC : UEmb Counters 𝕄 := countersEmb (U := Pipeline.UD sig nD τ)

/-! ## The slots' semaphores -/

abbrev slotS (o : Fin 1 → ℕ) (h : ∀ a, o a + S1.size a ≤ S2.size a) : DmaSems sig S_ :=
  (cc0_scratch6.slice (Rect.unit (s := S2) o S1.size h)).squeeze S_ squeezes_S1_S_

def slotSem (s : ℕ) : DmaSem sig := if s = 0 then (slotS ![0] (by decide)).sem else (slotS ![1] (by decide)).sem

theorem slotS_sem {o h} (s : ℕ) (hs : s < 2) (ho : o = ![s]) : (slotS o h).sem = slotSem s := by
  subst ho
  interval_cases s <;> rfl

/-! ## What the transfers deliver -/

def bitsAt (k : ℕ) : sProp 𝕄 := (lBits c ↦[BP (X.pg k)]{fullShare} X.B)
def scaleAt (k : ℕ) : sProp 𝕄 := (lScale c ↦[SP (X.pg k)]{fullShare} X.S)
def rowAt (g i : ℕ) : sProp 𝕄 := (lRaw c ↦[RW (g % 2) i]{fullShare} X.raw g)
def rowsAt (g i : ℕ) : sProp 𝕄 := (lRaws c ↦[RC (g % 2) i]{fullShare} X.raws g)

/-- Transfer `t` of group `g`: an even one delivers a page's bits, an odd one its scales. -/
def Dg (g : ℕ) (t : Fin 256) : sProp 𝕄 :=
  if t.val % 2 = 0 then iprop(rowAt X c g (t.val / 2) ∗ bitsAt X c (128 * g + t.val / 2))
  else iprop(rowsAt X c g (t.val / 2) ∗ scaleAt X c (128 * g + t.val / 2))

instance Dg_storable (g : ℕ) (t : Fin 256) : Storable (upEmb : UEmb _ 𝕄) (Dg X c g t) := by
  unfold Dg rowAt rowsAt bitsAt scaleAt; split <;> infer_instance

def aB : ℕ := (rawS ![0, 0, 0, 0] (by decide)).view.dmaCredit
def aS : ℕ := (rawsS ![0, 0, 0, 0] (by decide)).view.dmaCredit
def Ag (t : Fin 256) : ℕ := if t.val % 2 = 0 then aB else aS

theorem aB_pos : 0 < aB := View.dmaCredit_pos _ (by decide)
theorem aS_pos : 0 < aS := View.dmaCredit_pos _ (by decide)
theorem Ag_pos (t : Fin 256) : 0 < Ag t := by unfold Ag; split; exact aB_pos; exact aS_pos

theorem sumTo_Ag (k : ℕ) (hk : k ≤ 128) : sumTo Ag (2 * k) = k * (aB + aS) := by
  induction k with
  | zero => simp [sumTo]
  | succ k ih =>
    rw [show 2 * (k + 1) = 2 * k + 1 + 1 by omega, Transfers.sumTo_succ _ (show 2 * k + 1 < 256 by omega), Transfers.sumTo_succ _ (show 2 * k < 256 by omega), ih (by omega)]
    have e1 : Ag ⟨2 * k, by omega⟩ = aB := by unfold Ag; rw [if_pos (by show 2 * k % 2 = 0; omega)]
    have e2 : Ag ⟨2 * k + 1, by omega⟩ = aS := by unfold Ag; rw [if_neg (by show ¬ (2 * k + 1) % 2 = 0; omega)]
    rw [e1, e2]
    simp only [Nat.add_mul, Nat.one_mul]; omega

abbrev BatchG (g k u : ℕ) : sProp 𝕄 := MixedBatch (EC (F := F)) (c : Thread nD τ) (.dma (slotSem (g % 2))) () Ag (Dg X c g) k u

theorem wpb_bits {α : Type} {Q : α → sProp 𝕄} {o h o' h'} {sm : DmaSem sig} {h1 h2 h3} {k : PUnit → Prog (TpuEff nD τ sig (Elt F) Λ₀ .tc) α} (g i u : ℕ) (hi : i < 128)
    (ho : o = ![X.pg (128 * g + i), 0, 0]) (ho' : o' = ![g % 2, i, 0, 0]) (hsm : sm = slotSem (g % 2))
    (f : S2x128x4x1024.Idx → Elt F .i32) (hu : u ≤ sumTo Ag (2 * i)) :
    iprop(bitsAt X c (128 * g + i) ∗ (lRaw c ↦[RW (g % 2) i]{fullShare} f) ∗ BatchG X c g (2 * i) u)
      ⊢ iprop((BatchG X c g (2 * i + 1) u -∗ WP c 𝒱 bd (k ⟨⟩) Q)
        -∗ WP c 𝒱 bd (Prog.lift (.enqueueDma (bitsS o h) (.here (rawS o' h')) (.dma sm) h1 h2 h3) >>= k) Q) := by
  subst hsm
  have hr := wp_dmaMixedBatch (Q := Q) (defs := defs₀ (F := F)) (Ix := Unit) (Val := Elt F) (Name := ℕ) (U := Pipeline.UD sig nD τ) (Lvl := ℕ)
    (EC (F := F)) 𝒱 (c : Thread nD τ) bd (src := bitsS o h) (via := .same) (dst := rawS o' h') (sm := .dma (slotSem (g % 2)))
    (hsrc := h1) (hdst := h2) (hsem := h3) (k := k) (q := fullShare) (fs := X.B) (Sd := RW (g % 2) i) (fd := f) (D := Dg X c g) (j := 2 * i) (u := u) () Ag
    (by rw [rawS_set _ _ ho']) (by omega) (by show aB = _; unfold Ag; rw [if_pos (by show 2 * i % 2 = 0; omega)]) hu
    (by
      unfold Dg; rw [if_pos (by show 2 * i % 2 = 0; omega), show (2 * i / 2) = i by omega]
      unfold rowAt bitsAt
      rw [bitsS_set _ ho]
      refine BI.sep_mono (Entails.of_eq (pointsTo_congr fun x hx => raw_write (F := F) _ _ _ ho' ho (X.pg_lt _) f X.B x hx |>.trans (by
        have hx1 : (x 1).val = i := by have := hx; simp only [RW, Finset.mem_filter] at this; exact this.2.2
        subst hx1; rfl))) ?_
      exact Idealize.SL.BI.Entails.refl _)
  rw [bitsS_set _ ho] at hr
  exact hr

theorem wpb_scales {α : Type} {Q : α → sProp 𝕄} {o h o' h'} {sm : DmaSem sig} {h1 h2 h3} {k : PUnit → Prog (TpuEff nD τ sig (Elt F) Λ₀ .tc) α} (g i u : ℕ) (hi : i < 128)
    (ho : o = ![X.pg (128 * g + i), 0, 0]) (ho' : o' = ![g % 2, i, 0, 0]) (hsm : sm = slotSem (g % 2))
    (f : S2x128x1x1024.Idx → Elt F .f32) (hu : u ≤ sumTo Ag (2 * i + 1)) :
    iprop(scaleAt X c (128 * g + i) ∗ (lRaws c ↦[RC (g % 2) i]{fullShare} f) ∗ BatchG X c g (2 * i + 1) u)
      ⊢ iprop((BatchG X c g (2 * i + 1 + 1) u -∗ WP c 𝒱 bd (k ⟨⟩) Q)
        -∗ WP c 𝒱 bd (Prog.lift (.enqueueDma (scaleS o h) (.here (rawsS o' h')) (.dma sm) h1 h2 h3) >>= k) Q) := by
  subst hsm
  have hr := wp_dmaMixedBatch (Q := Q) (defs := defs₀ (F := F)) (Ix := Unit) (Val := Elt F) (Name := ℕ) (U := Pipeline.UD sig nD τ) (Lvl := ℕ)
    (EC (F := F)) 𝒱 (c : Thread nD τ) bd (src := scaleS o h) (via := .same) (dst := rawsS o' h') (sm := .dma (slotSem (g % 2)))
    (hsrc := h1) (hdst := h2) (hsem := h3) (k := k) (q := fullShare) (fs := X.S) (Sd := RC (g % 2) i) (fd := f) (D := Dg X c g) (j := 2 * i + 1) (u := u) () Ag
    (by rw [rawsS_set _ _ ho']) (by omega) (by show aS = _; unfold Ag; rw [if_neg (by show ¬ (2 * i + 1) % 2 = 0; omega)]) hu
    (by
      unfold Dg; rw [if_neg (by show ¬ (2 * i + 1) % 2 = 0; omega), show ((2 * i + 1) / 2) = i by omega]
      unfold rowsAt scaleAt
      rw [scaleS_set _ ho]
      refine BI.sep_mono (Entails.of_eq (pointsTo_congr fun x hx => raws_write (F := F) _ _ _ ho' ho (X.pg_lt _) f X.S x hx |>.trans (by
        have hx1 : (x 1).val = i := by have := hx; simp only [RC, Finset.mem_filter] at this; exact this.2.2
        subst hx1; rfl))) ?_
      exact Idealize.SL.BI.Entails.refl _)
  rw [scaleS_set _ ho] at hr
  exact hr

/-! ## The loop that issues a group's transfers -/

/-- Before trip `k`: the transfers of `k` pages issued; the other pages' arrays and slot rows in hand. -/
def fetchInv (g : ℕ) (q : PosShare TreeShare) (f : S2x128x4x1024.Idx → Elt F .i32) (f' : S2x128x1x1024.Idx → Elt F .f32) (k : ℕ) (_ : Unit) : sProp 𝕄 :=
  iprop(BatchG X c g (2 * k) 0 ∗ bigSep (Finset.Ico (128 * g + k) (128 * g + 128)) (bitsAt X c) ∗ bigSep (Finset.Ico (128 * g + k) (128 * g + 128)) (scaleAt X c)
    ∗ bigSep (Finset.Ico k 128) (fun i => (lRaw c ↦[RW (g % 2) i]{fullShare} f : sProp 𝕄)) ∗ bigSep (Finset.Ico k 128) (fun i => (lRaws c ↦[RC (g % 2) i]{fullShare} f' : sProp 𝕄))
    ∗ (lT1 c ↦{q} X.T1))

/-- The page read off the table at position `n`. -/
theorem table1 {o h} {h1 : (Rect.unit (s := S4096) o S1.size h).shape.numel = 1} (n : ℕ) (hn : n < 4096) (ho : o = ![n]) :
    ((((Memref.whole main_v0).access (Rect.unit (s := S4096) o S1.size h)).read (Elt F) X.T1 (Shape.Idx.first (h1.symm ▸ Nat.one_pos)) : Elt F .i32) : BitVec 32).toNat = X.pg n := by
  subst ho
  have e : (Rect.unit (s := S4096) ![n] S1.size h).emb (Shape.Idx.first (h1.symm ▸ Nat.one_pos)) = ix1 (⟨n, hn⟩ : Fin 4096) := by
    funext d; apply Fin.ext; fin_cases d
    have hlt : (Shape.Idx.first (s := (Rect.unit (s := S4096) ![n] S1.size h).shape) (h1.symm ▸ Nat.one_pos) 0).val < 1 := (Shape.Idx.first (s := (Rect.unit (s := S4096) ![n] S1.size h).shape) (h1.symm ▸ Nat.one_pos) 0).isLt
    show n + 1 * (Shape.Idx.first (s := (Rect.unit (s := S4096) ![n] S1.size h).shape) (h1.symm ▸ Nat.one_pos) 0).val = n
    omega
  refine Eq.trans (congrArg (fun z => (X.T1 z : BitVec 32).toNat) e) ?_
  rw [X.hT1]; unfold Inp.pg; rw [dif_pos hn]

theorem fetch_step1 (i : grid0.Coords) (M4 : Memref sig .tc .vmem S1x1x128 .i32) (h4 : M4.IsWhole) (M5 : Memref sig .tc .vmem S3840x128 .fp8e4m3) (h5 : M5.IsWhole)
    (hc : k0_cond1 i = 1#1) (g : ℕ) (hg : g < 32) (hgi : g = 0) (q : PosShare TreeShare) (f : S2x128x4x1024.Idx → Elt F .i32) (f' : S2x128x1x1024.Idx → Elt F .f32)
    (k : Fin k0_t1_loop.trips) (acc : Unit) :
    fetchInv X c g q f f' k acc ⊢ WP c 𝒱 bd (k0_t1_body i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 hc k acc) (fetchInv X c g q f f' (k.val + 1)) := by
  have hk : k.val < 128 := lt_of_lt_of_le k.isLt k0_t1_abs.2.1
  have hnn : 128 * g + k.val < 4096 := by omega
  have hT := fun h h1 => table1 X (o := k0_off1 k) (h := h) (h1 := h1) (128 * g + k.val) hnn (by rw [k0_off1_eq]; subst hgi; simp)
  unfold fetchInv k0_t1_body
  rw [sep_head (by omega) (bitsAt X c), sep_head (by omega) (scaleAt X c), sep_head hk (fun i => (lRaw c ↦[RW (g % 2) i]{fullShare} f : sProp 𝕄)),
    sep_head hk (fun i => (lRaws c ↦[RC (g % 2) i]{fullShare} f' : sProp 𝕄)), show 2 * (k.val + 1) = 2 * k.val + 1 + 1 by omega,
    show 128 * g + (k.val + 1) = 128 * g + k.val + 1 by omega]
  iintro ⟨HB, ⟨Hb, Hbs⟩, ⟨Hs, Hss⟩, ⟨Hr, Hrs⟩, ⟨Hc, Hcs⟩, HT⟩
  iapply (wpb_smem c 𝒱 bd (m := Memref.whole main_v0) _ rfl) $$ HT
  iintro HT
  iapply (wpb_assume c 𝒱 bd (chk1_of i _ (by rw [hT _ numel1_S1]; exact X.pg_lt _)))
  iapply (wpb_bits X c 𝒱 bd g k.val 0 hk (by rw [off3_eq, hT _ numel1_S1]) (by rw [k0_off2_eq]; subst hgi; rfl) (slotS_sem _ (by omega) (by rw [hgi])) f (Nat.zero_le _)) $$ [Hb Hr HB]
  · isplitl [Hb]; · iexact Hb
    isplitl [Hr]; · iexact Hr
    iexact HB
  iintro HB
  iapply (wpb_scales X c 𝒱 bd g k.val 0 hk (by rw [off5_eq, hT _ numel1_S1]) (by rw [k0_off4_eq]; subst hgi; rfl) (slotS_sem _ (by omega) (by rw [hgi])) f' (Nat.zero_le _)) $$ [Hs Hc HB]
  · isplitl [Hs]; · iexact Hs
    isplitl [Hc]; · iexact Hc
    iexact HB
  iintro HB
  iapply (wpb_ret c 𝒱 bd)
  isplitl [HB]; · iexact HB
  isplitl [Hbs]; · iexact Hbs
  isplitl [Hss]; · iexact Hss
  isplitl [Hrs]; · iexact Hrs
  isplitl [Hcs]; · iexact Hcs
  iexact HT

theorem fetch_step2 (i : grid0.Coords) (M4 : Memref sig .tc .vmem S1x1x128 .i32) (h4 : M4.IsWhole) (M5 : Memref sig .tc .vmem S3840x128 .fp8e4m3) (h5 : M5.IsWhole)
    (hc : k0_cond2 i = 1#1) (g : ℕ) (hg : g < 32) (hgi : g = (i 0).val + 1) (q : PosShare TreeShare) (f : S2x128x4x1024.Idx → Elt F .i32) (f' : S2x128x1x1024.Idx → Elt F .f32)
    (k : Fin k0_t2_loop.trips) (acc : Unit) :
    fetchInv X c g q f f' k acc ⊢ WP c 𝒱 bd (k0_t2_body i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 hc k acc) (fetchInv X c g q f f' (k.val + 1)) := by
  have hk : k.val < 128 := lt_of_lt_of_le k.isLt k0_t2_abs.2.1
  have hgm : g % 2 = 1 - (i 0).val % 2 := by omega
  have hnn : 128 * g + k.val < 4096 := by omega
  have hT := fun h h1 => table1 X (o := k0_off9 i k) (h := h) (h1 := h1) (128 * g + k.val) hnn (by rw [k0_off9_eq]; congr 1; omega)
  unfold fetchInv k0_t2_body
  rw [sep_head (by omega) (bitsAt X c), sep_head (by omega) (scaleAt X c), sep_head hk (fun i => (lRaw c ↦[RW (g % 2) i]{fullShare} f : sProp 𝕄)),
    sep_head hk (fun i => (lRaws c ↦[RC (g % 2) i]{fullShare} f' : sProp 𝕄)), show 2 * (k.val + 1) = 2 * k.val + 1 + 1 by omega,
    show 128 * g + (k.val + 1) = 128 * g + k.val + 1 by omega]
  iintro ⟨HB, ⟨Hb, Hbs⟩, ⟨Hs, Hss⟩, ⟨Hr, Hrs⟩, ⟨Hc, Hcs⟩, HT⟩
  iapply (wpb_smem c 𝒱 bd (m := Memref.whole main_v0) _ rfl) $$ HT
  iintro HT
  iapply (wpb_assume c 𝒱 bd (chk2_of i _ (by rw [hT _ numel1_S1]; exact X.pg_lt _)))
  iapply (wpb_bits X c 𝒱 bd g k.val 0 hk (by rw [off12_eq, hT _ numel1_S1]) (by rw [off11_eq, hgm]) (slotS_sem _ (by omega) (by rw [off10_eq, hgm])) f (Nat.zero_le _)) $$ [Hb Hr HB]
  · isplitl [Hb]; · iexact Hb
    isplitl [Hr]; · iexact Hr
    iexact HB
  iintro HB
  iapply (wpb_scales X c 𝒱 bd g k.val 0 hk (by rw [off15_eq, hT _ numel1_S1]) (by rw [off14_eq, hgm]) (slotS_sem _ (by omega) (by rw [off13_eq, hgm])) f' (Nat.zero_le _)) $$ [Hs Hc HB]
  · isplitl [Hs]; · iexact Hs
    isplitl [Hc]; · iexact Hc
    iexact HB
  iintro HB
  iapply (wpb_ret c 𝒱 bd)
  isplitl [HB]; · iexact HB
  isplitl [Hbs]; · iexact Hbs
  isplitl [Hss]; · iexact Hss
  isplitl [Hrs]; · iexact Hrs
  isplitl [Hcs]; · iexact Hcs
  iexact HT

end Cert.Kernel.Hand
-- ==== Proof.Group.lean ====
/-
  A group of pages brought into a slot as a whole: issuing its transfers, waiting for them, and what is then in hand.
-/
module

public import proofs.«01_k».proof.Proof.Fetch

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Transfers (MixedBatch sumTo wp_dmaMixedBatch wp_waitMixedBatch mixedBatch_alloc' mixedBatch_collect')

variable (X : Inp F) (c : Dev nD) (𝒱 : Variants) (bd : Option 𝒱.V)

/-- A counted loop's rule, at this kernel's triples. -/
theorem wpb_for {σ α : Type} {l : Scf.Loop 32} {hok : l.OK} {init : σ} {body : Fin l.trips → σ → Prog (TpuEff nD τ sig (Elt F) Λ₀ .tc) σ} (I : ℕ → σ → sProp 𝕄)
    (hbody : ∀ (k : Fin l.trips) (acc : σ), I k acc ⊢ WP c 𝒱 bd (body k acc) (I (k.val + 1))) {kk : σ → Prog (TpuEff nD τ sig (Elt F) Λ₀ .tc) α} {Q : α → sProp 𝕄} :
    I 0 init ⊢ iprop((∀ acc, I l.trips acc -∗ WP c 𝒱 bd (kk acc) Q) -∗ WP c 𝒱 bd (Scf.Loop.for l hok init body >>= kk) Q) :=
  Scf.wp_for_bind frame (wpE (defs₀ (F := F)) 𝒱 (c : Thread nD τ) bd) Set.univ l.lb l.ub l.st hok init body I hbody

/-- A loop of no trips is its initial value. -/
theorem wpb_for_none {σ α : Type} {l : Scf.Loop 32} {hok : l.OK} {init : σ} {body : Fin l.trips → σ → Prog (TpuEff nD τ sig (Elt F) Λ₀ .tc) σ} (hz : l.trips = 0)
    {kk : σ → Prog (TpuEff nD τ sig (Elt F) Λ₀ .tc) α} {Q : α → sProp 𝕄} :
    WP c 𝒱 bd (kk init) Q ⊢ WP c 𝒱 bd (Scf.Loop.for l hok init body >>= kk) Q := by
  have h0 : ∀ k : Fin l.trips, False := fun k => by have := k.isLt; omega
  iintro H
  iapply (wpb_for c 𝒱 bd (fun _ (a : σ) => iprop(⌜a = init⌝)) (fun k => (h0 k).elim)) $$ []
  · ipureintro; rfl
  iintro %acc %h
  rw [h]; iexact H

/-! ## Slots and their rows -/

theorem rows_eq (s : ℕ) (f : S2x128x4x1024.Idx → Elt F .i32) :
    (lRaw c ↦[RWs s]{fullShare} f : sProp 𝕄) = bigSep (Finset.Ico 0 128) fun i => (lRaw c ↦[RW s i]{fullShare} f : sProp 𝕄) := by
  rw [← pointsTo_biUnion]
  · congr 1
    ext (x : S2x128x4x1024.Idx)
    have h1 : (x 1).val < 128 := (x 1).isLt
    simp only [RWs, RW, Finset.mem_biUnion, Finset.mem_filter, Finset.mem_univ, _root_.true_and, Finset.mem_Ico]
    exact ⟨fun h => ⟨(x 1).val, ⟨Nat.zero_le _, h1⟩, h, rfl⟩, fun ⟨_, _, h, _⟩ => h⟩
  · intro a _ b _ hab
    rw [Finset.disjoint_left]; intro x hx hx'
    simp only [RW, Finset.mem_filter] at hx hx'
    omega

theorem cols_eq (s : ℕ) (f : S2x128x1x1024.Idx → Elt F .f32) :
    (lRaws c ↦[RCs s]{fullShare} f : sProp 𝕄) = bigSep (Finset.Ico 0 128) fun i => (lRaws c ↦[RC s i]{fullShare} f : sProp 𝕄) := by
  rw [← pointsTo_biUnion]
  · congr 1
    ext (x : S2x128x1x1024.Idx)
    have h1 : (x 1).val < 128 := (x 1).isLt
    simp only [RCs, RC, Finset.mem_biUnion, Finset.mem_filter, Finset.mem_univ, _root_.true_and, Finset.mem_Ico]
    exact ⟨fun h => ⟨(x 1).val, ⟨Nat.zero_le _, h1⟩, h, rfl⟩, fun ⟨_, _, h, _⟩ => h⟩
  · intro a _ b _ hab
    rw [Finset.disjoint_left]; intro x hx hx'
    simp only [RC, Finset.mem_filter] at hx hx'
    omega

/-- A slot with nothing in flight. -/
def SlotFree (s : ℕ) : sProp 𝕄 :=
  iprop((∃ f, lRaw c ↦[RWs s]{fullShare} f) ∗ (∃ f, lRaws c ↦[RCs s]{fullShare} f) ∗ semVal ((c : Thread nD τ), SemLoc.dma (slotSem s)) 0)

/-- The pages at sorted positions `a ≤ k < b`, in hand. -/
def Pages (a b : ℕ) : sProp 𝕄 := iprop(bigSep (Finset.Ico a b) (bitsAt X c) ∗ bigSep (Finset.Ico a b) (scaleAt X c))

theorem fetch1 (i : grid0.Coords) (M4 : Memref sig .tc .vmem S1x1x128 .i32) (h4 : M4.IsWhole) (M5 : Memref sig .tc .vmem S3840x128 .fp8e4m3) (h5 : M5.IsWhole)
    (hc : k0_cond1 i = 1#1) (g : ℕ) (hg : g < 32) (hgi : g = 0) (q : PosShare TreeShare) {α : Type} {kk : Unit → Prog (TpuEff nD τ sig (Elt F) Λ₀ .tc) α} {Q : α → sProp 𝕄} :
    iprop(SlotFree c (g % 2) ∗ Pages X c (128 * g) (128 * g + 128) ∗ (lT1 c ↦{q} X.T1))
      ⊢ iprop((iprop(BatchG X c g 256 0 ∗ (lT1 c ↦{q} X.T1)) -∗ WP c 𝒱 bd (kk ⟨⟩) Q)
        -∗ WP c 𝒱 bd (Scf.Loop.for k0_t1_loop (k0_t1_ok i hc) ⟨⟩ (k0_t1_body i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 hc) >>= kk) Q) := by
  have ht : (k0_t1_loop).trips = 128 := by decide +kernel
  unfold SlotFree Pages
  iintro ⟨⟨⟨%f, Hr⟩, ⟨%f', Hc⟩, Hv⟩, ⟨Hb, Hs⟩, HT⟩ Hk
  imod (mixedBatch_alloc' (EC (F := F)) (c : Thread nD τ) () Ag (Dg X c g) (E := Set.univ)) $$ Hv with HB
  iapply (wpb_for c 𝒱 bd (fetchInv X c g q f f') (fun k acc => fetch_step1 X c 𝒱 bd i M4 h4 M5 h5 hc g hg hgi q f f' k acc)) $$ [HB Hb Hs Hr Hc HT]
  · unfold fetchInv
    rw [← rows_eq, ← cols_eq, Nat.mul_zero, Nat.add_zero]
    isplitl [HB]; · iexact HB
    isplitl [Hb]; · iexact Hb
    isplitl [Hs]; · iexact Hs
    isplitl [Hr]; · iexact Hr
    isplitl [Hc]; · iexact Hc
    iexact HT
  iintro %acc HI
  rw [ht]
  unfold fetchInv
  icases HI with ⟨HB, -, -, -, -, HT⟩
  iapply Hk
  isplitl [HB]; · iexact HB
  iexact HT

theorem fetch2 (i : grid0.Coords) (M4 : Memref sig .tc .vmem S1x1x128 .i32) (h4 : M4.IsWhole) (M5 : Memref sig .tc .vmem S3840x128 .fp8e4m3) (h5 : M5.IsWhole)
    (hc : k0_cond2 i = 1#1) (g : ℕ) (hg : g < 32) (hgi : g = (i 0).val + 1) (q : PosShare TreeShare) {α : Type} {kk : Unit → Prog (TpuEff nD τ sig (Elt F) Λ₀ .tc) α} {Q : α → sProp 𝕄} :
    iprop(SlotFree c (g % 2) ∗ Pages X c (128 * g) (128 * g + 128) ∗ (lT1 c ↦{q} X.T1))
      ⊢ iprop((iprop(BatchG X c g 256 0 ∗ (lT1 c ↦{q} X.T1)) -∗ WP c 𝒱 bd (kk ⟨⟩) Q)
        -∗ WP c 𝒱 bd (Scf.Loop.for k0_t2_loop (k0_t2_ok i hc) ⟨⟩ (k0_t2_body i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 hc) >>= kk) Q) := by
  have ht : (k0_t2_loop).trips = 128 := by decide +kernel
  unfold SlotFree Pages
  iintro ⟨⟨⟨%f, Hr⟩, ⟨%f', Hc⟩, Hv⟩, ⟨Hb, Hs⟩, HT⟩ Hk
  imod (mixedBatch_alloc' (EC (F := F)) (c : Thread nD τ) () Ag (Dg X c g) (E := Set.univ)) $$ Hv with HB
  iapply (wpb_for c 𝒱 bd (fetchInv X c g q f f') (fun k acc => fetch_step2 X c 𝒱 bd i M4 h4 M5 h5 hc g hg hgi q f f' k acc)) $$ [HB Hb Hs Hr Hc HT]
  · unfold fetchInv
    rw [← rows_eq, ← cols_eq, Nat.mul_zero, Nat.add_zero]
    isplitl [HB]; · iexact HB
    isplitl [Hb]; · iexact Hb
    isplitl [Hs]; · iexact Hs
    isplitl [Hr]; · iexact Hr
    isplitl [Hc]; · iexact Hc
    iexact HT
  iintro %acc HI
  rw [ht]
  unfold fetchInv
  icases HI with ⟨HB, -, -, -, -, HT⟩
  iapply Hk
  isplitl [HB]; · iexact HB
  iexact HT

/-! ## Waiting for a group -/

theorem sep_insert {T : Type} [DecidableEq T] {a : T} {s : Finset T} (h : a ∉ s) (Φ : T → sProp 𝕄) : bigSep (insert a s) Φ = iprop(Φ a ∗ bigSep s Φ) :=
  bigSep_insert h

theorem Dg_all_aux (g : ℕ) (n : ℕ) (hn : n ≤ 128) :
    bigSep (Finset.univ.filter fun t : Fin 256 => t.val < 2 * n) (Dg X c g)
      ⊢ iprop(bigSep (Finset.Ico 0 n) (rowAt X c g) ∗ bigSep (Finset.Ico 0 n) (rowsAt X c g)
          ∗ bigSep (Finset.Ico (128 * g) (128 * g + n)) (bitsAt X c) ∗ bigSep (Finset.Ico (128 * g) (128 * g + n)) (scaleAt X c)) := by
  induction n with
  | zero =>
    rw [sep_empty (by omega), sep_empty (by omega), sep_empty (by omega), sep_empty (by omega), show (Finset.univ.filter fun t : Fin 256 => t.val < 2 * 0) = ∅ by ext x; simp, bigSep_empty]
    iintro -
    isplitl []; · iempintro
    isplitl []; · iempintro
    isplitl []; · iempintro
    iempintro
  | succ n ih =>
    have e : (Finset.univ.filter fun t : Fin 256 => t.val < 2 * (n + 1))
        = insert ⟨2 * n + 1, by omega⟩ (insert ⟨2 * n, by omega⟩ (Finset.univ.filter fun t : Fin 256 => t.val < 2 * n)) := by
      ext x; simp only [Finset.mem_filter, Finset.mem_univ, _root_.true_and, Finset.mem_insert, Fin.ext_iff]; omega
    rw [e, sep_insert (by simp [Fin.ext_iff]), sep_insert (by simp), sep_last (Nat.zero_le n), sep_last (Nat.zero_le n),
      show 128 * g + (n + 1) = 128 * g + n + 1 by omega, sep_last (by omega), sep_last (by omega)]
    have e1 : Dg X c g ⟨2 * n + 1, by omega⟩ = iprop(rowsAt X c g n ∗ scaleAt X c (128 * g + n)) := by
      unfold Dg; rw [if_neg (by show ¬ (2 * n + 1) % 2 = 0; omega), show (2 * n + 1) / 2 = n by omega]
    have e2 : Dg X c g ⟨2 * n, by omega⟩ = iprop(rowAt X c g n ∗ bitsAt X c (128 * g + n)) := by
      unfold Dg; rw [if_pos (by show 2 * n % 2 = 0; omega), show (2 * n) / 2 = n by omega]
    rw [e1, e2]
    iintro ⟨⟨H1, H2⟩, ⟨H3, H4⟩, H⟩
    ihave H' := (ih (by omega)) $$ H
    icases H' with ⟨A1, A2, A3, A4⟩
    isplitl [H3 A1]; · isplitl [H3]; · iexact H3
                       iexact A1
    isplitl [H1 A2]; · isplitl [H1]; · iexact H1
                       iexact A2
    isplitl [H4 A3]; · isplitl [H4]; · iexact H4
                       iexact A3
    isplitl [H2]; · iexact H2
    iexact A4

/-- A slot holding group `g`. -/
def SlotHolds (g : ℕ) : sProp 𝕄 :=
  iprop((lRaw c ↦[RWs (g % 2)]{fullShare} X.raw g) ∗ (lRaws c ↦[RCs (g % 2)]{fullShare} X.raws g) ∗ semVal ((c : Thread nD τ), SemLoc.dma (slotSem (g % 2))) 0)

theorem collect (g : ℕ) :
    BatchG X c g 256 (128 * aB + 128 * aS) ⊢ (|={Set.univ}=> iprop(SlotHolds X c g ∗ Pages X c (128 * g) (128 * g + 128)) : sProp 𝕄) := by
  have hs : 128 * aB + 128 * aS = sumTo Ag 256 := by have := sumTo_Ag 128 le_rfl; simp only [Nat.reduceMul] at this; omega
  iintro HB
  rw [hs]
  imod (mixedBatch_collect' (EC (F := F)) (c : Thread nD τ) (sm := .dma (slotSem (g % 2))) (ι := ()) Ag_pos (D := Dg X c g)) $$ HB with ⟨HD, Hv⟩
  rw [show (Finset.univ : Finset (Fin 256)) = (Finset.univ.filter fun t : Fin 256 => t.val < 2 * 128) by ext x; simp]
  ihave H := (Dg_all_aux X c g 128 le_rfl) $$ HD
  icases H with ⟨A1, A2, A3, A4⟩
  imodintro
  unfold SlotHolds Pages
  rw [rows_eq, cols_eq]
  isplitl [A1 A2 Hv]
  · isplitl [A1]; · iexact A1
    isplitl [A2]; · iexact A2
    iexact Hv
  isplitl [A3]; · iexact A3
  iexact A4

abbrev rawW (o : Fin 4 → ℕ) (h : ∀ a, o a + S1x128x4x1024.size a ≤ S2x128x4x1024.size a) : Memref sig .tc .vmem S128x4x1024 .i32 :=
  ((Memref.whole cc0_scratch0).slice (Rect.unit (s := S2x128x4x1024) o S1x128x4x1024.size h) (fun _ => rfl)).squeeze S128x4x1024 squeezes_S1x128x4x1024_S128x4x1024

abbrev rawsW (o : Fin 4 → ℕ) (h : ∀ a, o a + S1x128x1x1024.size a ≤ S2x128x1x1024.size a) : Memref sig .tc .vmem S128x1x1024 .f32 :=
  ((Memref.whole cc0_scratch1).slice (Rect.unit (s := S2x128x1x1024) o S1x128x1x1024.size h) (fun _ => rfl)).squeeze S128x1x1024 squeezes_S1x128x1x1024_S128x1x1024

theorem credB {o h} : (rawW o h).view.dmaCredit = 128 * aB :=
  (by decide +kernel : (rawW ![0, 0, 0, 0] (by decide)).view.dmaCredit = 128 * aB)
theorem credS {o h} : (rawsW o h).view.dmaCredit = 128 * aS :=
  (by decide +kernel : (rawsW ![0, 0, 0, 0] (by decide)).view.dmaCredit = 128 * aS)

theorem wpb_waitB {α : Type} {Q : α → sProp 𝕄} {o h} {m : Memref sig .tc .vmem S128x4x1024 .i32} {sm : DmaSem sig} {h1 h2} {k : PUnit → Prog (TpuEff nD τ sig (Elt F) Λ₀ .tc) α} (g : ℕ)
    (hsm : sm = slotSem (g % 2)) (W : Waits sig Unit) :
    iprop(BatchG X c g 256 0 ∗ owes (c : Thread nD τ) (0 : CellTallies nD τ sig Unit) W)
      ⊢ iprop((iprop(BatchG X c g 256 (128 * aB) ∗ owes (c : Thread nD τ) (0 : CellTallies nD τ sig Unit) (insert (SemLoc.dma (slotSem (g % 2)), ()) W)) -∗ WP c 𝒱 bd (k ⟨⟩) Q)
        -∗ WP c 𝒱 bd (Prog.lift (.waitDma2 sm m (rawW o h) h1 h2) >>= k) Q) := by
  subst hsm
  have hs : 0 + 128 * aB ≤ sumTo Ag 256 := by have := sumTo_Ag 128 le_rfl; simp only [Nat.reduceMul] at this; omega
  have hr := wp_waitMixedBatch (Q := Q) (defs := defs₀ (F := F)) (Ix := Unit) (Val := Elt F) (Name := ℕ) (U := Pipeline.UD sig nD τ) (Lvl := ℕ)
    (EC (F := F)) 𝒱 (c : Thread nD τ) bd (sem := slotSem (g % 2)) (srcw := m) (dstw := rawW o h) (hsrc := h1) (hdst := h2) (k := k) () (A := Ag) credB (D := Dg X c g) (j := 256) (u := 0) hs (W := W)
  rw [Nat.zero_add] at hr
  exact hr

theorem wpb_waitS {α : Type} {Q : α → sProp 𝕄} {o h} {m : Memref sig .tc .vmem S128x1x1024 .f32} {sm : DmaSem sig} {h1 h2} {k : PUnit → Prog (TpuEff nD τ sig (Elt F) Λ₀ .tc) α} (g : ℕ)
    (hsm : sm = slotSem (g % 2)) (W : Waits sig Unit) :
    iprop(BatchG X c g 256 (128 * aB) ∗ owes (c : Thread nD τ) (0 : CellTallies nD τ sig Unit) W)
      ⊢ iprop((iprop(BatchG X c g 256 (128 * aB + 128 * aS) ∗ owes (c : Thread nD τ) (0 : CellTallies nD τ sig Unit) (insert (SemLoc.dma (slotSem (g % 2)), ()) W)) -∗ WP c 𝒱 bd (k ⟨⟩) Q)
        -∗ WP c 𝒱 bd (Prog.lift (.waitDma2 sm m (rawsW o h) h1 h2) >>= k) Q) := by
  subst hsm
  have hs : 128 * aB + 128 * aS ≤ sumTo Ag 256 := by have := sumTo_Ag 128 le_rfl; simp only [Nat.reduceMul] at this; omega
  exact wp_waitMixedBatch (Q := Q) (defs := defs₀ (F := F)) (Ix := Unit) (Val := Elt F) (Name := ℕ) (U := Pipeline.UD sig nD τ) (Lvl := ℕ)
    (EC (F := F)) 𝒱 (c : Thread nD τ) bd (sem := slotSem (g % 2)) (srcw := m) (dstw := rawsW o h) (hsrc := h1) (hdst := h2) (k := k) () (A := Ag) credS (D := Dg X c g) (j := 256) (u := 128 * aB) hs (W := W)

end Cert.Kernel.Hand
-- ==== Proof.Whole.lean ====
/-
  Loads from and stores to buffers owned as a whole.
-/
module

public import proofs.«01_k».proof.Proof.Inp

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (𝒱 : Variants) (bd : Option 𝒱.V)

theorem wpb_loadW {α : Type} {Q : α → sProp 𝕄} {cs : CoreSpace} {s : Shape} {e : EltTy} {m : Memref sig .tc cs s e} {r : Rect s} {hl : m.view.LoadsAt r.toLoadRect}
    {k : (r.shape.Idx → Elt F e) → Prog (TpuEff nD τ sig (Elt F) Λ₀ .tc) α}
    {q : PosShare TreeShare} {f : Buf (Elt F) (m.view.loc (c : Thread nD τ))} (v : r.shape.Idx → Elt F e)
    (hv : (m.access r).read (Elt F) f = v) :
    (m.view.loc (c : Thread nD τ) ↦{q} f : sProp 𝕄)
      ⊢ iprop(((m.view.loc (c : Thread nD τ) ↦{q} f) -∗ WP c 𝒱 bd (k v) Q) -∗ WP c 𝒱 bd (Prog.lift (.load m r.toLoadRect hl) >>= k) Q) :=
  wpb_load c 𝒱 bd v (Finset.subset_univ _) hv

theorem wpb_storeW {α : Type} {Q : α → sProp 𝕄} {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α}
    {f : Buf (Elt F) (m.view.loc (c : Thread nD τ))} (g : Buf (Elt F) (m.view.loc (c : Thread nD τ)))
    (hg : ∀ i, (m.access r).write (Elt F) f w Finset.univ i = g i) :
    (m.view.loc (c : Thread nD τ) ↦{fullShare} f : sProp 𝕄)
      ⊢ iprop(((m.view.loc (c : Thread nD τ) ↦{fullShare} g) -∗ WP c 𝒱 bd (k ⟨⟩) Q) -∗ WP c 𝒱 bd (Prog.lift (.store m r w Finset.univ hx hm) >>= k) Q) :=
  wpb_store c 𝒱 bd g (Finset.subset_univ _) (fun i _ => hg i)

end Cert.Kernel.Hand
-- ==== Proof.Turn.lean ====
/-
  The transposing loop: after it the rows of bits and of scales are in place, block by block.
-/
module

public import proofs.«01_k».proof.Proof.TurnPure
public import proofs.«01_k».proof.Proof.Group
public import proofs.«01_k».proof.Proof.Whole

@[expose] public section

noncomputable section

namespace Cert.Kernel.Hand

open Cert.Kernel Cert.Kernel.Gen
open Idealize.ShloMosaic Idealize.ShloMosaic.TcCoe Idealize.ShloMosaic.Tactic Idealize.ShloMosaic.Tactic
open Idealize.ShloMosaic.ValueIdx hiding ix0 ix1 ix2 ix3 ix4
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.WordCmp

local notation "𝕄" => MT nD τ sig Unit (Elt F) ℕ (Pipeline.UD sig nD τ) ℕ

variable (X : Inp F) (c : Dev nD) (𝒱 : Variants) (bd : Option 𝒱.V)

def turnInv (g k : ℕ) (acc : BitVec 32) : sProp 𝕄 :=
  iprop((lRaw c ↦[RWs (g % 2)]{fullShare} X.raw g) ∗ (lRaws c ↦[RCs (g % 2)]{fullShare} X.raws g)
    ∗ (∃ fb, ⌜GoodB X g 0 k fb ∧ GoodB X g 1 k fb ∧ GoodB X g 2 k fb ∧ GoodB X g 3 k fb⌝ ∗ (lTb c ↦{fullShare} fb))
    ∗ (∃ fs, ⌜GoodS X g k fs⌝ ∗ (lTs c ↦{fullShare} fs)))

set_option maxHeartbeats 4000000 in
theorem turn_step (i : grid0.Coords) (M4 : Memref sig .tc .vmem S1x1x128 .i32) (h4 : M4.IsWhole) (M5 : Memref sig .tc .vmem S3840x128 .fp8e4m3) (h5 : M5.IsWhole) (arg0 v9 : BitVec 32) (v29 : Vec F S1x1x128 .i32)
    (v36 : Elt F .i32) (h3 : k0_chk3 i v36) (g : ℕ) (hgi : g = (i 0).val) (hv : ∀ b : Fin 128, v29 (ix3 (0 : Fin 1) (0 : Fin 1) b) = BitVec.ofNat 32 (X.ln (128 * g + b.val)))
    (k : Fin (k0_t3_loop v36).trips) (hk : k.val < 8) (acc : BitVec 32) :
    turnInv X c g k acc ⊢ WP c 𝒱 bd (k0_t3_body i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 arg0 v9 v29 v36 h3 k acc) (turnInv X c g (k.val + 1)) := by
  have hm : ∀ a b : Fin 128, k0_pay9 (F := F) (k0_pay74 v29) v36 0#32 1#32 k (ix2 a b) = BitVec.ofBool (decide (128 * k.val + a.val < X.ln (128 * g + b.val))) :=
    fun a b => pay9_at v36 k a b v29 _ (X.ln_le _) hk (hv b)
  have o17 : k0_off17 i v36 k = ![g % 2, 0, 0, 128 * k.val] := by rw [off17_eq i v36 k hk, hgi]
  have o19 : k0_off19 i v36 k = ![g % 2, 0, 0, 128 * k.val] := by rw [off19_eq i v36 k hk, hgi]
  have o21 : k0_off21 i v36 k = ![g % 2, 0, 1, 128 * k.val] := by rw [off21_eq i v36 k hk, hgi]
  have o23 : k0_off23 i v36 k = ![g % 2, 0, 2, 128 * k.val] := by rw [off23_eq i v36 k hk, hgi]
  have o25 : k0_off25 i v36 k = ![g % 2, 0, 3, 128 * k.val] := by rw [off25_eq i v36 k hk, hgi]
  unfold turnInv k0_t3_body
  rw [k0_part1_eq_skeleton, k0_part2_eq_skeleton]
  unfold k0_part1_skel k0_part2_skel
  simp only [bind_assoc, pure_bind]
  iintro ⟨Hr, Hc, ⟨%fb, %hb, Htb⟩, ⟨%fs, %hs, Hts⟩⟩
  obtain ⟨hb0, hb1, hb2, hb3⟩ := hb
  obtain ⟨rs, hrs⟩ : ∃ rs, ((Memref.whole cc0_scratch1).access (Rect.unit (s := S2x128x1x1024) (k0_off17 i v36 k) S1x128x1x128.size (k0_off17_inb i v36 h3 k))).read (Elt F) (X.raws g) = rs := ⟨_, rfl⟩
  have hrs' := fun a b => (congrFun hrs (ix4 (0 : Fin 1) b (0 : Fin 1) a)).symm.trans (raws_read X g (g % 2) k.val hk o17 a b)
  iapply (wpb_load c 𝒱 bd (m := Memref.whole cc0_scratch1) rs (raws_sub (g % 2) k.val o17) hrs) $$ Hc
  iintro Hc
  iapply (wpb_loadW c 𝒱 bd (m := Memref.whole cc0_scratch3) _ rfl) $$ Hts
  iintro Hts
  iapply (wpb_storeW c 𝒱 bd (m := Memref.whole cc0_scratch3) (updS k.val (k0_pay11 rs) (fs)) (by exact fun x => write_updS k.val (off18_eq v36 k hk) _ _ x)) $$ Hts
  iintro Hts
  obtain ⟨row, hrow⟩ : ∃ row, ((Memref.whole cc0_scratch3).access (Rect.unit (s := S1024x128) ![0, 0] S1x128.size inb_S1024x128_S1x128_0_0)).read (Elt F) (updS k.val (k0_pay11 rs) fs) = row := ⟨_, rfl⟩
  iapply (wpb_loadW c 𝒱 bd (m := Memref.whole cc0_scratch3) row hrow) $$ Hts
  iintro Hts
  iapply (wpb_loadW c 𝒱 bd (m := Memref.whole cc0_scratch3) _ rfl) $$ Hts
  iintro Hts
  iapply (wpb_storeW c 𝒱 bd (m := Memref.whole cc0_scratch3) (updS k.val (k0_pay12 (k0_pay74 v29) v36 0#32 1#32 k rs row) (updS k.val (k0_pay11 rs) fs)) (by exact fun x => write_updS k.val (off18_eq v36 k hk) _ _ x)) $$ Hts
  iintro Hts
  have gs := goodS_pass X g k.val hk _ rs (k0_pay11 rs) (k0_pay12 (k0_pay74 v29) v36 0#32 1#32 k rs row) row fs hm hrs' (fun a b => pay11_at a b rs)
    (fun b => (congrFun hrow (ix2 (0 : Fin 1) b)).symm.trans (tsRow_read _ b)) (fun a b => pay12_at v36 k a b _ rs row) hs
  obtain ⟨rv0, hrv0⟩ : ∃ rs, ((Memref.whole cc0_scratch0).access (Rect.unit (s := S2x128x4x1024) (k0_off19 i v36 k) S1x128x1x128.size (k0_off19_inb i v36 h3 k))).read (Elt F) (X.raw g) = rs := ⟨_, rfl⟩
  have hrv0' := fun a b => (congrFun hrv0 (ix4 (0 : Fin 1) b (0 : Fin 1) a)).symm.trans (raw_read X g (g % 2) 0 k.val (by omega) hk o19 a b)
  iapply (wpb_load c 𝒱 bd (m := Memref.whole cc0_scratch0) rv0 (raw_sub (g % 2) 0 k.val o19) hrv0) $$ Hr
  iintro Hr
  iapply (wpb_loadW c 𝒱 bd (m := Memref.whole cc0_scratch2) _ rfl) $$ Htb
  iintro Htb
  iapply (wpb_storeW c 𝒱 bd (m := Memref.whole cc0_scratch2) (updB 0 k.val (k0_pay14 rv0) (fb)) (by exact fun x => write_updB 0 k.val (off20_eq v36 k hk) _ _ x)) $$ Htb
  iintro Htb
  obtain ⟨row0, hrow0⟩ : ∃ row, ((Memref.whole cc0_scratch2).access (Rect.unit (s := S4x1024x128) ![0, 0, 0] S1x1x128.size inb_S4x1024x128_S1x1x128_0_0_0)).read (Elt F) (updB 0 k.val (k0_pay14 rv0) fb) = row := ⟨_, rfl⟩
  iapply (wpb_loadW c 𝒱 bd (m := Memref.whole cc0_scratch2) row0 hrow0) $$ Htb
  iintro Htb
  iapply (wpb_loadW c 𝒱 bd (m := Memref.whole cc0_scratch2) _ rfl) $$ Htb
  iintro Htb
  iapply (wpb_storeW c 𝒱 bd (m := Memref.whole cc0_scratch2) (updB 0 k.val (k0_pay16 (k0_pay15 (k0_pay74 v29) v36 0#32 1#32 k rv0 row0)) (updB 0 k.val (k0_pay14 rv0) fb)) (by exact fun x => write_updB 0 k.val (off20_eq v36 k hk) _ _ x)) $$ Htb
  iintro Htb
  have h1b0 := goodB_pass X g 0 k.val (by omega) hk _ rv0 (k0_pay14 rv0) (k0_pay16 (k0_pay15 (k0_pay74 v29) v36 0#32 1#32 k rv0 row0)) row0 fb hm hrv0' (fun a b => pay14_at a b rv0)
    (fun b => (congrFun hrow0 (ix3 (0 : Fin 1) (0 : Fin 1) b)).symm.trans (tbRow_read _ 0 (by omega) b)) (fun a b => pay16_at v36 k a b _ rv0 row0) hb0
  have h1b1 := goodB_other X g 1 0 k.val k.val (by omega) (k0_pay16 (k0_pay15 (k0_pay74 v29) v36 0#32 1#32 k rv0 row0)) (k0_pay14 rv0) fb hb1
  have h1b2 := goodB_other X g 2 0 k.val k.val (by omega) (k0_pay16 (k0_pay15 (k0_pay74 v29) v36 0#32 1#32 k rv0 row0)) (k0_pay14 rv0) fb hb2
  have h1b3 := goodB_other X g 3 0 k.val k.val (by omega) (k0_pay16 (k0_pay15 (k0_pay74 v29) v36 0#32 1#32 k rv0 row0)) (k0_pay14 rv0) fb hb3
  generalize updB 0 k.val (k0_pay16 (k0_pay15 (k0_pay74 v29) v36 0#32 1#32 k rv0 row0)) (updB 0 k.val (k0_pay14 rv0) fb) = fb1 at *
  obtain ⟨rv1, hrv1⟩ : ∃ rs, ((Memref.whole cc0_scratch0).access (Rect.unit (s := S2x128x4x1024) (k0_off21 i v36 k) S1x128x1x128.size (k0_off21_inb i v36 h3 k))).read (Elt F) (X.raw g) = rs := ⟨_, rfl⟩
  have hrv1' := fun a b => (congrFun hrv1 (ix4 (0 : Fin 1) b (0 : Fin 1) a)).symm.trans (raw_read X g (g % 2) 1 k.val (by omega) hk o21 a b)
  iapply (wpb_load c 𝒱 bd (m := Memref.whole cc0_scratch0) rv1 (raw_sub (g % 2) 1 k.val o21) hrv1) $$ Hr
  iintro Hr
  iapply (wpb_loadW c 𝒱 bd (m := Memref.whole cc0_scratch2) _ rfl) $$ Htb
  iintro Htb
  iapply (wpb_storeW c 𝒱 bd (m := Memref.whole cc0_scratch2) (updB 1 k.val (k0_pay18 rv1) (fb1)) (by exact fun x => write_updB 1 k.val (off22_eq v36 k hk) _ _ x)) $$ Htb
  iintro Htb
  obtain ⟨row1, hrow1⟩ : ∃ row, ((Memref.whole cc0_scratch2).access (Rect.unit (s := S4x1024x128) ![1, 0, 0] S1x1x128.size inb_S4x1024x128_S1x1x128_1_0_0)).read (Elt F) (updB 1 k.val (k0_pay18 rv1) fb1) = row := ⟨_, rfl⟩
  iapply (wpb_loadW c 𝒱 bd (m := Memref.whole cc0_scratch2) row1 hrow1) $$ Htb
  iintro Htb
  iapply (wpb_loadW c 𝒱 bd (m := Memref.whole cc0_scratch2) _ rfl) $$ Htb
  iintro Htb
  iapply (wpb_storeW c 𝒱 bd (m := Memref.whole cc0_scratch2) (updB 1 k.val (k0_pay19 (k0_pay9 (F := F) (k0_pay74 v29) v36 0#32 1#32 k) rv1 row1) (updB 1 k.val (k0_pay18 rv1) fb1)) (by exact fun x => write_updB 1 k.val (off22_eq v36 k hk) _ _ x)) $$ Htb
  iintro Htb
  have h2b0 := goodB_other X g 0 1 k.val (k.val + 1) (by omega) (k0_pay19 (k0_pay9 (F := F) (k0_pay74 v29) v36 0#32 1#32 k) rv1 row1) (k0_pay18 rv1) fb1 h1b0
  have h2b1 := goodB_pass X g 1 k.val (by omega) hk _ rv1 (k0_pay18 rv1) (k0_pay19 (k0_pay9 (F := F) (k0_pay74 v29) v36 0#32 1#32 k) rv1 row1) row1 fb1 hm hrv1' (fun a b => pay18_at a b rv1)
    (fun b => (congrFun hrow1 (ix3 (0 : Fin 1) (0 : Fin 1) b)).symm.trans (tbRow_read _ 1 (by omega) b)) (fun a b => pay19_at a b _ rv1 row1) h1b1
  have h2b2 := goodB_other X g 2 1 k.val k.val (by omega) (k0_pay19 (k0_pay9 (F := F) (k0_pay74 v29) v36 0#32 1#32 k) rv1 row1) (k0_pay18 rv1) fb1 h1b2
  have h2b3 := goodB_other X g 3 1 k.val k.val (by omega) (k0_pay19 (k0_pay9 (F := F) (k0_pay74 v29) v36 0#32 1#32 k) rv1 row1) (k0_pay18 rv1) fb1 h1b3
  generalize updB 1 k.val (k0_pay19 (k0_pay9 (F := F) (k0_pay74 v29) v36 0#32 1#32 k) rv1 row1) (updB 1 k.val (k0_pay18 rv1) fb1) = fb2 at *
  obtain ⟨rv2, hrv2⟩ : ∃ rs, ((Memref.whole cc0_scratch0).access (Rect.unit (s := S2x128x4x1024) (k0_off23 i v36 k) S1x128x1x128.size (k0_off23_inb i v36 h3 k))).read (Elt F) (X.raw g) = rs := ⟨_, rfl⟩
  have hrv2' := fun a b => (congrFun hrv2 (ix4 (0 : Fin 1) b (0 : Fin 1) a)).symm.trans (raw_read X g (g % 2) 2 k.val (by omega) hk o23 a b)
  iapply (wpb_load c 𝒱 bd (m := Memref.whole cc0_scratch0) rv2 (raw_sub (g % 2) 2 k.val o23) hrv2) $$ Hr
  iintro Hr
  iapply (wpb_loadW c 𝒱 bd (m := Memref.whole cc0_scratch2) _ rfl) $$ Htb
  iintro Htb
  iapply (wpb_storeW c 𝒱 bd (m := Memref.whole cc0_scratch2) (updB 2 k.val (k0_pay21 rv2) (fb2)) (by exact fun x => write_updB 2 k.val (off24_eq v36 k hk) _ _ x)) $$ Htb
  iintro Htb
  obtain ⟨row2, hrow2⟩ : ∃ row, ((Memref.whole cc0_scratch2).access (Rect.unit (s := S4x1024x128) ![2, 0, 0] S1x1x128.size inb_S4x1024x128_S1x1x128_2_0_0)).read (Elt F) (updB 2 k.val (k0_pay21 rv2) fb2) = row := ⟨_, rfl⟩
  iapply (wpb_loadW c 𝒱 bd (m := Memref.whole cc0_scratch2) row2 hrow2) $$ Htb
  iintro Htb
  iapply (wpb_loadW c 𝒱 bd (m := Memref.whole cc0_scratch2) _ rfl) $$ Htb
  iintro Htb
  iapply (wpb_storeW c 𝒱 bd (m := Memref.whole cc0_scratch2) (updB 2 k.val (k0_pay22 (k0_pay9 (F := F) (k0_pay74 v29) v36 0#32 1#32 k) rv2 row2) (updB 2 k.val (k0_pay21 rv2) fb2)) (by exact fun x => write_updB 2 k.val (off24_eq v36 k hk) _ _ x)) $$ Htb
  iintro Htb
  have h3b0 := goodB_other X g 0 2 k.val (k.val + 1) (by omega) (k0_pay22 (k0_pay9 (F := F) (k0_pay74 v29) v36 0#32 1#32 k) rv2 row2) (k0_pay21 rv2) fb2 h2b0
  have h3b1 := goodB_other X g 1 2 k.val (k.val + 1) (by omega) (k0_pay22 (k0_pay9 (F := F) (k0_pay74 v29) v36 0#32 1#32 k) rv2 row2) (k0_pay21 rv2) fb2 h2b1
  have h3b2 := goodB_pass X g 2 k.val (by omega) hk _ rv2 (k0_pay21 rv2) (k0_pay22 (k0_pay9 (F := F) (k0_pay74 v29) v36 0#32 1#32 k) rv2 row2) row2 fb2 hm hrv2' (fun a b => pay21_at a b rv2)
    (fun b => (congrFun hrow2 (ix3 (0 : Fin 1) (0 : Fin 1) b)).symm.trans (tbRow_read _ 2 (by omega) b)) (fun a b => pay22_at a b _ rv2 row2) h2b2
  have h3b3 := goodB_other X g 3 2 k.val k.val (by omega) (k0_pay22 (k0_pay9 (F := F) (k0_pay74 v29) v36 0#32 1#32 k) rv2 row2) (k0_pay21 rv2) fb2 h2b3
  generalize updB 2 k.val (k0_pay22 (k0_pay9 (F := F) (k0_pay74 v29) v36 0#32 1#32 k) rv2 row2) (updB 2 k.val (k0_pay21 rv2) fb2) = fb3 at *
  obtain ⟨rv3, hrv3⟩ : ∃ rs, ((Memref.whole cc0_scratch0).access (Rect.unit (s := S2x128x4x1024) (k0_off25 i v36 k) S1x128x1x128.size (k0_off25_inb i v36 h3 k))).read (Elt F) (X.raw g) = rs := ⟨_, rfl⟩
  have hrv3' := fun a b => (congrFun hrv3 (ix4 (0 : Fin 1) b (0 : Fin 1) a)).symm.trans (raw_read X g (g % 2) 3 k.val (by omega) hk o25 a b)
  iapply (wpb_load c 𝒱 bd (m := Memref.whole cc0_scratch0) rv3 (raw_sub (g % 2) 3 k.val o25) hrv3) $$ Hr
  iintro Hr
  iapply (wpb_loadW c 𝒱 bd (m := Memref.whole cc0_scratch2) _ rfl) $$ Htb
  iintro Htb
  iapply (wpb_storeW c 𝒱 bd (m := Memref.whole cc0_scratch2) (updB 3 k.val (k0_pay76 rv3) (fb3)) (by exact fun x => write_updB 3 k.val (off26_eq v36 k hk) _ _ x)) $$ Htb
  iintro Htb
  obtain ⟨row3, hrow3⟩ : ∃ row, ((Memref.whole cc0_scratch2).access (Rect.unit (s := S4x1024x128) ![3, 0, 0] S1x1x128.size inb_S4x1024x128_S1x1x128_3_0_0)).read (Elt F) (updB 3 k.val (k0_pay76 rv3) fb3) = row := ⟨_, rfl⟩
  iapply (wpb_loadW c 𝒱 bd (m := Memref.whole cc0_scratch2) row3 hrow3) $$ Htb
  iintro Htb
  iapply (wpb_loadW c 𝒱 bd (m := Memref.whole cc0_scratch2) _ rfl) $$ Htb
  iintro Htb
  iapply (wpb_storeW c 𝒱 bd (m := Memref.whole cc0_scratch2) (updB 3 k.val (k0_pay77 (k0_pay9 (F := F) (k0_pay74 v29) v36 0#32 1#32 k) rv3 row3) (updB 3 k.val (k0_pay76 rv3) fb3)) (by exact fun x => write_updB 3 k.val (off26_eq v36 k hk) _ _ x)) $$ Htb
  iintro Htb
  have h4b0 := goodB_other X g 0 3 k.val (k.val + 1) (by omega) (k0_pay77 (k0_pay9 (F := F) (k0_pay74 v29) v36 0#32 1#32 k) rv3 row3) (k0_pay76 rv3) fb3 h3b0
  have h4b1 := goodB_other X g 1 3 k.val (k.val + 1) (by omega) (k0_pay77 (k0_pay9 (F := F) (k0_pay74 v29) v36 0#32 1#32 k) rv3 row3) (k0_pay76 rv3) fb3 h3b1
  have h4b2 := goodB_other X g 2 3 k.val (k.val + 1) (by omega) (k0_pay77 (k0_pay9 (F := F) (k0_pay74 v29) v36 0#32 1#32 k) rv3 row3) (k0_pay76 rv3) fb3 h3b2
  have h4b3 := goodB_pass X g 3 k.val (by omega) hk _ rv3 (k0_pay76 rv3) (k0_pay77 (k0_pay9 (F := F) (k0_pay74 v29) v36 0#32 1#32 k) rv3 row3) row3 fb3 hm hrv3' (fun a b => pay76_at a b rv3)
    (fun b => (congrFun hrow3 (ix3 (0 : Fin 1) (0 : Fin 1) b)).symm.trans (tbRow_read _ 3 (by omega) b)) (fun a b => pay77_at a b _ rv3 row3) h3b3
  generalize updB 3 k.val (k0_pay77 (k0_pay9 (F := F) (k0_pay74 v29) v36 0#32 1#32 k) rv3 row3) (updB 3 k.val (k0_pay76 rv3) fb3) = fb4 at *
  iapply (wpb_ret c 𝒱 bd)
  isplitl [Hr]; · iexact Hr
  isplitl [Hc]; · iexact Hc
  isplitl [Htb]
  · iexists fb4; isplitr
    · ipureintro; exact ⟨h4b0, h4b1, h4b2, h4b3⟩
    · iexact Htb
  iexists (updS k.val (k0_pay12 (k0_pay74 v29) v36 0#32 1#32 k rs row) (updS k.val (k0_pay11 rs) fs)); isplitr
  · ipureintro; exact gs
  · iexact Hts

/-- The whole loop: `n` blocks of 128 patches are in place, `n` being the trip count. -/
theorem turn (i : grid0.Coords) (M4 : Memref sig .tc .vmem S1x1x128 .i32) (h4 : M4.IsWhole) (M5 : Memref sig .tc .vmem S3840x128 .fp8e4m3) (h5 : M5.IsWhole) (arg0 v9 : BitVec 32) (v29 : Vec F S1x1x128 .i32)
    (v36 : Elt F .i32) (h3 : k0_chk3 i v36) (g : ℕ) (hgi : g = (i 0).val) (hv : ∀ b : Fin 128, v29 (ix3 (0 : Fin 1) (0 : Fin 1) b) = BitVec.ofNat 32 (X.ln (128 * g + b.val)))
    (ht : (k0_t3_loop v36).trips ≤ 8) {hok : (k0_t3_loop v36).OK} {init : BitVec 32} {α : Type} {kk : BitVec 32 → Prog (TpuEff nD τ sig (Elt F) Λ₀ .tc) α} {Q : α → sProp 𝕄}
    (fb : S4x1024x128.Idx → Elt F .i32) (fs : S1024x128.Idx → Elt F .f32) :
    iprop((lRaw c ↦[RWs (g % 2)]{fullShare} X.raw g) ∗ (lRaws c ↦[RCs (g % 2)]{fullShare} X.raws g) ∗ (lTb c ↦{fullShare} fb) ∗ (lTs c ↦{fullShare} fs))
      ⊢ iprop((∀ acc, turnInv X c g (k0_t3_loop v36).trips acc -∗ WP c 𝒱 bd (kk acc) Q)
        -∗ WP c 𝒱 bd (Scf.Loop.for (k0_t3_loop v36) hok init (k0_t3_body i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 arg0 v9 v29 v36 h3) >>= kk) Q) := by
  iintro ⟨Hr, Hc, Htb, Hts⟩
  iapply (wpb_for c 𝒱 bd (turnInv X c g) (fun k acc => turn_step X c 𝒱 bd i M4 h4 M5 h5 arg0 v9 v29 v36 h3 g hgi hv k (lt_of_lt_of_le k.isLt ht) acc)) $$ [Hr Hc Htb Hts]
  unfold turnInv
  isplitl [Hr]; · iexact Hr
  isplitl [Hc]; · iexact Hc
  isplitl [Htb]
  · iexists fb; isplitr
    · ipureintro
      exact ⟨fun x _ h => absurd h (by omega), fun x _ h => absurd h (by omega), fun x _ h => absurd h (by omega), fun x _ h => absurd h (by omega)⟩
    · iexact Htb
  iexists fs; isplitr
  · ipureintro; exact fun x h => absurd h (by omega)
  · iexact Hts

end Cert.Kernel.Hand
-- ==== Proof.QuadPure.lean ====
/-
  What the accumulator holds after each quad of patches, and the words written to it and read from it.
-/
module

public import proofs.«01_k».proof.Proof.TurnPure

@[expose] public section

noncomputable section

namespace Cert.Kernel.Hand

open Cert.Kernel Cert.Kernel.Gen
open Idealize.ShloMosaic Idealize.ShloMosaic.TcCoe Idealize.ShloMosaic.Tactic Idealize.ShloMosaic.Tactic
open Idealize.ShloMosaic.ValueIdx hiding ix0 ix1 ix2 ix3 ix4
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.WordCmp

variable (X : Inp F)

/-- What one quad of patches makes of a block of 256 accumulator rows: the larger of what is there and of the four
    products, each scaled. -/
def quadVal (v56 : IVec S8x128 32) (bw : Fin 4 → Fin 4 → Vec F S1x1x128 .i32) (sc : Fin 4 → Vec F S1x128 .f32) (qb : Vec F S256x128 .fp8e4m3) (ab : Vec F S256x128 .f32) : FVec F S256x128 .f32 :=
  k0_pay2 v56
    (k0_pay47 v56 (k0_pay42 (k0_pay37 v56 (bw 0 0)) (k0_pay38 v56 (bw 1 0)) (k0_pay39 v56 (bw 2 0)) (k0_pay40 v56 (bw 3 0)) k0_pay41)
      (k0_pay43 v56 (bw 0 1)) (k0_pay44 v56 (bw 1 1)) (k0_pay45 v56 (bw 2 1)) (k0_pay46 (bw 3 1)))
    (k0_pay51 v56 (k0_pay48 v56 (bw 0 2)) (k0_pay49 v56 (bw 1 2)) (k0_pay50 v56 (bw 2 2)) (bw 3 2))
    (k0_pay52 v56 (bw 0 3)) (k0_pay53 v56 (bw 1 3)) (k0_pay54 v56 (bw 2 3)) (bw 3 3) (sc 0) (sc 1) (sc 2) (sc 3) qb ab

/-- Patch `4 t + q`'s word row `w` of tile `g`, and its scales. -/
def bwV (g t : ℕ) (w q : Fin 4) : Vec F S1x1x128 .i32 := fun y => tbc X g w (⟨(4 * t + q.val) % 1024, Nat.mod_lt _ (by omega)⟩ : Fin 1024) (y 2)
def scV (g t : ℕ) (q : Fin 4) : Vec F S1x128 .f32 := fun y => tsc X g (⟨(4 * t + q.val) % 1024, Nat.mod_lt _ (by omega)⟩ : Fin 1024) (y 1)

/-- Block `n` of 256 rows. -/
def blk {e : EltTy} (f : S3840x128.Idx → Elt F e) (n : ℕ) : Vec F S256x128 e := fun y => f (ix2 (⟨(256 * n + (y 0).val) % 3840, Nat.mod_lt _ (by omega)⟩ : Fin 3840) (y 1))

def v56c : IVec S8x128 32 := iota .tc S8x128 32 [0] iota_S8x128_d0_w32

def accOf (g : ℕ) : ℕ → S3840x128.Idx → Elt F .f32
  | 0 => fun x => k0_pay81 (F := F) (ix2 (⟨(x 0).val % 256, Nat.mod_lt _ (by omega)⟩ : Fin 256) (x 1))
  | t + 1 => fun x => quadVal v56c (bwV X g t) (scV X g t) (blk X.Q ((x 0).val / 256)) (blk (accOf g t) ((x 0).val / 256)) (ix2 (⟨(x 0).val % 256, Nat.mod_lt _ (by omega)⟩ : Fin 256) (x 1))

/-- A store of block `n`. -/
def updA (n : ℕ) (v : Vec F S256x128 .f32) (f : S3840x128.Idx → Elt F .f32) : S3840x128.Idx → Elt F .f32 := fun x =>
  if h : 256 * n ≤ (x 0).val ∧ (x 0).val < 256 * n + 256 then v (ix2 (⟨(x 0).val - 256 * n, by omega⟩ : Fin 256) (x 1)) else f x

theorem write_updA {o h} (k : ℕ) (ho : o = ![256 * k, 0]) (v : Vec F S256x128 .f32) (f : S3840x128.Idx → Elt F .f32) (x : S3840x128.Idx) :
    ((Memref.whole cc0_scratch4).access (Rect.unit (s := S3840x128) o S256x128.size h)).write (Elt F) f v Finset.univ x = updA k v f x := by
  subst ho
  unfold updA
  split
  · rename_i hx
    have e : ((Memref.whole cc0_scratch4).access (Rect.unit (s := S3840x128) ![256 * k, 0] S256x128.size h)).emb (ix2 (⟨(x 0).val - 256 * k, by omega⟩ : Fin 256) (x 1)) = x := by
      funext d; apply Fin.ext; fin_cases d
      · show 256 * k + 1 * ((x 0).val - 256 * k) = (x 0).val; omega
      · show 0 + 1 * (x 1).val = (x 1).val; omega
    have hw := View.write_emb_of_mem (v := (Memref.whole cc0_scratch4).access (Rect.unit (s := S3840x128) ![256 * k, 0] S256x128.size h)) (Val := Elt F) f v (M := Finset.univ)
      (x := ix2 (⟨(x 0).val - 256 * k, by omega⟩ : Fin 256) (x 1)) (Finset.mem_univ _)
    rw [e] at hw
    exact hw
  · rename_i hx
    refine View.write_of_not_mem _ _ _ ?_
    intro hm
    obtain ⟨y, -, hy⟩ := Finset.mem_map.1 hm
    apply hx
    have hy0 : (y 0).val < 256 := (y 0).isLt
    have := congrArg (fun z => (z 0).val) hy
    have : 256 * k + 1 * (y 0).val = (x 0).val := this
    omega

/-- A store of 128 columns of the outgoing tile. -/
def updO (k : ℕ) (v : Vec F S128x1x128 .f32) (f : S128x1x3840.Idx → Elt F .f32) : S128x1x3840.Idx → Elt F .f32 := fun x =>
  if h : 128 * k ≤ (x 2).val ∧ (x 2).val < 128 * k + 128 then v (ix3 (x 0) (0 : Fin 1) (⟨(x 2).val - 128 * k, by omega⟩ : Fin 128)) else f x

theorem write_updO {o h} (k : ℕ) (ho : o = ![0, 0, 128 * k]) (v : Vec F S128x1x128 .f32) (f : S128x1x3840.Idx → Elt F .f32) (x : S128x1x3840.Idx) :
    ((Memref.whole cc0_scratch5).access (Rect.unit (s := S128x1x3840) o S128x1x128.size h)).write (Elt F) f v Finset.univ x = updO k v f x := by
  subst ho
  unfold updO
  split
  · rename_i hx
    have hx1 : (x 1).val < 1 := (x 1).isLt
    have e : ((Memref.whole cc0_scratch5).access (Rect.unit (s := S128x1x3840) ![0, 0, 128 * k] S128x1x128.size h)).emb (ix3 (x 0) (0 : Fin 1) (⟨(x 2).val - 128 * k, by omega⟩ : Fin 128)) = x := by
      funext d; apply Fin.ext; fin_cases d
      · show 0 + 1 * (x 0).val = (x 0).val; omega
      · show 0 + 1 * 0 = (x 1).val; omega
      · show 128 * k + 1 * ((x 2).val - 128 * k) = (x 2).val; omega
    have hw := View.write_emb_of_mem (v := (Memref.whole cc0_scratch5).access (Rect.unit (s := S128x1x3840) ![0, 0, 128 * k] S128x1x128.size h)) (Val := Elt F) f v (M := Finset.univ)
      (x := ix3 (x 0) (0 : Fin 1) (⟨(x 2).val - 128 * k, by omega⟩ : Fin 128)) (Finset.mem_univ _)
    rw [e] at hw
    exact hw
  · rename_i hx
    refine View.write_of_not_mem _ _ _ ?_
    intro hm
    obtain ⟨y, -, hy⟩ := Finset.mem_map.1 hm
    apply hx
    have hy2 : (y 2).val < 128 := (y 2).isLt
    have := congrArg (fun z => (z 2).val) hy
    have : 128 * k + 1 * (y 2).val = (x 2).val := this
    omega

/-! ## Reads -/

theorem tb_row (g n t : ℕ) (w q : Fin 4) (ht : 4 * t + 4 ≤ 128 * n) (hn : n ≤ 8) {o h} (ho : o = ![w.val, 4 * t + q.val, 0]) (f : S4x1024x128.Idx → Elt F .i32) (hf : GoodB X g w.val n f) :
    ((Memref.whole cc0_scratch2).access (Rect.unit (s := S4x1024x128) o S1x1x128.size h)).read (Elt F) f = bwV X g t w q := by
  subst ho
  funext y
  have hq := q.isLt
  have hy0 : (y 0).val < 1 := (y 0).isLt
  have hy1 : (y 1).val < 1 := (y 1).isLt
  obtain ⟨x, hx⟩ : ∃ x, ((Memref.whole cc0_scratch2).access (Rect.unit (s := S4x1024x128) ![w.val, 4 * t + q.val, 0] S1x1x128.size h)).emb y = x := ⟨_, rfl⟩
  have h0 : w.val + 1 * (y 0).val = (x 0).val := congrArg (fun z => (z 0).val) hx
  have h1 : 4 * t + q.val + 1 * (y 1).val = (x 1).val := congrArg (fun z => (z 1).val) hx
  have h2 : 0 + 1 * (y 2).val = (x 2).val := congrArg (fun z => (z 2).val) hx
  show f (((Memref.whole cc0_scratch2).access (Rect.unit (s := S4x1024x128) ![w.val, 4 * t + q.val, 0] S1x1x128.size h)).emb y) = _
  rw [hx, hf x (by omega) (by omega)]
  have e0 : x 0 = w := Fin.ext (by omega)
  have e1 : x 1 = (⟨(4 * t + q.val) % 1024, Nat.mod_lt _ (by omega)⟩ : Fin 1024) := Fin.ext (by show (x 1).val = (4 * t + q.val) % 1024; rw [Nat.mod_eq_of_lt (by omega)]; omega)
  have e2 : x 2 = y 2 := Fin.ext (by show (x 2).val = (y 2).val; omega)
  show tbc X g (x 0) (x 1) (x 2) = tbc X g w (⟨(4 * t + q.val) % 1024, Nat.mod_lt _ (by omega)⟩ : Fin 1024) (y 2)
  exact (congrArg (fun a => tbc X g a (x 1) (x 2)) e0).trans ((congrArg (fun a => tbc X g w a (x 2)) e1).trans (congrArg (fun a => tbc X g w _ a) e2))

theorem ts_row (g n t : ℕ) (q : Fin 4) (ht : 4 * t + 4 ≤ 128 * n) (hn : n ≤ 8) {o h} (ho : o = ![4 * t + q.val, 0]) (f : S1024x128.Idx → Elt F .f32) (hf : GoodS X g n f) :
    ((Memref.whole cc0_scratch3).access (Rect.unit (s := S1024x128) o S1x128.size h)).read (Elt F) f = scV X g t q := by
  subst ho
  funext y
  have hq := q.isLt
  have hy0 : (y 0).val < 1 := (y 0).isLt
  obtain ⟨x, hx⟩ : ∃ x, ((Memref.whole cc0_scratch3).access (Rect.unit (s := S1024x128) ![4 * t + q.val, 0] S1x128.size h)).emb y = x := ⟨_, rfl⟩
  have h1 : 4 * t + q.val + 1 * (y 0).val = (x 0).val := congrArg (fun z => (z 0).val) hx
  have h2 : 0 + 1 * (y 1).val = (x 1).val := congrArg (fun z => (z 1).val) hx
  show f (((Memref.whole cc0_scratch3).access (Rect.unit (s := S1024x128) ![4 * t + q.val, 0] S1x128.size h)).emb y) = _
  rw [hx, hf x (by omega)]
  have e1 : x 0 = (⟨(4 * t + q.val) % 1024, Nat.mod_lt _ (by omega)⟩ : Fin 1024) := Fin.ext (by show (x 0).val = (4 * t + q.val) % 1024; rw [Nat.mod_eq_of_lt (by omega)]; omega)
  have e2 : x 1 = y 1 := Fin.ext (by show (x 1).val = (y 1).val; omega)
  show tsc X g (x 0) (x 1) = tsc X g (⟨(4 * t + q.val) % 1024, Nat.mod_lt _ (by omega)⟩ : Fin 1024) (y 1)
  exact (congrArg (fun a => tsc X g a (x 1)) e1).trans (congrArg (fun a => tsc X g _ a) e2)

/-- A block of 256 rows of the whole query array. -/
theorem blk_emb (k : ℕ) (hk : k < 15) (f : S3840x128.Idx → Elt F .fp8e4m3) {h} (y : S256x128.Idx) :
    f ((Rect.unit (s := S3840x128) ![256 * k, 0] S256x128.size h).emb y) = blk f k y := by
  have hy0 : (y 0).val < 256 := (y 0).isLt
  refine congrArg f (ix2_self _ _ _ ?_ ?_)
  · show 256 * k + 1 * (y 0).val = (256 * k + (y 0).val) % 3840
    rw [Nat.mod_eq_of_lt (by omega)]; omega
  · show 0 + 1 * (y 1).val = (y 1).val; omega

theorem q_readc (c : Dev nD) (M5 : Memref sig .tc .vmem S3840x128 .fp8e4m3) (fq : Buf (Elt F) (M5.view.loc (c : Thread nD τ))) (k : ℕ) (hk : k < 15) {o h} (ho : o = ![256 * k, 0])
    (hq : M5.view.read (Elt F) fq = X.Q) :
    (M5.access (Rect.unit (s := S3840x128) o S256x128.size h)).read (Elt F) fq = blk X.Q k := by
  subst ho
  funext y
  rw [← blk_emb k hk X.Q (h := h), ← hq]
  rfl

theorem acc_read (k : ℕ) (hk : k < 15) (f : S3840x128.Idx → Elt F .f32) {o h} (ho : o = ![256 * k, 0]) :
    ((Memref.whole cc0_scratch4).access (Rect.unit (s := S3840x128) o S256x128.size h)).read (Elt F) f = blk f k := by
  subst ho
  funext y
  have hy0 : (y 0).val < 256 := (y 0).isLt
  refine congrArg f (ix2_self _ _ _ ?_ ?_)
  · show 256 * k + 1 * (y 0).val = (256 * k + (y 0).val) % 3840
    rw [Nat.mod_eq_of_lt (by omega)]; omega
  · show 0 + 1 * (y 1).val = (y 1).val; omega

/-! ## What the stores leave -/

/-- Rows below `256 k` are cleared. -/
def Clr (g k : ℕ) (f : S3840x128.Idx → Elt F .f32) : Prop := ∀ x, (x 0).val < 256 * k → f x = accOf X g 0 x

theorem clr_step (g k : ℕ) (f : S3840x128.Idx → Elt F .f32) (hf : Clr X g k f) : Clr X g (k + 1) (updA k (k0_pay81 (F := F)) f) := by
  intro x hx
  unfold updA
  split
  · rename_i h
    show k0_pay81 (F := F) _ = k0_pay81 (F := F) _
    refine congrArg _ (ix2_self _ _ _ ?_ rfl)
    show (x 0).val - 256 * k = (x 0).val % 256; omega
  · exact hf x (by omega)

/-- During quad `t`: of the `nb` blocks in use the first `b` have taken the quad's patches. -/
def Acc (g nb t b : ℕ) (f : S3840x128.Idx → Elt F .f32) : Prop :=
  ∀ x, (x 0).val < 256 * nb → f x = if (x 0).val < 256 * b then accOf X g (t + 1) x else accOf X g t x

theorem acc_step (g nb t b : ℕ) (hb : b < nb) (hnb : nb ≤ 15) (f : S3840x128.Idx → Elt F .f32) (hf : Acc X g nb t b f) :
    Acc X g nb t (b + 1) (updA b (quadVal v56c (bwV X g t) (scV X g t) (blk X.Q b) (blk f b)) f) := by
  have hblk : blk f b = blk (accOf X g t) b := by
    funext y
    have hy0 : (y 0).val < 256 := (y 0).isLt
    have e : (256 * b + (y 0).val) % 3840 = 256 * b + (y 0).val := Nat.mod_eq_of_lt (by omega)
    unfold blk
    rw [hf _ (by show (256 * b + (y 0).val) % 3840 < 256 * nb; omega), if_neg (by show ¬ (256 * b + (y 0).val) % 3840 < 256 * b; omega)]
  rw [hblk]
  intro x hx
  unfold updA
  split
  · rename_i h
    rw [if_pos (by omega)]
    have e : (x 0).val / 256 = b := by omega
    show _ = quadVal v56c (bwV X g t) (scV X g t) (blk X.Q ((x 0).val / 256)) (blk (accOf X g t) ((x 0).val / 256)) _
    rw [e]
    refine congrArg _ (ix2_self _ _ _ ?_ rfl)
    show (x 0).val - 256 * b = (x 0).val % 256; omega
  · rename_i h
    rw [hf x hx]
    by_cases h2 : (x 0).val < 256 * b
    · rw [if_pos h2, if_pos (by omega)]
    · rw [if_neg h2, if_neg (by omega)]

/-- The accumulator after `t` quads. -/
def AccAt (g nb t : ℕ) (f : S3840x128.Idx → Elt F .f32) : Prop := ∀ x, (x 0).val < 256 * nb → f x = accOf X g t x

theorem acc_first (g nb t : ℕ) (f : S3840x128.Idx → Elt F .f32) (hf : AccAt X g nb t f) : Acc X g nb t 0 f := fun x hx => by
  rw [hf x hx, if_neg (by omega)]
theorem acc_last (g nb t : ℕ) (f : S3840x128.Idx → Elt F .f32) (hf : Acc X g nb t nb f) : AccAt X g nb (t + 1) f := fun x hx => by
  rw [hf x hx, if_pos hx]

/-- The tile during the way back: columns below `128 k` are the accumulator's, those from `128 n` on are zero. -/
def Back (g T n k : ℕ) (f : S128x1x3840.Idx → Elt F .f32) : Prop :=
  ∀ x, ((x 2).val < 128 * k → f x = accOf X g T (ix2 (x 2) (x 0))) ∧ (128 * n ≤ (x 2).val → f x = k0_pay73 (F := F) x)

theorem back_step (g nb T n k : ℕ) (hk : k < n) (hn : 128 * n ≤ 256 * nb) (hn' : n ≤ 30) (fa : S3840x128.Idx → Elt F .f32) (ha : AccAt X g nb T fa) (f : S128x1x3840.Idx → Elt F .f32)
    (hf : Back X g T n k f) {o h} (ho : o = ![128 * k, 0]) :
    Back X g T n (k + 1) (updO k (k0_pay7 (((Memref.whole cc0_scratch4).access (Rect.unit (s := S3840x128) o S128x128.size h)).read (Elt F) fa)) f) := by
  subst ho
  intro x
  unfold updO
  split
  · rename_i hx
    refine ⟨fun _ => ?_, fun h => absurd h (by omega)⟩
    refine (pay7_at _ _ _).trans ?_
    have e : ((Memref.whole cc0_scratch4).access (Rect.unit (s := S3840x128) ![128 * k, 0] S128x128.size h)).emb (ix2 (⟨(x 2).val - 128 * k, by omega⟩ : Fin 128) (x 0)) = ix2 (x 2) (x 0) := by
      refine ix2_self _ _ _ ?_ ?_
      · show 128 * k + 1 * ((x 2).val - 128 * k) = (x 2).val; omega
      · show 0 + 1 * (x 0).val = (x 0).val; omega
    refine (congrArg fa e).trans ?_
    exact ha _ (by show (x 2).val < 256 * nb; omega)
  · rename_i hx
    exact ⟨fun h => (hf x).1 (by omega), (hf x).2⟩

/-- The number of quads of tile `g`. -/
def quads (X : Inp F) (g : ℕ) : ℕ := (X.ln (128 * g + 127) + 3) / 4

/-- The outgoing tile `g`. -/
def TF (g : ℕ) : S128x1x3840.Idx → Elt F .f32 := fun x =>
  if (x 2).val < 128 * ((X.nv + 127) / 128) then accOf X g (quads X g) (ix2 (x 2) (x 0)) else k0_pay73 (F := F) x

theorem back_last (g : ℕ) (f : S128x1x3840.Idx → Elt F .f32) (hf : Back X g (quads X g) ((X.nv + 127) / 128) ((X.nv + 127) / 128) f) : f = TF X g := by
  funext x
  unfold TF
  split
  · rename_i h; exact (hf x).1 h
  · rename_i h; exact (hf x).2 (by omega)

/-- Tile `g - 1`, or the zero tile, is a fit start for tile `g`'s way back. -/
theorem back_first (g g' T : ℕ) : Back X g T ((X.nv + 127) / 128) 0 (TF X g') := fun x =>
  ⟨fun h => absurd h (by omega), fun h => by unfold TF; rw [if_neg (by omega)]⟩
theorem back_zero (g T n : ℕ) : Back X g T n 0 (k0_pay73 (F := F)) := fun x => ⟨fun h => absurd h (by omega), fun _ => rfl⟩

end Cert.Kernel.Hand
-- ==== Proof.Quad.lean ====
/-
  The loops that clear the accumulator, take the quads of patches into it, and write it back transposed.
-/
module

public import proofs.«01_k».proof.Proof.QuadPure
public import proofs.«01_k».proof.Proof.Group
public import proofs.«01_k».proof.Proof.Whole

@[expose] public section

noncomputable section

namespace Cert.Kernel.Hand

open Cert.Kernel Cert.Kernel.Gen
open Idealize.ShloMosaic Idealize.ShloMosaic.TcCoe Idealize.ShloMosaic.Tactic Idealize.ShloMosaic.Tactic
open Idealize.ShloMosaic.ValueIdx hiding ix0 ix1 ix2 ix3 ix4
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.WordCmp

local notation "𝕄" => MT nD τ sig Unit (Elt F) ℕ (Pipeline.UD sig nD τ) ℕ

variable (X : Inp F) (c : Dev nD) (𝒱 : Variants) (bd : Option 𝒱.V)

def clrInv (g k : ℕ) (acc : BitVec 32) : sProp 𝕄 := iprop(∃ f, ⌜Clr X g k f⌝ ∗ (lAcc c ↦{fullShare} f))

theorem clr_trip (i : grid0.Coords) (M4 : Memref sig .tc .vmem S1x1x128 .i32) (h4 : M4.IsWhole) (M5 : Memref sig .tc .vmem S3840x128 .fp8e4m3) (h5 : M5.IsWhole) (arg0 v9 : BitVec 32) (v36 v46 : Elt F .i32) (h : k0_chk4 v36 v46) (g : ℕ)
    (k : Fin (k0_t5_loop v46).trips) (hk : k.val < 15) (acc : BitVec 32) :
    clrInv X c g k acc ⊢ WP c 𝒱 bd (k0_t5_body i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 arg0 v9 v36 v46 h k acc) (clrInv X c g (k.val + 1)) := by
  unfold clrInv k0_t5_body
  iintro ⟨%f, %hf, Ha⟩
  iapply (wpb_loadW c 𝒱 bd (m := Memref.whole cc0_scratch4) _ rfl) $$ Ha
  iintro Ha
  iapply (wpb_storeW c 𝒱 bd (m := Memref.whole cc0_scratch4) (updA k.val (k0_pay81 (F := F)) f) (by exact fun x => write_updA k.val (off37_eq v46 k hk) _ _ x)) $$ Ha
  iintro Ha
  iapply (wpb_ret c 𝒱 bd)
  iexists (updA k.val (k0_pay81 (F := F)) f); isplitr
  · ipureintro; exact clr_step X g k.val f hf
  · iexact Ha

theorem clear (i : grid0.Coords) (M4 : Memref sig .tc .vmem S1x1x128 .i32) (h4 : M4.IsWhole) (M5 : Memref sig .tc .vmem S3840x128 .fp8e4m3) (h5 : M5.IsWhole) (arg0 v9 : BitVec 32) (v36 v46 : Elt F .i32) (h : k0_chk4 v36 v46) (g : ℕ)
    (ht : (k0_t5_loop v46).trips ≤ 15) {hok : (k0_t5_loop v46).OK} {init : BitVec 32} {α : Type} {kk : BitVec 32 → Prog (TpuEff nD τ sig (Elt F) Λ₀ .tc) α} {Q : α → sProp 𝕄}
    (f : S3840x128.Idx → Elt F .f32) :
    (lAcc c ↦{fullShare} f : sProp 𝕄)
      ⊢ iprop((∀ acc, clrInv X c g (k0_t5_loop v46).trips acc -∗ WP c 𝒱 bd (kk acc) Q)
        -∗ WP c 𝒱 bd (Scf.Loop.for (k0_t5_loop v46) hok init (k0_t5_body i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 arg0 v9 v36 v46 h) >>= kk) Q) := by
  iintro Ha
  iapply (wpb_for c 𝒱 bd (clrInv X c g) (fun k acc => clr_trip X c 𝒱 bd i M4 h4 M5 h5 arg0 v9 v36 v46 h g k (lt_of_lt_of_le k.isLt ht) acc)) $$ [Ha]
  unfold clrInv
  iexists f; isplitr
  · ipureintro; exact fun x h => absurd h (by omega)
  · iexact Ha

/-! ## One quad into the blocks -/

section
variable (M5 : Memref sig .tc .vmem S3840x128 .fp8e4m3) (fq : Buf (Elt F) (M5.view.loc (c : Thread nD τ))) (qs : PosShare TreeShare)

def accInv (g nb t b : ℕ) (acc : BitVec 32) : sProp 𝕄 := iprop(∃ f, ⌜Acc X g nb t b f⌝ ∗ (lAcc c ↦{fullShare} f) ∗ (M5.view.loc (c : Thread nD τ) ↦{qs} fq))
end

theorem acc_trip (i : grid0.Coords) (M4 : Memref sig .tc .vmem S1x1x128 .i32) (h4 : M4.IsWhole) (M5 : Memref sig .tc .vmem S3840x128 .fp8e4m3) (h5 : M5.IsWhole) (v36 v46 : Elt F .i32) (h : k0_chk4 v36 v46) (g nb t : ℕ) (k7 : Fin (k0_t7_loop v36).trips)
    (fq : Buf (Elt F) (M5.view.loc (c : Thread nD τ))) (qs : PosShare TreeShare) (hq : M5.view.read (Elt F) fq = X.Q)
    (k : Fin (k0_t8_loop v46).trips) (hk : k.val < nb) (hnb : nb ≤ 15) (acc : BitVec 32) :
    accInv X c M5 fq qs g nb t k acc ⊢ WP c 𝒱 bd ((k0_t8_body i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v36 v46 h v56c k7 (k0_pay47 v56c (k0_pay42 (k0_pay37 v56c (bwV X g t 0 0)) (k0_pay38 v56c (bwV X g t 1 0)) (k0_pay39 v56c (bwV X g t 2 0)) (k0_pay40 v56c (bwV X g t 3 0)) k0_pay41) (k0_pay43 v56c (bwV X g t 0 1)) (k0_pay44 v56c (bwV X g t 1 1)) (k0_pay45 v56c (bwV X g t 2 1)) (k0_pay46 (bwV X g t 3 1))) (k0_pay51 v56c (k0_pay48 v56c (bwV X g t 0 2)) (k0_pay49 v56c (bwV X g t 1 2)) (k0_pay50 v56c (bwV X g t 2 2)) (bwV X g t 3 2)) (k0_pay52 v56c (bwV X g t 0 3)) (k0_pay53 v56c (bwV X g t 1 3)) (k0_pay54 v56c (bwV X g t 2 3)) (bwV X g t 3 3) (scV X g t 0) (scV X g t 1) (scV X g t 2) (scV X g t 3)) k acc) (accInv X c M5 fq qs g nb t (k.val + 1)) := by
  have o48 := off48_eq v46 k (by omega)
  unfold accInv k0_t8_body
  iintro ⟨%f, %hf, Ha, Hq⟩
  iapply (wpb_loadW c 𝒱 bd (m := M5) (blk X.Q k.val) (q_readc X c M5 fq k.val (by omega) o48 hq)) $$ Hq
  iintro Hq
  iapply (wpb_loadW c 𝒱 bd (m := Memref.whole cc0_scratch4) (blk f k.val) (acc_read k.val (by omega) f o48)) $$ Ha
  iintro Ha
  iapply (wpb_loadW c 𝒱 bd (m := Memref.whole cc0_scratch4) _ rfl) $$ Ha
  iintro Ha
  iapply (wpb_storeW c 𝒱 bd (m := Memref.whole cc0_scratch4) (updA k.val (quadVal v56c (bwV X g t) (scV X g t) (blk X.Q k.val) (blk f k.val)) f) (by exact fun x => write_updA k.val o48 _ _ x)) $$ Ha
  iintro Ha
  iapply (wpb_ret c 𝒱 bd)
  iexists (updA k.val (quadVal v56c (bwV X g t) (scV X g t) (blk X.Q k.val) (blk f k.val)) f); isplitr
  · ipureintro; exact acc_step X g nb t k.val hk hnb f hf
  isplitl [Ha]; · iexact Ha
  iexact Hq

def quadInv (M5 : Memref sig .tc .vmem S3840x128 .fp8e4m3) (fq : Buf (Elt F) (M5.view.loc (c : Thread nD τ))) (qs : PosShare TreeShare)
    (fb : S4x1024x128.Idx → Elt F .i32) (fs : S1024x128.Idx → Elt F .f32) (g nb t : ℕ) (acc : BitVec 32) : sProp 𝕄 :=
  iprop(∃ f, ⌜AccAt X g nb t f⌝ ∗ (lAcc c ↦{fullShare} f) ∗ (M5.view.loc (c : Thread nD τ) ↦{qs} fq) ∗ (lTb c ↦{fullShare} fb) ∗ (lTs c ↦{fullShare} fs))

set_option maxHeartbeats 4000000 in
theorem quad_trip (i : grid0.Coords) (M4 : Memref sig .tc .vmem S1x1x128 .i32) (h4 : M4.IsWhole) (M5 : Memref sig .tc .vmem S3840x128 .fp8e4m3) (h5 : M5.IsWhole) (v36 v46 : Elt F .i32) (h3 : k0_chk3 i v36) (h : k0_chk4 v36 v46) (g n nb : ℕ)
    (fq : Buf (Elt F) (M5.view.loc (c : Thread nD τ))) (qs : PosShare TreeShare) (hq : M5.view.read (Elt F) fq = X.Q)
    (fb : S4x1024x128.Idx → Elt F .i32) (fs : S1024x128.Idx → Elt F .f32)
    (hb0 : GoodB X g 0 n fb) (hb1 : GoodB X g 1 n fb) (hb2 : GoodB X g 2 n fb) (hb3 : GoodB X g 3 n fb) (hs : GoodS X g n fs)
    (h8 : (k0_t8_loop v46).trips = nb) (hnb : nb ≤ 15) (hn' : n ≤ 8)
    (k : Fin (k0_t7_loop v36).trips) (hk : k.val < 256) (hn : 4 * k.val + 4 ≤ 128 * n) (acc : BitVec 32) :
    quadInv X c M5 fq qs fb fs g nb k acc ⊢ WP c 𝒱 bd (k0_t7_body i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v36 h3 v46 h v56c 0#32 k acc) (quadInv X c M5 fq qs fb fs g nb (k.val + 1)) := by
  unfold quadInv k0_t7_body
  rw [k0_part5_eq_skeleton, k0_part6_eq_skeleton, k0_part7_eq_skeleton, k0_part8_eq_skeleton]
  unfold k0_part5_skel k0_part6_skel k0_part7_skel k0_part8_skel
  simp only [bind_assoc, pure_bind]
  iintro ⟨%f, %hf, Ha, Hq, Htb, Hts⟩
  iapply (wpb_loadW c 𝒱 bd (m := Memref.whole cc0_scratch2) (bwV X g k.val 0 0) (tb_row X g n k.val 0 0 hn hn' (off39_eq v36 k hk 0 (by omega)) fb hb0)) $$ Htb
  iintro Htb
  iapply (wpb_loadW c 𝒱 bd (m := Memref.whole cc0_scratch2) (bwV X g k.val 1 0) (tb_row X g n k.val 1 0 hn hn' (off40_eq v36 k hk 0 (by omega)) fb hb1)) $$ Htb
  iintro Htb
  iapply (wpb_loadW c 𝒱 bd (m := Memref.whole cc0_scratch2) (bwV X g k.val 2 0) (tb_row X g n k.val 2 0 hn hn' (off41_eq v36 k hk 0 (by omega)) fb hb2)) $$ Htb
  iintro Htb
  iapply (wpb_loadW c 𝒱 bd (m := Memref.whole cc0_scratch2) (bwV X g k.val 3 0) (tb_row X g n k.val 3 0 hn hn' (off42_eq v36 k hk 0 (by omega)) fb hb3)) $$ Htb
  iintro Htb
  iapply (wpb_loadW c 𝒱 bd (m := Memref.whole cc0_scratch2) (bwV X g k.val 0 1) (tb_row X g n k.val 0 1 hn hn' (off43_eq v36 k hk 0 (by omega)) fb hb0)) $$ Htb
  iintro Htb
  iapply (wpb_loadW c 𝒱 bd (m := Memref.whole cc0_scratch2) (bwV X g k.val 1 1) (tb_row X g n k.val 1 1 hn hn' (off44_eq v36 k hk 0 (by omega)) fb hb1)) $$ Htb
  iintro Htb
  iapply (wpb_loadW c 𝒱 bd (m := Memref.whole cc0_scratch2) (bwV X g k.val 2 1) (tb_row X g n k.val 2 1 hn hn' (off45_eq v36 k hk 0 (by omega)) fb hb2)) $$ Htb
  iintro Htb
  iapply (wpb_loadW c 𝒱 bd (m := Memref.whole cc0_scratch2) (bwV X g k.val 3 1) (tb_row X g n k.val 3 1 hn hn' (off46_eq v36 k hk 0 (by omega)) fb hb3)) $$ Htb
  iintro Htb
  iapply (wpb_loadW c 𝒱 bd (m := Memref.whole cc0_scratch2) (bwV X g k.val 0 2) (tb_row X g n k.val 0 2 hn hn' (off39_eq v36 k hk 2 (by omega)) fb hb0)) $$ Htb
  iintro Htb
  iapply (wpb_loadW c 𝒱 bd (m := Memref.whole cc0_scratch2) (bwV X g k.val 1 2) (tb_row X g n k.val 1 2 hn hn' (off40_eq v36 k hk 2 (by omega)) fb hb1)) $$ Htb
  iintro Htb
  iapply (wpb_loadW c 𝒱 bd (m := Memref.whole cc0_scratch2) (bwV X g k.val 2 2) (tb_row X g n k.val 2 2 hn hn' (off41_eq v36 k hk 2 (by omega)) fb hb2)) $$ Htb
  iintro Htb
  iapply (wpb_loadW c 𝒱 bd (m := Memref.whole cc0_scratch2) (bwV X g k.val 3 2) (tb_row X g n k.val 3 2 hn hn' (off42_eq v36 k hk 2 (by omega)) fb hb3)) $$ Htb
  iintro Htb
  iapply (wpb_loadW c 𝒱 bd (m := Memref.whole cc0_scratch2) (bwV X g k.val 0 3) (tb_row X g n k.val 0 3 hn hn' (off43_eq v36 k hk 2 (by omega)) fb hb0)) $$ Htb
  iintro Htb
  iapply (wpb_loadW c 𝒱 bd (m := Memref.whole cc0_scratch2) (bwV X g k.val 1 3) (tb_row X g n k.val 1 3 hn hn' (off44_eq v36 k hk 2 (by omega)) fb hb1)) $$ Htb
  iintro Htb
  iapply (wpb_loadW c 𝒱 bd (m := Memref.whole cc0_scratch2) (bwV X g k.val 2 3) (tb_row X g n k.val 2 3 hn hn' (off45_eq v36 k hk 2 (by omega)) fb hb2)) $$ Htb
  iintro Htb
  iapply (wpb_loadW c 𝒱 bd (m := Memref.whole cc0_scratch2) (bwV X g k.val 3 3) (tb_row X g n k.val 3 3 hn hn' (off46_eq v36 k hk 2 (by omega)) fb hb3)) $$ Htb
  iintro Htb
  iapply (wpb_loadW c 𝒱 bd (m := Memref.whole cc0_scratch3) (scV X g k.val 0) (ts_row X g n k.val 0 hn hn' (off47_eq v36 k hk 0 (by omega)) fs hs)) $$ Hts
  iintro Hts
  iapply (wpb_loadW c 𝒱 bd (m := Memref.whole cc0_scratch3) (scV X g k.val 1) (ts_row X g n k.val 1 hn hn' (off47_eq v36 k hk 1 (by omega)) fs hs)) $$ Hts
  iintro Hts
  iapply (wpb_loadW c 𝒱 bd (m := Memref.whole cc0_scratch3) (scV X g k.val 2) (ts_row X g n k.val 2 hn hn' (off47_eq v36 k hk 2 (by omega)) fs hs)) $$ Hts
  iintro Hts
  iapply (wpb_loadW c 𝒱 bd (m := Memref.whole cc0_scratch3) (scV X g k.val 3) (ts_row X g n k.val 3 hn hn' (off47_eq v36 k hk 3 (by omega)) fs hs)) $$ Hts
  iintro Hts
  iapply (wpb_for c 𝒱 bd (accInv X c M5 fq qs g nb k.val) (fun j acc => acc_trip X c 𝒱 bd i M4 h4 M5 h5 v36 v46 h g nb k.val k fq qs hq j (by have := j.isLt; omega) hnb acc)) $$ [Ha Hq]
  · unfold accInv
    iexists f; isplitr
    · ipureintro; exact acc_first X g nb k.val f hf
    isplitl [Ha]; · iexact Ha
    iexact Hq
  iintro %a HI
  rw [h8]
  unfold accInv
  icases HI with ⟨%f', %hf', Ha, Hq⟩
  iapply (wpb_for_none c 𝒱 bd (t9_trips v46))
  iapply (wpb_ret c 𝒱 bd)
  iexists f'; isplitr
  · ipureintro; exact acc_last X g nb k.val f' hf'
  isplitl [Ha]; · iexact Ha
  isplitl [Hq]; · iexact Hq
  isplitl [Htb]; · iexact Htb
  iexact Hts

theorem quadLoop (i : grid0.Coords) (M4 : Memref sig .tc .vmem S1x1x128 .i32) (h4 : M4.IsWhole) (M5 : Memref sig .tc .vmem S3840x128 .fp8e4m3) (h5 : M5.IsWhole) (v36 v46 : Elt F .i32) (h3 : k0_chk3 i v36) (h : k0_chk4 v36 v46) (g n nb : ℕ)
    (fq : Buf (Elt F) (M5.view.loc (c : Thread nD τ))) (qs : PosShare TreeShare) (hq : M5.view.read (Elt F) fq = X.Q)
    (fb : S4x1024x128.Idx → Elt F .i32) (fs : S1024x128.Idx → Elt F .f32)
    (hb0 : GoodB X g 0 n fb) (hb1 : GoodB X g 1 n fb) (hb2 : GoodB X g 2 n fb) (hb3 : GoodB X g 3 n fb) (hs : GoodS X g n fs)
    (h8 : (k0_t8_loop v46).trips = nb) (hnb : nb ≤ 15) (hn' : n ≤ 8) (h7 : (k0_t7_loop v36).trips ≤ 256) (h7' : 4 * (k0_t7_loop v36).trips ≤ 128 * n)
    {hok : (k0_t7_loop v36).OK} {init : BitVec 32} {α : Type} {kk : BitVec 32 → Prog (TpuEff nD τ sig (Elt F) Λ₀ .tc) α} {Q : α → sProp 𝕄}
    (f : S3840x128.Idx → Elt F .f32) (hf : Clr X g nb f) :
    iprop((lAcc c ↦{fullShare} f) ∗ (M5.view.loc (c : Thread nD τ) ↦{qs} fq) ∗ (lTb c ↦{fullShare} fb) ∗ (lTs c ↦{fullShare} fs))
      ⊢ iprop((∀ acc, quadInv X c M5 fq qs fb fs g nb (k0_t7_loop v36).trips acc -∗ WP c 𝒱 bd (kk acc) Q)
        -∗ WP c 𝒱 bd (Scf.Loop.for (k0_t7_loop v36) hok init (k0_t7_body i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v36 h3 v46 h v56c 0#32) >>= kk) Q) := by
  iintro ⟨Ha, Hq, Htb, Hts⟩
  iapply (wpb_for c 𝒱 bd (quadInv X c M5 fq qs fb fs g nb) (fun k acc => quad_trip X c 𝒱 bd i M4 h4 M5 h5 v36 v46 h3 h g n nb fq qs hq fb fs hb0 hb1 hb2 hb3 hs h8 hnb hn'
    k (lt_of_lt_of_le k.isLt h7) (by have := k.isLt; omega) acc)) $$ [Ha Hq Htb Hts]
  unfold quadInv
  iexists f; isplitr
  · ipureintro; exact hf
  isplitl [Ha]; · iexact Ha
  isplitl [Hq]; · iexact Hq
  isplitl [Htb]; · iexact Htb
  iexact Hts

/-! ## The way back -/

def backInv (fa : S3840x128.Idx → Elt F .f32) (g T n k : ℕ) (acc : BitVec 32) : sProp 𝕄 :=
  iprop(∃ f, ⌜Back X g T n k f⌝ ∗ (lOutt c ↦{fullShare} f) ∗ (lAcc c ↦{fullShare} fa))

theorem back_trip (i : grid0.Coords) (M4 : Memref sig .tc .vmem S1x1x128 .i32) (h4 : M4.IsWhole) (M5 : Memref sig .tc .vmem S3840x128 .fp8e4m3) (h5 : M5.IsWhole) (v69 : Elt F .i32) (h : k0_chk6 v69) (g nb T n : ℕ) (hn : 128 * n ≤ 256 * nb) (hn' : n ≤ 30)
    (fa : S3840x128.Idx → Elt F .f32) (ha : AccAt X g nb T fa) (k : Fin (k0_t14_loop v69).trips) (hk : k.val < n) (acc : BitVec 32) :
    backInv X c fa g T n k acc ⊢ WP c 𝒱 bd (k0_t14_body i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v69 h k acc) (backInv X c fa g T n (k.val + 1)) := by
  unfold backInv k0_t14_body
  iintro ⟨%f, %hf, Ho, Ha⟩
  iapply (wpb_loadW c 𝒱 bd (m := Memref.whole cc0_scratch4) _ rfl) $$ Ha
  iintro Ha
  iapply (wpb_loadW c 𝒱 bd (m := Memref.whole cc0_scratch5) _ rfl) $$ Ho
  iintro Ho
  iapply (wpb_storeW c 𝒱 bd (m := Memref.whole cc0_scratch5) (updO k.val (k0_pay7 (((Memref.whole cc0_scratch4).access (Rect.unit (s := S3840x128) (k0_off64 v69 k) S128x128.size (k0_off64_inb v69 h k))).read (Elt F) fa)) f)
    (by exact fun x => write_updO k.val (off65_eq v69 k (by omega)) _ _ x)) $$ Ho
  iintro Ho
  iapply (wpb_ret c 𝒱 bd)
  iexists (updO k.val (k0_pay7 (((Memref.whole cc0_scratch4).access (Rect.unit (s := S3840x128) (k0_off64 v69 k) S128x128.size (k0_off64_inb v69 h k))).read (Elt F) fa)) f); isplitr
  · ipureintro; exact back_step X g nb T n k.val hk hn hn' fa ha f hf (off64_eq v69 k (by omega))
  isplitl [Ho]; · iexact Ho
  iexact Ha

theorem back (i : grid0.Coords) (M4 : Memref sig .tc .vmem S1x1x128 .i32) (h4 : M4.IsWhole) (M5 : Memref sig .tc .vmem S3840x128 .fp8e4m3) (h5 : M5.IsWhole) (v69 : Elt F .i32) (h : k0_chk6 v69) (g nb T n : ℕ) (hn : 128 * n ≤ 256 * nb) (hn' : n ≤ 30)
    (fa : S3840x128.Idx → Elt F .f32) (ha : AccAt X g nb T fa) (ht : (k0_t14_loop v69).trips = n)
    {hok : (k0_t14_loop v69).OK} {init : BitVec 32} {α : Type} {kk : BitVec 32 → Prog (TpuEff nD τ sig (Elt F) Λ₀ .tc) α} {Q : α → sProp 𝕄}
    (f : S128x1x3840.Idx → Elt F .f32) (hf : Back X g T n 0 f) :
    iprop((lOutt c ↦{fullShare} f) ∗ (lAcc c ↦{fullShare} fa))
      ⊢ iprop((∀ acc, backInv X c fa g T n n acc -∗ WP c 𝒱 bd (kk acc) Q)
        -∗ WP c 𝒱 bd (Scf.Loop.for (k0_t14_loop v69) hok init (k0_t14_body i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v69 h) >>= kk) Q) := by
  iintro ⟨Ho, Ha⟩ Hk
  iapply (wpb_for c 𝒱 bd (backInv X c fa g T n) (fun k acc => back_trip X c 𝒱 bd i M4 h4 M5 h5 v69 h g nb T n hn hn' fa ha k (by have := k.isLt; omega) acc)) $$ [Ho Ha]
  · unfold backInv
    iexists f; isplitr
    · ipureintro; exact hf
    isplitl [Ho]; · iexact Ho
    iexact Ha
  rw [ht]
  iexact Hk

end Cert.Kernel.Hand
-- ==== Proof.Out.lean ====
/-
  The transfers that send a group's results out: what each delivers, the loop that issues them, and the loop that waits for them.
-/
module

public import proofs.«01_k».proof.Proof.Group

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Transfers (MixedBatch sumTo wp_dmaMixedBatch wp_waitMixedBatch mixedBatch_alloc' mixedBatch_collect')

variable (X : Inp F) (TF : ℕ → S128x1x3840.Idx → Elt F .f32) (c : Dev nD) (𝒱 : Variants) (bd : Option 𝒱.V)

/-- The result: the page at sorted position `128 g + i` holds row `i` of group `g`'s tile. -/
def outFin : S4096x1x3840.Idx → Elt F .f32 := fun x =>
  TF ((X.ord.symm (x 0)).val / 128) (ix3 (⟨(X.ord.symm (x 0)).val % 128, Nat.mod_lt _ (by omega)⟩ : Fin 128) (x 1) (x 2))

theorem outFin_at (g i : ℕ) (hi : i < 128) (hg : g < 32) (x : S4096x1x3840.Idx) (hx : (x 0).val = X.pg (128 * g + i)) :
    outFin X TF x = TF g (ix3 (⟨i, hi⟩ : Fin 128) (x 1) (x 2)) := by
  have e : X.ord.symm (x 0) = ⟨128 * g + i, by omega⟩ := by
    refine (Equiv.symm_apply_eq _).2 (Fin.ext ?_); refine Eq.trans hx ?_; unfold Inp.pg; rw [dif_pos (show 128 * g + i < 4096 by omega)]
  have hv : (X.ord.symm (x 0)).val = 128 * g + i := by rw [e]
  unfold outFin
  congr 1
  · rw [hv]; omega
  · congr 1; apply Fin.ext; show (X.ord.symm (x 0)).val % 128 = i; rw [hv]; omega

abbrev outSem : DmaSem sig := cc0_scratch7.sem

/-- The result's page at sorted position `k`. -/
def outAt (f : S4096x1x3840.Idx → Elt F .f32) (k : ℕ) : sProp 𝕄 := (lOut c ↦[OP (X.pg k)]{fullShare} f)
/-- Row `i` of the tile. -/
def tileAt (f : S128x1x3840.Idx → Elt F .f32) (i : ℕ) : sProp 𝕄 := (lOutt c ↦[OT i]{fullShare} f)

/-- What transfer `i` of group `g` delivers. -/
def Do (g : ℕ) (t : Fin 128) : sProp 𝕄 := iprop(outAt X c (outFin X TF) (128 * g + t.val) ∗ tileAt c (TF g) t.val)

instance Do_storable (g : ℕ) (t : Fin 128) : Storable (upEmb : UEmb _ 𝕄) (Do X TF c g t) := by
  unfold Do outAt tileAt; infer_instance

def aO : ℕ := (outS ![0, 0, 0] (by decide)).view.dmaCredit
theorem aO_pos : 0 < aO := View.dmaCredit_pos _ (by decide)
def Ao (_ : Fin 128) : ℕ := aO
theorem Ao_pos (t : Fin 128) : 0 < Ao t := aO_pos

theorem sumTo_Ao (k : ℕ) (hk : k ≤ 128) : sumTo Ao k = k * aO := by
  induction k with
  | zero => simp [sumTo]
  | succ k ih =>
    rw [Transfers.sumTo_succ _ (show k < 128 by omega), ih (by omega), Nat.add_mul, Nat.one_mul]; rfl

abbrev BatchO (g k u : ℕ) : sProp 𝕄 := MixedBatch (EC (F := F)) (c : Thread nD τ) (.dma outSem) () Ao (Do X TF c g) k u

theorem wpb_send {α : Type} {Q : α → sProp 𝕄} {o h o' h'} {h1 h2 h3} {k : PUnit → Prog (TpuEff nD τ sig (Elt F) Λ₀ .tc) α} (g i : ℕ) (hi : i < 128) (hg : g < 32)
    (ho : o = ![X.pg (128 * g + i), 0, 0]) (ho' : o' = ![i, 0, 0]) (f : S4096x1x3840.Idx → Elt F .f32) :
    iprop(tileAt c (TF g) i ∗ outAt X c f (128 * g + i) ∗ BatchO X TF c g i 0)
      ⊢ iprop((BatchO X TF c g (i + 1) 0 -∗ WP c 𝒱 bd (k ⟨⟩) Q)
        -∗ WP c 𝒱 bd (Prog.lift (.enqueueDma (outtS o' h') (.here (outS o h)) (.dma outSem) h1 h2 h3) >>= k) Q) := by
  have hr := wp_dmaMixedBatch (Q := Q) (defs := defs₀ (F := F)) (Ix := Unit) (Val := Elt F) (Name := ℕ) (U := Pipeline.UD sig nD τ) (Lvl := ℕ)
    (EC (F := F)) 𝒱 (c : Thread nD τ) bd (src := outtS o' h') (via := .same) (dst := outS o h) (sm := .dma outSem)
    (hsrc := h1) (hdst := h2) (hsem := h3) (k := k) (q := fullShare) (fs := TF g) (Sd := OP (X.pg (128 * g + i))) (fd := f) (D := Do X TF c g) (j := i) (u := 0) () Ao
    (by rw [outS_set _ ho]) hi (by show aO = _; rfl) (Nat.zero_le _)
    (by
      unfold Do tileAt outAt
      rw [outtS_set _ ho']
      refine BI.sep_mono (Entails.of_eq (pointsTo_congr fun x hx => out_write (F := F) _ _ ho ho' hi f (TF g) x hx |>.trans
        (outFin_at X TF g i hi hg x (by have := hx; simp only [OP, Finset.mem_filter] at this; exact this.2)).symm)) ?_
      exact Idealize.SL.BI.Entails.refl _)
  rw [outtS_set _ ho'] at hr
  exact hr

theorem wpb_drain {α : Type} {Q : α → sProp 𝕄} {o h} {m : Memref sig .tc .vmem S1x3840 .f32} {h1 h2} {k : PUnit → Prog (TpuEff nD τ sig (Elt F) Λ₀ .tc) α} (g i : ℕ) (hi : i < 128) (W : Waits sig Unit) :
    iprop(BatchO X TF c g 128 (i * aO) ∗ owes (c : Thread nD τ) (0 : CellTallies nD τ sig Unit) W)
      ⊢ iprop((iprop(BatchO X TF c g 128 ((i + 1) * aO) ∗ owes (c : Thread nD τ) (0 : CellTallies nD τ sig Unit) (insert (SemLoc.dma outSem, ()) W)) -∗ WP c 𝒱 bd (k ⟨⟩) Q)
        -∗ WP c 𝒱 bd (Prog.lift (.waitDma2 outSem m (outS o h) h1 h2) >>= k) Q) := by
  have hs : i * aO + aO ≤ sumTo Ao 128 := by rw [sumTo_Ao 128 le_rfl, ← Nat.succ_mul]; exact Nat.mul_le_mul_right _ hi
  have hr := wp_waitMixedBatch (Q := Q) (defs := defs₀ (F := F)) (Ix := Unit) (Val := Elt F) (Name := ℕ) (U := Pipeline.UD sig nD τ) (Lvl := ℕ)
    (EC (F := F)) 𝒱 (c : Thread nD τ) bd (sem := outSem) (srcw := m) (dstw := outS o h) (hsrc := h1) (hdst := h2) (k := k) () (A := Ao) (J := aO) rfl (D := Do X TF c g) (j := 128) (u := i * aO) hs (W := W)
  rw [show i * aO + aO = (i + 1) * aO by rw [Nat.add_mul, Nat.one_mul]] at hr
  exact hr

theorem Do_all_aux (g n : ℕ) (hn : n ≤ 128) :
    bigSep (Finset.univ.filter fun t : Fin 128 => t.val < n) (Do X TF c g)
      ⊢ iprop(bigSep (Finset.Ico (128 * g) (128 * g + n)) (outAt X c (outFin X TF)) ∗ bigSep (Finset.Ico 0 n) (tileAt c (TF g))) := by
  induction n with
  | zero =>
    rw [sep_empty (by omega), sep_empty (by omega), show (Finset.univ.filter fun t : Fin 128 => t.val < 0) = ∅ by ext x; simp, bigSep_empty]
    iintro -
    isplitl []; · iempintro
    iempintro
  | succ n ih =>
    have e : (Finset.univ.filter fun t : Fin 128 => t.val < n + 1) = insert ⟨n, by omega⟩ (Finset.univ.filter fun t : Fin 128 => t.val < n) := by
      ext x; simp only [Finset.mem_filter, Finset.mem_univ, _root_.true_and, Finset.mem_insert, Fin.ext_iff]; omega
    rw [e, sep_insert (by simp), sep_last (Nat.zero_le n), show 128 * g + (n + 1) = 128 * g + n + 1 by omega, sep_last (by omega)]
    have e2 : Do X TF c g ⟨n, by omega⟩ = iprop(outAt X c (outFin X TF) (128 * g + n) ∗ tileAt c (TF g) n) := rfl
    rw [e2]
    iintro ⟨⟨H1, H2⟩, H⟩
    ihave H' := (ih (by omega)) $$ H
    icases H' with ⟨A1, A2⟩
    isplitl [H1 A1]; · isplitl [H1]; · iexact H1
                       iexact A1
    isplitl [H2]; · iexact H2
    iexact A2

theorem tile_eq (f : S128x1x3840.Idx → Elt F .f32) : (lOutt c ↦{fullShare} f : sProp 𝕄) = bigSep (Finset.Ico 0 128) (tileAt c f) := by
  have hu : (Finset.univ : Finset S128x1x3840.Idx) = (Finset.Ico 0 128).biUnion OT := by
    ext (x : S128x1x3840.Idx)
    have h1 : (x 0).val < 128 := (x 0).isLt
    simp only [OT, Finset.mem_biUnion, Finset.mem_filter, Finset.mem_univ, _root_.true_and, Finset.mem_Ico, true_iff]
    exact ⟨(x 0).val, ⟨Nat.zero_le _, h1⟩, rfl⟩
  have hd : ∀ a ∈ Finset.Ico 0 128, ∀ b ∈ Finset.Ico 0 128, a ≠ b → Disjoint (OT a) (OT b) := by
    intro a _ b _ hab
    rw [Finset.disjoint_left]; intro x hx hx'
    simp only [OT, Finset.mem_filter] at hx hx'
    omega
  exact (congrArg (fun S => (lOutt c ↦[S]{fullShare} f : sProp 𝕄)) hu).trans (pointsTo_biUnion (ℓ := lOutt c) (q := fullShare) (f := f) (Finset.Ico 0 128) OT hd)

/-- The result's pages at sorted positions `a ≤ k < b`. -/
def Outs (f : S4096x1x3840.Idx → Elt F .f32) (a b : ℕ) : sProp 𝕄 := bigSep (Finset.Ico a b) (outAt X c f)

theorem collectO (g : ℕ) :
    BatchO X TF c g 128 (128 * aO) ⊢ (|={Set.univ}=> iprop(Outs X c (outFin X TF) (128 * g) (128 * g + 128) ∗ (lOutt c ↦{fullShare} TF g) ∗ semVal ((c : Thread nD τ), SemLoc.dma outSem) 0) : sProp 𝕄) := by
  have hs : 128 * aO = sumTo Ao 128 := (sumTo_Ao 128 le_rfl).symm
  iintro HB
  rw [hs]
  imod (mixedBatch_collect' (EC (F := F)) (c : Thread nD τ) (sm := .dma outSem) (ι := ()) Ao_pos (D := Do X TF c g)) $$ HB with ⟨HD, Hv⟩
  rw [show (Finset.univ : Finset (Fin 128)) = (Finset.univ.filter fun t : Fin 128 => t.val < 128) by ext x; simp]
  ihave H := (Do_all_aux X TF c g 128 le_rfl) $$ HD
  icases H with ⟨A1, A2⟩
  imodintro
  unfold Outs
  rw [tile_eq]
  isplitl [A1]; · iexact A1
  isplitl [A2]; · iexact A2
  iexact Hv

/-! ## The loops -/

def sendInv (g : ℕ) (q : PosShare TreeShare) (f : S4096x1x3840.Idx → Elt F .f32) (k : ℕ) (_ : Unit) : sProp 𝕄 :=
  iprop(BatchO X TF c g k 0 ∗ bigSep (Finset.Ico (128 * g + k) (128 * g + 128)) (outAt X c f) ∗ bigSep (Finset.Ico k 128) (tileAt c (TF g)) ∗ (lT1 c ↦{q} X.T1))

theorem send_step (i : grid0.Coords) (M4 : Memref sig .tc .vmem S1x1x128 .i32) (h4 : M4.IsWhole) (M5 : Memref sig .tc .vmem S3840x128 .fp8e4m3) (h5 : M5.IsWhole)
    (g : ℕ) (hgi : g = (i 0).val) (q : PosShare TreeShare) (f : S4096x1x3840.Idx → Elt F .f32) (k : Fin k0_t16_loop.trips) (acc : Unit) :
    sendInv X TF c g q f k acc ⊢ WP c 𝒱 bd (k0_t16_body i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 k acc) (sendInv X TF c g q f (k.val + 1)) := by
  have hk : k.val < 128 := lt_of_lt_of_le k.isLt k0_t16_abs.2.1
  have hi : (i 0).val < 32 := (i 0).isLt
  have hg : g < 32 := by omega
  have hnn : 128 * g + k.val < 4096 := by omega
  have hT := fun h h1 => table1 X (o := k0_off68 i k) (h := h) (h1 := h1) (128 * g + k.val) hnn (by rw [k0_off68_eq]; congr 1; omega)
  unfold sendInv k0_t16_body
  rw [sep_head (by omega) (outAt X c f), sep_head hk (tileAt c (TF g)), show 128 * g + (k.val + 1) = 128 * g + k.val + 1 by omega]
  iintro ⟨HB, ⟨Ho, Hos⟩, ⟨Ht, Hts⟩, HT⟩
  iapply (wpb_smem c 𝒱 bd (m := Memref.whole main_v0) _ rfl) $$ HT
  iintro HT
  iapply (wpb_assume c 𝒱 bd (chk7_of _ (by rw [hT _ numel1_S1]; exact X.pg_lt _)))
  iapply (wpb_send X TF c 𝒱 bd g k.val hk hg (by rw [off69_eq, hT _ numel1_S1]) (by rw [k0_off70_eq]) f) $$ [Ho Ht HB]
  · isplitl [Ht]; · iexact Ht
    isplitl [Ho]; · iexact Ho
    iexact HB
  iintro HB
  iapply (wpb_ret c 𝒱 bd)
  isplitl [HB]; · iexact HB
  isplitl [Hos]; · iexact Hos
  isplitl [Hts]; · iexact Hts
  iexact HT

theorem send (i : grid0.Coords) (M4 : Memref sig .tc .vmem S1x1x128 .i32) (h4 : M4.IsWhole) (M5 : Memref sig .tc .vmem S3840x128 .fp8e4m3) (h5 : M5.IsWhole)
    (g : ℕ) (hgi : g = (i 0).val) (q : PosShare TreeShare) (f : S4096x1x3840.Idx → Elt F .f32) {α : Type} {kk : Unit → Prog (TpuEff nD τ sig (Elt F) Λ₀ .tc) α} {Q : α → sProp 𝕄} :
    iprop((lOutt c ↦{fullShare} TF g) ∗ semVal ((c : Thread nD τ), SemLoc.dma outSem) 0 ∗ Outs X c f (128 * g) (128 * g + 128) ∗ (lT1 c ↦{q} X.T1))
      ⊢ iprop((iprop(BatchO X TF c g 128 0 ∗ (lT1 c ↦{q} X.T1)) -∗ WP c 𝒱 bd (kk ⟨⟩) Q)
        -∗ WP c 𝒱 bd (Scf.Loop.for k0_t16_loop k0_t16_ok ⟨⟩ (k0_t16_body i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7) >>= kk) Q) := by
  have ht : (k0_t16_loop).trips = 128 := by decide +kernel
  unfold Outs
  iintro ⟨Ht, Hv, Ho, HT⟩ Hk
  imod (mixedBatch_alloc' (EC (F := F)) (c : Thread nD τ) () Ao (Do X TF c g) (E := Set.univ)) $$ Hv with HB
  iapply (wpb_for c 𝒱 bd (sendInv X TF c g q f) (fun k acc => send_step X TF c 𝒱 bd i M4 h4 M5 h5 g hgi q f k acc)) $$ [HB Ht Ho HT]
  · unfold sendInv
    rw [← tile_eq, Nat.add_zero]
    isplitl [HB]; · iexact HB
    isplitl [Ho]; · iexact Ho
    isplitl [Ht]; · iexact Ht
    iexact HT
  iintro %acc HI
  rw [ht]
  unfold sendInv
  icases HI with ⟨HB, -, -, HT⟩
  iapply Hk
  isplitl [HB]; · iexact HB
  iexact HT

/-- Before trip `k` of the draining loop: `k` rows' worth of the group's transfers waited for. -/
def drainInv (g : ℕ) (q : PosShare TreeShare) (k : ℕ) (_ : Unit) : sProp 𝕄 :=
  iprop(∃ W, BatchO X TF c g 128 (k * aO) ∗ owes (c : Thread nD τ) (0 : CellTallies nD τ sig Unit) W ∗ (lT1 c ↦{q} X.T1))

theorem drain13_step (i : grid0.Coords) (M4 : Memref sig .tc .vmem S1x1x128 .i32) (h4 : M4.IsWhole) (M5 : Memref sig .tc .vmem S3840x128 .fp8e4m3) (h5 : M5.IsWhole)
    (hc : k0_cond3 i = 1#1) (g : ℕ) (q : PosShare TreeShare) (k : Fin k0_t13_loop.trips) (acc : Unit) :
    drainInv X TF c g q k acc ⊢ WP c 𝒱 bd (k0_t13_body i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 hc k acc) (drainInv X TF c g q (k.val + 1)) := by
  have hk : k.val < 128 := lt_of_lt_of_le k.isLt k0_t13_abs.2.1
  have hi : (i 0).val < 32 := (i 0).isLt
  have hnn : 128 * (i 0).val + k.val < 4096 := by omega
  have hT := fun h h1 => table1 X (o := k0_off61 i k) (h := h) (h1 := h1) (128 * (i 0).val + k.val) hnn (by rw [k0_off61_eq])
  unfold drainInv k0_t13_body
  iintro ⟨%W, HB, HO, HT⟩
  iapply (wpb_smem c 𝒱 bd (m := Memref.whole main_v0) _ rfl) $$ HT
  iintro HT
  iapply (wpb_assume c 𝒱 bd (chk5_of i _ (by rw [hT _ numel1_S1]; exact X.pg_lt _)))
  iapply (wpb_drain X TF c 𝒱 bd g k.val hk W) $$ [HB HO]
  · isplitl [HB]; · iexact HB
    iexact HO
  iintro ⟨HB, HO⟩
  iapply (wpb_ret c 𝒱 bd)
  iexists _
  isplitl [HB]; · iexact HB
  isplitl [HO]; · iexact HO
  iexact HT

theorem drain13 (i : grid0.Coords) (M4 : Memref sig .tc .vmem S1x1x128 .i32) (h4 : M4.IsWhole) (M5 : Memref sig .tc .vmem S3840x128 .fp8e4m3) (h5 : M5.IsWhole)
    (hc : k0_cond3 i = 1#1) (g : ℕ) (q : PosShare TreeShare) (W : Waits sig Unit) {α : Type} {kk : Unit → Prog (TpuEff nD τ sig (Elt F) Λ₀ .tc) α} {Q : α → sProp 𝕄} :
    iprop(BatchO X TF c g 128 0 ∗ owes (c : Thread nD τ) (0 : CellTallies nD τ sig Unit) W ∗ (lT1 c ↦{q} X.T1))
      ⊢ iprop((iprop(Outs X c (outFin X TF) (128 * g) (128 * g + 128) ∗ (lOutt c ↦{fullShare} TF g) ∗ semVal ((c : Thread nD τ), SemLoc.dma outSem) 0
            ∗ (∃ W, owes (c : Thread nD τ) (0 : CellTallies nD τ sig Unit) W) ∗ (lT1 c ↦{q} X.T1)) -∗ WP c 𝒱 bd (kk ⟨⟩) Q)
        -∗ WP c 𝒱 bd (Scf.Loop.for k0_t13_loop (k0_t13_ok i hc) ⟨⟩ (k0_t13_body i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 hc) >>= kk) Q) := by
  have ht : (k0_t13_loop).trips = 128 := by decide +kernel
  iintro ⟨HB, HO, HT⟩ Hk
  iapply (wpb_for c 𝒱 bd (drainInv X TF c g q) (fun k acc => drain13_step X TF c 𝒱 bd i M4 h4 M5 h5 hc g q k acc)) $$ [HB HO HT]
  · unfold drainInv
    rw [Nat.zero_mul]
    iexists W
    isplitl [HB]; · iexact HB
    isplitl [HO]; · iexact HO
    iexact HT
  iintro %acc HI
  rw [ht]
  unfold drainInv
  icases HI with ⟨%W', HB, HO, HT⟩
  imod (collectO X TF c g) $$ HB with ⟨H1, H2, H3⟩
  iapply Hk
  isplitl [H1]; · iexact H1
  isplitl [H2]; · iexact H2
  isplitl [H3]; · iexact H3
  isplitl [HO]; · iexists _; iexact HO
  iexact HT

theorem drain17_step (i : grid0.Coords) (M4 : Memref sig .tc .vmem S1x1x128 .i32) (h4 : M4.IsWhole) (M5 : Memref sig .tc .vmem S3840x128 .fp8e4m3) (h5 : M5.IsWhole)
    (hc : k0_cond4 i = 1#1) (g : ℕ) (q : PosShare TreeShare) (k : Fin k0_t17_loop.trips) (acc : Unit) :
    drainInv X TF c g q k acc ⊢ WP c 𝒱 bd (k0_t17_body i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 hc k acc) (drainInv X TF c g q (k.val + 1)) := by
  have hk : k.val < 128 := lt_of_lt_of_le k.isLt k0_t17_abs.2.1
  have hi : (i 0).val < 32 := (i 0).isLt
  have hnn : 128 * (i 0).val + k.val < 4096 := by omega
  have hT := fun h h1 => table1 X (o := k0_off71 i k) (h := h) (h1 := h1) (128 * (i 0).val + k.val) hnn (by rw [k0_off71_eq])
  unfold drainInv k0_t17_body
  iintro ⟨%W, HB, HO, HT⟩
  iapply (wpb_smem c 𝒱 bd (m := Memref.whole main_v0) _ rfl) $$ HT
  iintro HT
  iapply (wpb_assume c 𝒱 bd (chk8_of i _ (by rw [hT _ numel1_S1]; exact X.pg_lt _)))
  iapply (wpb_drain X TF c 𝒱 bd g k.val hk W) $$ [HB HO]
  · isplitl [HB]; · iexact HB
    iexact HO
  iintro ⟨HB, HO⟩
  iapply (wpb_ret c 𝒱 bd)
  iexists _
  isplitl [HB]; · iexact HB
  isplitl [HO]; · iexact HO
  iexact HT

theorem drain17 (i : grid0.Coords) (M4 : Memref sig .tc .vmem S1x1x128 .i32) (h4 : M4.IsWhole) (M5 : Memref sig .tc .vmem S3840x128 .fp8e4m3) (h5 : M5.IsWhole)
    (hc : k0_cond4 i = 1#1) (g : ℕ) (q : PosShare TreeShare) (W : Waits sig Unit) {α : Type} {kk : Unit → Prog (TpuEff nD τ sig (Elt F) Λ₀ .tc) α} {Q : α → sProp 𝕄} :
    iprop(BatchO X TF c g 128 0 ∗ owes (c : Thread nD τ) (0 : CellTallies nD τ sig Unit) W ∗ (lT1 c ↦{q} X.T1))
      ⊢ iprop((iprop(Outs X c (outFin X TF) (128 * g) (128 * g + 128) ∗ (lOutt c ↦{fullShare} TF g) ∗ semVal ((c : Thread nD τ), SemLoc.dma outSem) 0
            ∗ (∃ W, owes (c : Thread nD τ) (0 : CellTallies nD τ sig Unit) W) ∗ (lT1 c ↦{q} X.T1)) -∗ WP c 𝒱 bd (kk ⟨⟩) Q)
        -∗ WP c 𝒱 bd (Scf.Loop.for k0_t17_loop (k0_t17_ok i hc) ⟨⟩ (k0_t17_body i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 hc) >>= kk) Q) := by
  have ht : (k0_t17_loop).trips = 128 := by decide +kernel
  iintro ⟨HB, HO, HT⟩ Hk
  iapply (wpb_for c 𝒱 bd (drainInv X TF c g q) (fun k acc => drain17_step X TF c 𝒱 bd i M4 h4 M5 h5 hc g q k acc)) $$ [HB HO HT]
  · unfold drainInv
    rw [Nat.zero_mul]
    iexists W
    isplitl [HB]; · iexact HB
    isplitl [HO]; · iexact HO
    iexact HT
  iintro %acc HI
  rw [ht]
  unfold drainInv
  icases HI with ⟨%W', HB, HO, HT⟩
  imod (collectO X TF c g) $$ HB with ⟨H1, H2, H3⟩
  iapply Hk
  isplitl [H1]; · iexact H1
  isplitl [H2]; · iexact H2
  isplitl [H3]; · iexact H3
  isplitl [HO]; · iexists _; iexact HO
  iexact HT

end Cert.Kernel.Hand
-- ==== Proof.Step13.lean ====
/-
  One step of the kernel: the pages' transfers, the work on the group in hand, and the results' transfers.
-/
module

public import proofs.«01_k».proof.Proof.Turn
public import proofs.«01_k».proof.Proof.Quad
public import proofs.«01_k».proof.Proof.Out

@[expose] public section

noncomputable section

namespace Cert.Kernel.Hand

open Cert.Kernel Cert.Kernel.Gen
open Idealize.ShloMosaic Idealize.ShloMosaic.TcCoe Idealize.ShloMosaic.Tactic Idealize.ShloMosaic.Tactic
open Idealize.ShloMosaic.ValueIdx hiding ix0 ix1 ix2 ix3 ix4
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.WordCmp

local notation "𝕄" => MT nD τ sig Unit (Elt F) ℕ (Pipeline.UD sig nD τ) ℕ

variable (X : Inp F) (c : Dev nD) (𝒱 : Variants) (bd : Option 𝒱.V)

/-! ## The conditions -/

theorem cond1_iff : ∀ i : grid0.Coords, Iff (k0_cond1 i = 1#1) ((i 0).val = 0) := by decide +kernel
theorem cond2_iff : ∀ i : grid0.Coords, Iff (k0_cond2 i = 1#1) ((i 0).val + 1 < 32) := by decide +kernel
theorem cond3_iff : ∀ i : grid0.Coords, Iff (k0_cond3 i = 1#1) (0 < (i 0).val) := by decide +kernel
theorem cond4_iff : ∀ i : grid0.Coords, Iff (k0_cond4 i = 1#1) ((i 0).val = 31) := by decide +kernel

/-! ## What is held between the steps -/

/-- The three tables, readable. -/
def Tabs (q : PosShare TreeShare) : sProp 𝕄 := iprop((lT1 c ↦{q} X.T1) ∗ (lT2 c ↦{q} X.T2) ∗ (lT3 c ↦{q} X.T3))

/-- The pages when group `p` is the next one: it is on the way into its slot; past the last group everything is back. -/
def Ahead (p : ℕ) : sProp 𝕄 :=
  if p < 32 then iprop(Pages X c 0 (128 * p) ∗ Pages X c (128 * (p + 1)) 4096 ∗ BatchG X c p 256 0)
  else iprop(Pages X c 0 4096 ∗ SlotFree c (p % 2))

theorem sep4 (A B C D : sProp 𝕄) : iprop((A ∗ B) ∗ C ∗ D) ⊢ iprop((A ∗ C) ∗ B ∗ D) := by
  iintro ⟨⟨H1, H2⟩, H3, H4⟩
  isplitl [H1 H3]
  · isplitl [H1]; · iexact H1
    iexact H3
  · isplitl [H2]; · iexact H2
    iexact H4

theorem pages_split (a b d : ℕ) (h : a ≤ b) (h' : b ≤ d) : Pages X c a d = iprop(Pages X c a b ∗ Pages X c b d) := by
  unfold Pages
  rw [sep_split h h', sep_split h h']
  exact BI.Entails.antisymm (sep4 _ _ _ _) (sep4 _ _ _ _)
theorem pages_cut (a b d : ℕ) (h : a ≤ b) (h' : b ≤ d) : Pages X c a d ⊢ iprop(Pages X c a b ∗ Pages X c b d) := by
  rw [pages_split X c a b d h h']
theorem pages_join (a b d : ℕ) (h : a ≤ b) (h' : b ≤ d) : iprop(Pages X c a b ∗ Pages X c b d) ⊢ Pages X c a d := by
  rw [pages_split X c a b d h h']
theorem ahead_on (p : ℕ) (h : p < 32) : iprop(Pages X c 0 (128 * p) ∗ Pages X c (128 * (p + 1)) 4096 ∗ BatchG X c p 256 0) ⊢ Ahead X c p := by
  unfold Ahead; rw [if_pos h]
theorem ahead_end (p : ℕ) (h : ¬ p < 32) : iprop(Pages X c 0 4096 ∗ SlotFree c (p % 2)) ⊢ Ahead X c p := by
  unfold Ahead; rw [if_neg h]

theorem pages_none (a : ℕ) : Pages X c a a = (iprop(emp ∗ emp) : sProp 𝕄) := by
  unfold Pages; rw [sep_empty le_rfl, sep_empty le_rfl]; rfl

theorem outs_split (f : S4096x1x3840.Idx → Elt F .f32) (a b d : ℕ) (h : a ≤ b) (h' : b ≤ d) : Outs X c f a d = iprop(Outs X c f a b ∗ Outs X c f b d) := by
  unfold Outs; exact sep_split h h' _
theorem outs_none (f : S4096x1x3840.Idx → Elt F .f32) (a : ℕ) : Outs X c f a a = (BI.emp : sProp 𝕄) := by
  unfold Outs; exact sep_empty le_rfl _

abbrev Owed : sProp 𝕄 := iprop(∃ W, owes (c : Thread nD τ) (0 : CellTallies nD τ sig Unit) W)

/-! ## The pages' transfers -/

theorem write_outt {h} (v f : S128x1x3840.Idx → Elt F .f32) (x : S128x1x3840.Idx) :
    ((Memref.whole cc0_scratch5).access (Rect.unit (s := S128x1x3840) ![0, 0, 0] S128x1x3840.size h)).write (Elt F) f v Finset.univ x = v x := by
  have e : ((Memref.whole cc0_scratch5).access (Rect.unit (s := S128x1x3840) ![0, 0, 0] S128x1x3840.size h)).emb x = x := by
    funext d; apply Fin.ext; fin_cases d
    · show 0 + 1 * (x 0).val = (x 0).val; omega
    · show 0 + 1 * (x 1).val = (x 1).val; omega
    · show 0 + 1 * (x 2).val = (x 2).val; omega
  have hw := View.write_emb_of_mem (v := (Memref.whole cc0_scratch5).access (Rect.unit (s := S128x1x3840) ![0, 0, 0] S128x1x3840.size h)) (Val := Elt F) f v (M := Finset.univ)
    (x := x) (Finset.mem_univ _)
  rw [e] at hw
  exact hw

set_option maxHeartbeats 2000000 in
theorem part13_first (i : grid0.Coords) (M4 : Memref sig .tc .vmem S1x1x128 .i32) (h4 : M4.IsWhole) (M5 : Memref sig .tc .vmem S3840x128 .fp8e4m3) (h5 : M5.IsWhole) (hi : (i 0).val = 0) (q : PosShare TreeShare) (W : Waits sig Unit) {α : Type}
    {kk : (Σ' (arg0 : BitVec 32), BitVec 32) → Prog (TpuEff nD τ sig (Elt F) Λ₀ .tc) α} {Q : α → sProp 𝕄} (f : S128x1x3840.Idx → Elt F .f32) :
    iprop(Pages X c 0 4096 ∗ SlotFree c ((i 0).val % 2) ∗ SlotFree c (((i 0).val + 1) % 2) ∗ (lOutt c ↦{fullShare} f) ∗ owes (c : Thread nD τ) (0 : CellTallies nD τ sig Unit) W ∗ (lT1 c ↦{q} X.T1))
      ⊢ iprop((∀ p, iprop(SlotHolds X c (i 0).val ∗ Ahead X c ((i 0).val + 1) ∗ (lOutt c ↦{fullShare} (k0_pay73 (F := F))) ∗ Owed c ∗ (lT1 c ↦{q} X.T1)) -∗ WP c 𝒱 bd (kk p) Q)
        -∗ WP c 𝒱 bd (k0_part13 i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 >>= kk) Q) := by
  have hlt : (i 0).val + 1 < 32 := by omega
  rw [k0_part13_eq_skeleton]
  unfold k0_part13_skel
  rw [dif_pos ((cond1_iff i).2 hi), dif_pos ((cond2_iff i).2 hlt)]
  simp only [bind_assoc, pure_bind]
  rw [pages_split X c 0 (128 * (i 0).val) 4096 (by omega) (by omega), show Pages X c (128 * (i 0).val) 4096 = iprop(Pages X c (128 * (i 0).val) (128 * (i 0).val + 128) ∗ Pages X c (128 * ((i 0).val + 1)) 4096) from pages_split X c _ _ _ (by omega) (by omega)]
  iintro ⟨⟨HP1, HP, HP2⟩, HF0, HF, Ho, HO, HT⟩ Hk
  iapply (fetch1 X c 𝒱 bd i M4 h4 M5 h5 ((cond1_iff i).2 hi) (i 0).val (by omega) hi q) $$ [HF0 HP HT]
  · isplitl [HF0]; · iexact HF0
    isplitl [HP]; · iexact HP
    iexact HT
  iintro ⟨HB, HT⟩
  iapply (wpb_loadW c 𝒱 bd (m := Memref.whole cc0_scratch5) _ rfl) $$ Ho
  iintro Ho
  iapply (wpb_storeW c 𝒱 bd (m := Memref.whole cc0_scratch5) (k0_pay73 (F := F)) (by exact fun x => write_outt _ _ x)) $$ Ho
  iintro Ho

  iapply (wpb_waitB X c 𝒱 bd (i 0).val (slotS_sem _ (Nat.mod_lt _ (by omega)) (off6_eq i)) W) $$ [HB HO]
  · isplitl [HB]; · iexact HB
    iexact HO
  iintro ⟨HB, HO⟩
  iapply (wpb_waitS X c 𝒱 bd (i 0).val (slotS_sem _ (Nat.mod_lt _ (by omega)) (off6_eq i)) _) $$ [HB HO]
  · isplitl [HB]; · iexact HB
    iexact HO
  iintro ⟨HB, HO⟩
  imod (collect X c (i 0).val) $$ HB with ⟨HSH, HP⟩

  ihave HP2 := (pages_cut X c (128 * ((i 0).val + 1)) (128 * ((i 0).val + 1) + 128) 4096 (by omega) (by omega)) $$ HP2
  icases HP2 with ⟨HPn, HP2⟩
  iapply (fetch2 X c 𝒱 bd i M4 h4 M5 h5 ((cond2_iff i).2 hlt) ((i 0).val + 1) hlt rfl q) $$ [HF HPn HT]
  · isplitl [HF]; · iexact HF
    isplitl [HPn]; · iexact HPn
    iexact HT
  iintro ⟨HB, HT⟩
  iapply Hk
  isplitl [HSH]; · iexact HSH
  isplitl [HP1 HP HP2 HB]
  · iapply (ahead_on X c ((i 0).val + 1) hlt)
    isplitl [HP1 HP]
    · iapply (pages_join X c 0 (128 * (i 0).val) (128 * ((i 0).val + 1)) (by omega) (by omega))
      isplitl [HP1]; · iexact HP1
      iexact HP
    isplitl [HP2]; · iexact HP2
    iexact HB

  isplitl [Ho]; · iexact Ho
  isplitl [HO]; · iexists _; iexact HO
  iexact HT

set_option maxHeartbeats 2000000 in
theorem part13_rest (i : grid0.Coords) (M4 : Memref sig .tc .vmem S1x1x128 .i32) (h4 : M4.IsWhole) (M5 : Memref sig .tc .vmem S3840x128 .fp8e4m3) (h5 : M5.IsWhole) (hi : 0 < (i 0).val) (q : PosShare TreeShare) (W : Waits sig Unit) {α : Type}
    {kk : (Σ' (arg0 : BitVec 32), BitVec 32) → Prog (TpuEff nD τ sig (Elt F) Λ₀ .tc) α} {Q : α → sProp 𝕄} :
    iprop(Ahead X c (i 0).val ∗ SlotFree c (((i 0).val + 1) % 2) ∗ owes (c : Thread nD τ) (0 : CellTallies nD τ sig Unit) W ∗ (lT1 c ↦{q} X.T1))
      ⊢ iprop((∀ p, iprop(SlotHolds X c (i 0).val ∗ Ahead X c ((i 0).val + 1) ∗ Owed c ∗ (lT1 c ↦{q} X.T1)) -∗ WP c 𝒱 bd (kk p) Q)
        -∗ WP c 𝒱 bd (k0_part13 i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 >>= kk) Q) := by
  have hi' : (i 0).val < 32 := (i 0).isLt
  rw [k0_part13_eq_skeleton]
  unfold k0_part13_skel
  rw [show Ahead X c (i 0).val = iprop(Pages X c 0 (128 * (i 0).val) ∗ Pages X c (128 * ((i 0).val + 1)) 4096 ∗ BatchG X c (i 0).val 256 0) from if_pos hi']
  by_cases hlt : (i 0).val + 1 < 32
  · rw [dif_neg (fun h => absurd ((cond1_iff i).1 h) (by omega)), dif_pos ((cond2_iff i).2 hlt)]
    simp only [bind_assoc, pure_bind]
    iintro ⟨⟨HP1, HP2, HB⟩, HF, HO, HT⟩ Hk

    iapply (wpb_waitB X c 𝒱 bd (i 0).val (slotS_sem _ (Nat.mod_lt _ (by omega)) (off6_eq i)) W) $$ [HB HO]
    · isplitl [HB]; · iexact HB
      iexact HO
    iintro ⟨HB, HO⟩
    iapply (wpb_waitS X c 𝒱 bd (i 0).val (slotS_sem _ (Nat.mod_lt _ (by omega)) (off6_eq i)) _) $$ [HB HO]
    · isplitl [HB]; · iexact HB
      iexact HO
    iintro ⟨HB, HO⟩
    imod (collect X c (i 0).val) $$ HB with ⟨HSH, HP⟩

    ihave HP2 := (pages_cut X c (128 * ((i 0).val + 1)) (128 * ((i 0).val + 1) + 128) 4096 (by omega) (by omega)) $$ HP2
    icases HP2 with ⟨HPn, HP2⟩
    iapply (fetch2 X c 𝒱 bd i M4 h4 M5 h5 ((cond2_iff i).2 hlt) ((i 0).val + 1) hlt rfl q) $$ [HF HPn HT]
    · isplitl [HF]; · iexact HF
      isplitl [HPn]; · iexact HPn
      iexact HT
    iintro ⟨HB, HT⟩
    iapply Hk
    isplitl [HSH]; · iexact HSH
    isplitl [HP1 HP HP2 HB]
    · iapply (ahead_on X c ((i 0).val + 1) hlt)
      isplitl [HP1 HP]
      · iapply (pages_join X c 0 (128 * (i 0).val) (128 * ((i 0).val + 1)) (by omega) (by omega))
        isplitl [HP1]; · iexact HP1
        iexact HP
      isplitl [HP2]; · iexact HP2
      iexact HB

    isplitl [HO]; · iexists _; iexact HO
    iexact HT
  · rw [dif_neg (fun h => absurd ((cond1_iff i).1 h) (by omega)), dif_neg (fun h => hlt ((cond2_iff i).1 h))]
    simp only [bind_assoc, pure_bind]
    iintro ⟨⟨HP1, HP2, HB⟩, HF, HO, HT⟩ Hk

    iapply (wpb_waitB X c 𝒱 bd (i 0).val (slotS_sem _ (Nat.mod_lt _ (by omega)) (off6_eq i)) W) $$ [HB HO]
    · isplitl [HB]; · iexact HB
      iexact HO
    iintro ⟨HB, HO⟩
    iapply (wpb_waitS X c 𝒱 bd (i 0).val (slotS_sem _ (Nat.mod_lt _ (by omega)) (off6_eq i)) _) $$ [HB HO]
    · isplitl [HB]; · iexact HB
      iexact HO
    iintro ⟨HB, HO⟩
    imod (collect X c (i 0).val) $$ HB with ⟨HSH, HP⟩

    iapply Hk
    isplitl [HSH]; · iexact HSH
    isplitl [HP1 HP HP2 HF]
    · iapply (ahead_end X c ((i 0).val + 1) hlt)
      isplitl [HP1 HP HP2]
      · iapply (pages_join X c 0 (128 * (i 0).val) 4096 (by omega) (by omega))
        isplitl [HP1]; · iexact HP1
        iapply (pages_join X c (128 * (i 0).val) (128 * ((i 0).val + 1)) 4096 (by omega) (by omega))
        isplitl [HP]; · iexact HP
        iexact HP2
      iexact HF
    isplitl [HO]; · iexists _; iexact HO
    iexact HT

end Cert.Kernel.Hand
-- ==== Proof.Step.lean ====
/-
  One step of the kernel as a whole.
-/
module

public import proofs.«01_k».proof.Proof.Step13

@[expose] public section

noncomputable section

namespace Cert.Kernel.Hand

open Cert.Kernel Cert.Kernel.Gen
open Idealize.ShloMosaic Idealize.ShloMosaic.TcCoe Idealize.ShloMosaic.Tactic Idealize.ShloMosaic.Tactic
open Idealize.ShloMosaic.ValueIdx hiding ix0 ix1 ix2 ix3 ix4
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.WordCmp

local notation "𝕄" => MT nD τ sig Unit (Elt F) ℕ (Pipeline.UD sig nD τ) ℕ

variable (X : Inp F) (c : Dev nD) (𝒱 : Variants) (bd : Option 𝒱.V)

/-! ## The step in three parts -/

/-- The work on the group in hand. -/
def midProg (i : grid0.Coords) (M4 : Memref sig .tc .vmem S1x1x128 .i32) (h4 : M4.IsWhole) (M5 : Memref sig .tc .vmem S3840x128 .fp8e4m3) (h5 : M5.IsWhole) (arg0 v9 : BitVec 32) : Prog (TpuEff nD τ sig (Elt F) Λ₀ .tc) (BitVec 32) := do
  let ⟨v36, k0_hw3, v46, k0_hw4, v48, v56, c0_i32_35, c0_i32_36, v63⟩ : Σ' (v36 : Elt F .i32) (k0_hw3 : k0_chk3 i v36) (v46 : Elt F .i32) (k0_hw4 : k0_chk4 v36 v46) (v48 : BitVec 32) (v56 : IVec S8x128 32) (c0_i32_35 : BitVec 32) (c0_i32_36 : BitVec 32), BitVec 32 ← k0_part14 i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 arg0 v9
  let v64 : BitVec 32 ← Scf.Loop.for (k0_t7_loop v36) (k0_t7_ok i v36 k0_hw3) c0_i32_36 (k0_t7_body i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v36 k0_hw3 v46 k0_hw4 v56 c0_i32_35)
  Scf.Loop.for (k0_t10_loop v36) (k0_t10_ok i v36 k0_hw3) v64 (k0_t10_body i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v36 k0_hw3 v46 k0_hw4 v56 v63)

/-- The way back and the results' transfers. -/
def coreProg (i : grid0.Coords) (M4 : Memref sig .tc .vmem S1x1x128 .i32) (h4 : M4.IsWhole) (M5 : Memref sig .tc .vmem S3840x128 .fp8e4m3) (h5 : M5.IsWhole) : Prog (TpuEff nD τ sig (Elt F) Λ₀ .tc) PUnit := do
  let v69 : Elt F .i32 ← smemLoad (Memref.whole main_arg0) (Rect.unit (s := S1) ![0] S1.size inb_S1_S1_0) numel1_S1 rfl
  have k0_hw6 : k0_chk6 v69 := (← Prog.lift (TpuEff.assume (k0_chk6 v69) (k0_chk6.dec v69))).down
  let v77 : BitVec 32 ← Scf.Loop.for (k0_t14_loop v69) (k0_t14_ok v69 k0_hw6) 0#32 (k0_t14_body i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v69 k0_hw6)
  let v78 : BitVec 32 ← Scf.Loop.for (k0_t15_loop v69) (k0_t15_ok v69 k0_hw6) v77 (k0_t15_body i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v69 k0_hw6)
  Scf.Loop.for k0_t16_loop k0_t16_ok ⟨⟩ (k0_t16_body i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7)
  if k0_h4 : k0_cond4 i = 1#1 then do
    Scf.Loop.for k0_t17_loop (k0_t17_ok i k0_h4) ⟨⟩ (k0_t17_body i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 k0_h4)
    pure ⟨⟩
  else do
    pure ⟨⟩
  pure ⟨⟩

def tailProg (i : grid0.Coords) (M4 : Memref sig .tc .vmem S1x1x128 .i32) (h4 : M4.IsWhole) (M5 : Memref sig .tc .vmem S3840x128 .fp8e4m3) (h5 : M5.IsWhole) : Prog (TpuEff nD τ sig (Elt F) Λ₀ .tc) PUnit := do
  if k0_h3 : k0_cond3 i = 1#1 then do
    Scf.Loop.for k0_t13_loop (k0_t13_ok i k0_h3) ⟨⟩ (k0_t13_body i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 k0_h3)
    pure ⟨⟩
  else do
    pure ⟨⟩
  coreProg i M4 h4 M5 h5

theorem match_eq (i : grid0.Coords) (M4 : Memref sig .tc .vmem S1x1x128 .i32) (h4 : M4.IsWhole) (M5 : Memref sig .tc .vmem S3840x128 .fp8e4m3) (h5 : M5.IsWhole) :
    cc0_match (F := F) i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 = (k0_part13 i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 >>= fun p => midProg i M4 h4 M5 h5 p.1 p.2 >>= fun _ => tailProg i M4 h4 M5 h5) := by
  rw [cc0_match_eq_skeleton]
  unfold cc0_match_skel midProg tailProg coreProg
  simp only [bind_assoc]

/-! ## The work on the group -/

theorem isInt_of (n : ℕ) (h : n < 2 ^ 31) : Affine.IsInt (BitVec.ofNat 32 n) (n : ℤ) := Affine.ofNat _ (by omega)

theorem table2 {o h} {h1 : (Rect.unit (s := S4096) o S1.size h).shape.numel = 1} (n : ℕ) (hn : n < 4096) (ho : o = ![n]) :
    (((Memref.whole main_v7).access (Rect.unit (s := S4096) o S1.size h)).read (Elt F) X.T2 (Shape.Idx.first (h1.symm ▸ Nat.one_pos)) : Elt F .i32) = BitVec.ofNat 32 (X.ln n) := by
  subst ho
  have e : (Rect.unit (s := S4096) ![n] S1.size h).emb (Shape.Idx.first (h1.symm ▸ Nat.one_pos)) = ValueIdx.ix1 (⟨n, hn⟩ : Fin 4096) := by
    funext d; apply Fin.ext; fin_cases d
    have hlt : (Shape.Idx.first (s := (Rect.unit (s := S4096) ![n] S1.size h).shape) (h1.symm ▸ Nat.one_pos) 0).val < 1 := (Shape.Idx.first (s := (Rect.unit (s := S4096) ![n] S1.size h).shape) (h1.symm ▸ Nat.one_pos) 0).isLt
    show n + 1 * (Shape.Idx.first (s := (Rect.unit (s := S4096) ![n] S1.size h).shape) (h1.symm ▸ Nat.one_pos) 0).val = n
    omega
  have e2 : X.ln n = X.len ⟨n, hn⟩ := by unfold Inp.ln; rw [dif_pos hn]
  rw [e2, ← X.hT2]
  exact congrArg X.T2 e

theorem table3 {h} {h1 : (Rect.unit (s := S1) ![0] S1.size h).shape.numel = 1} :
    (((Memref.whole main_arg0).access (Rect.unit (s := S1) ![0] S1.size h)).read (Elt F) X.T3 (Shape.Idx.first (h1.symm ▸ Nat.one_pos)) : Elt F .i32) = BitVec.ofNat 32 X.nv := by
  have e : (Rect.unit (s := S1) ![0] S1.size h).emb (Shape.Idx.first (h1.symm ▸ Nat.one_pos)) = ValueIdx.ix1 (0 : Fin 1) := by
    funext d; apply Fin.ext; fin_cases d
    have hlt : (Shape.Idx.first (s := (Rect.unit (s := S1) ![0] S1.size h).shape) (h1.symm ▸ Nat.one_pos) 0).val < 1 := (Shape.Idx.first (s := (Rect.unit (s := S1) ![0] S1.size h).shape) (h1.symm ▸ Nat.one_pos) 0).isLt
    show 0 + 1 * (Shape.Idx.first (s := (Rect.unit (s := S1) ![0] S1.size h).shape) (h1.symm ▸ Nat.one_pos) 0).val = 0
    omega
  rw [← X.hT3]
  exact congrArg X.T3 e

theorem len_read (M4 : Memref sig .tc .vmem S1x1x128 .i32) (f4 : Buf (Elt F) (M4.view.loc (c : Thread nD τ))) (b : Fin 128) {h} :
    (M4.access (Rect.unit (s := S1x1x128) ![0, 0, 0] S1x1x128.size h)).read (Elt F) f4 (ix3 (0 : Fin 1) (0 : Fin 1) b) = M4.view.read (Elt F) f4 (ix3 (0 : Fin 1) (0 : Fin 1) b) := by
  have e : (Rect.unit (s := S1x1x128) ![0, 0, 0] S1x1x128.size h).emb (ix3 (0 : Fin 1) (0 : Fin 1) b) = ix3 (0 : Fin 1) (0 : Fin 1) b := by
    funext d; apply Fin.ext; fin_cases d
    · rfl
    · rfl
    · show 0 + 1 * b.val = b.val; omega
  exact congrArg (M4.view.read (Elt F) f4) e

/-- The number of blocks of 256 query rows. -/
def nblk (X : Inp F) : ℕ := (X.nv + 255) / 256

set_option maxHeartbeats 4000000 in
theorem mid (i : grid0.Coords) (M4 : Memref sig .tc .vmem S1x1x128 .i32) (h4 : M4.IsWhole) (M5 : Memref sig .tc .vmem S3840x128 .fp8e4m3) (h5 : M5.IsWhole) (arg0 v9 : BitVec 32) (q : PosShare TreeShare) (q4 q5 : PosShare TreeShare)
    (f4 : Buf (Elt F) (M4.view.loc (c : Thread nD τ))) (f5 : Buf (Elt F) (M5.view.loc (c : Thread nD τ)))
    (hM4 : ∀ b : Fin 128, M4.view.read (Elt F) f4 (ix3 (0 : Fin 1) (0 : Fin 1) b) = BitVec.ofNat 32 (X.ln (128 * (i 0).val + b.val))) (hM5 : M5.view.read (Elt F) f5 = X.Q)
    {α : Type} {kk : BitVec 32 → Prog (TpuEff nD τ sig (Elt F) Λ₀ .tc) α} {Q : α → sProp 𝕄}
    (fb : S4x1024x128.Idx → Elt F .i32) (fs : S1024x128.Idx → Elt F .f32) (fa : S3840x128.Idx → Elt F .f32) :
    iprop(SlotHolds X c (i 0).val ∗ (lTb c ↦{fullShare} fb) ∗ (lTs c ↦{fullShare} fs) ∗ (lAcc c ↦{fullShare} fa)
        ∗ (M4.view.loc (c : Thread nD τ) ↦{q4} f4) ∗ (M5.view.loc (c : Thread nD τ) ↦{q5} f5) ∗ Tabs X c q)
      ⊢ iprop((∀ z, iprop(SlotFree c ((i 0).val % 2) ∗ (∃ fb, lTb c ↦{fullShare} fb) ∗ (∃ fs, lTs c ↦{fullShare} fs)
            ∗ (∃ fa, ⌜AccAt X (i 0).val (nblk X) (quads X (i 0).val) fa⌝ ∗ (lAcc c ↦{fullShare} fa))
            ∗ (M4.view.loc (c : Thread nD τ) ↦{q4} f4) ∗ (M5.view.loc (c : Thread nD τ) ↦{q5} f5) ∗ Tabs X c q) -∗ WP c 𝒱 bd (kk z) Q)
        -∗ WP c 𝒱 bd (midProg i M4 h4 M5 h5 arg0 v9 >>= kk) Q) := by
  have hi : (i 0).val < 32 := (i 0).isLt
  have hLl := X.ln_le (128 * (i 0).val + 127)
  have hL : Affine.IsInt (BitVec.ofNat 32 (X.ln (128 * (i 0).val + 127))) ((X.ln (128 * (i 0).val + 127) : ℕ) : ℤ) := isInt_of _ (by omega)
  have hN : Affine.IsInt (BitVec.ofNat 32 X.nv) ((X.nv : ℕ) : ℤ) := isInt_of _ (by have := X.hnv; omega)
  have hnv := X.hnv
  have hT2 := fun h h1 => table2 X (o := k0_off16 i) (h := h) (h1 := h1) (128 * (i 0).val + 127) (by omega) (k0_off16_eq i)
  have hT3 := fun h h1 => table3 X (h := h) (h1 := h1)
  have h3 := chk3_of i hL hLl
  have h4' := chk4_of (BitVec.ofNat 32 (X.ln (128 * (i 0).val + 127))) hN hnv
  have T3 := t3_trips hL hLl
  have T7 := t7_trips hL hLl
  have T5 := t5_trips hN hnv
  have T8 := t8_trips hN hnv
  unfold midProg
  rw [k0_part14_eq_skeleton]
  unfold k0_part14_skel Tabs SlotHolds
  simp only [bind_assoc, pure_bind]
  iintro ⟨⟨Hr, Hc, Hv⟩, Htb, Hts, Ha, H4, H5, HT1, HT2, HT3⟩ Hk
  iapply (wpb_loadW c 𝒱 bd (m := M4) _ rfl) $$ H4
  iintro H4
  iapply (wpb_smem c 𝒱 bd (m := Memref.whole main_v7) (BitVec.ofNat 32 (X.ln (128 * (i 0).val + 127))) (hT2 (k0_off16_inb i) numel1_S1)) $$ HT2
  iintro HT2
  iapply (wpb_assume c 𝒱 bd h3)
  iapply (turn X c 𝒱 bd i M4 h4 M5 h5 arg0 v9 _ _ h3 (i 0).val rfl (fun b => (len_read c M4 f4 b).trans (hM4 b)) (by rw [T3]; omega) fb fs) $$ [Hr Hc Htb Hts]
  · isplitl [Hr]; · iexact Hr
    isplitl [Hc]; · iexact Hc
    isplitl [Htb]; · iexact Htb
    iexact Hts
  iintro %acc3 HI
  unfold turnInv
  icases HI with ⟨Hr, Hc, ⟨%fb', %hfb, Htb⟩, ⟨%fs', %hfs, Hts⟩⟩
  iapply (wpb_for_none c 𝒱 bd (t4_trips _))
  iapply (wpb_smem c 𝒱 bd (m := Memref.whole main_arg0) (BitVec.ofNat 32 X.nv) (hT3 inb_S1_S1_0 numel1_S1)) $$ HT3
  iintro HT3
  iapply (wpb_assume c 𝒱 bd h4')
  iapply (clear X c 𝒱 bd i M4 h4 M5 h5 arg0 v9 _ _ h4' (i 0).val (by rw [T5]; omega) fa) $$ Ha
  iintro %acc5 HI
  unfold clrInv
  icases HI with ⟨%fa', %hfa, Ha⟩
  iapply (wpb_for_none c 𝒱 bd (t6_trips _))
  iapply (quadLoop X c 𝒱 bd i M4 h4 M5 h5 _ _ h3 h4' (i 0).val _ (nblk X) f5 q5 hM5 fb' fs' hfb.1 hfb.2.1 hfb.2.2.1 hfb.2.2.2 hfs T8 (by unfold nblk; omega)
    (by rw [T3]; omega) (by rw [T7]; omega) (by rw [T3, T7]; omega) fa' (by rw [T5] at hfa; exact hfa)) $$ [Ha H5 Htb Hts]
  · isplitl [Ha]; · iexact Ha
    isplitl [H5]; · iexact H5
    isplitl [Htb]; · iexact Htb
    iexact Hts
  iintro %acc7 HI
  unfold quadInv
  icases HI with ⟨%fa'', %hfa', Ha, H5, Htb, Hts⟩
  iapply (wpb_for_none c 𝒱 bd (t10_trips _))
  iapply Hk
  unfold SlotFree
  isplitl [Hr Hc Hv]
  · isplitl [Hr]; · iexists _; iexact Hr
    isplitl [Hc]; · iexists _; iexact Hc
    iexact Hv
  isplitl [Htb]; · iexists _; iexact Htb
  isplitl [Hts]; · iexists _; iexact Hts
  isplitl [Ha]
  · iexists fa''; isplitr
    · ipureintro; rw [T7] at hfa'; exact hfa'
    iexact Ha
  isplitl [H4]; · iexact H4
  isplitl [H5]; · iexact H5
  isplitl [HT1]; · iexact HT1
  isplitl [HT2]; · iexact HT2
  iexact HT3

/-! ## The results -/

/-- The results before step `p`: the tile of the step before is on its way out; before the first step nothing is, and after the
    last everything has arrived. -/
def OutW (f0 : S4096x1x3840.Idx → Elt F .f32) (p : ℕ) : sProp 𝕄 :=
  if p = 0 then iprop((∃ f, lOutt c ↦{fullShare} f) ∗ semVal ((c : Thread nD τ), SemLoc.dma outSem) 0 ∗ Outs X c f0 0 4096)
  else if p < 32 then iprop(BatchO X (TF X) c (p - 1) 128 0 ∗ Outs X c (outFin X (TF X)) 0 (128 * (p - 1)) ∗ Outs X c f0 (128 * p) 4096)
  else iprop((∃ f, lOutt c ↦{fullShare} f) ∗ semVal ((c : Thread nD τ), SemLoc.dma outSem) 0 ∗ Outs X c (outFin X (TF X)) 0 4096)

theorem outs_cut (f : S4096x1x3840.Idx → Elt F .f32) (a b d : ℕ) (h : a ≤ b) (h' : b ≤ d) : Outs X c f a d ⊢ iprop(Outs X c f a b ∗ Outs X c f b d) := by
  rw [outs_split X c f a b d h h']
theorem outs_join (f : S4096x1x3840.Idx → Elt F .f32) (a b d : ℕ) (h : a ≤ b) (h' : b ≤ d) : iprop(Outs X c f a b ∗ Outs X c f b d) ⊢ Outs X c f a d := by
  rw [outs_split X c f a b d h h']

theorem outW_on (f0 : S4096x1x3840.Idx → Elt F .f32) (p : ℕ) (h : p + 1 < 32) :
    iprop(BatchO X (TF X) c p 128 0 ∗ Outs X c (outFin X (TF X)) 0 (128 * p) ∗ Outs X c f0 (128 * p + 128) 4096) ⊢ OutW X c f0 (p + 1) := by
  unfold OutW; rw [if_neg (by omega), if_pos h, show p + 1 - 1 = p by omega, show 128 * (p + 1) = 128 * p + 128 by omega]
theorem outW_end (f0 : S4096x1x3840.Idx → Elt F .f32) (p : ℕ) (h : p + 1 = 32) :
    iprop((∃ f, lOutt c ↦{fullShare} f) ∗ semVal ((c : Thread nD τ), SemLoc.dma outSem) 0 ∗ Outs X c (outFin X (TF X)) 0 4096) ⊢ OutW X c f0 (p + 1) := by
  unfold OutW; rw [if_neg (by omega), if_neg (by omega)]

set_option maxHeartbeats 4000000 in
theorem core (i : grid0.Coords) (M4 : Memref sig .tc .vmem S1x1x128 .i32) (h4 : M4.IsWhole) (M5 : Memref sig .tc .vmem S3840x128 .fp8e4m3) (h5 : M5.IsWhole) (q : PosShare TreeShare) (W : Waits sig Unit) (f0 : S4096x1x3840.Idx → Elt F .f32)
    (fa : S3840x128.Idx → Elt F .f32) (ha : AccAt X (i 0).val (nblk X) (quads X (i 0).val) fa)
    (f : S128x1x3840.Idx → Elt F .f32) (hf : Back X (i 0).val (quads X (i 0).val) ((X.nv + 127) / 128) 0 f) {Q : PUnit → sProp 𝕄} :
    iprop((lOutt c ↦{fullShare} f) ∗ semVal ((c : Thread nD τ), SemLoc.dma outSem) 0 ∗ Outs X c (outFin X (TF X)) 0 (128 * (i 0).val) ∗ Outs X c f0 (128 * (i 0).val) 4096
        ∗ (lAcc c ↦{fullShare} fa) ∗ owes (c : Thread nD τ) (0 : CellTallies nD τ sig Unit) W ∗ (lT1 c ↦{q} X.T1) ∗ (lT3 c ↦{q} X.T3))
      ⊢ iprop((iprop(OutW X c f0 ((i 0).val + 1) ∗ (∃ fa, lAcc c ↦{fullShare} fa) ∗ Owed c ∗ (lT1 c ↦{q} X.T1) ∗ (lT3 c ↦{q} X.T3)) -∗ Q ⟨⟩)
        -∗ WP c 𝒱 bd (coreProg i M4 h4 M5 h5) Q) := by
  have hi : (i 0).val < 32 := (i 0).isLt
  have hN : Affine.IsInt (BitVec.ofNat 32 X.nv) ((X.nv : ℕ) : ℤ) := isInt_of _ (by have := X.hnv; omega)
  have hnv := X.hnv
  have hT3 := fun h h1 => table3 X (h := h) (h1 := h1)
  have h6 := chk6_of hN hnv
  have T14 := t14_trips hN hnv
  unfold coreProg
  by_cases h31 : (i 0).val = 31
  · rw [dif_pos ((cond4_iff i).2 h31)]
    simp only [bind_assoc, pure_bind]
    iintro ⟨Ho, Hv, Hd, Hr, Ha, HO, HT1, HT3⟩ Hk
    ihave Hr := (outs_cut X c f0 (128 * (i 0).val) (128 * (i 0).val + 128) 4096 (by omega) (by omega)) $$ Hr
    icases Hr with ⟨Hn, Hr⟩
    iapply (wpb_smem c 𝒱 bd (m := Memref.whole main_arg0) (BitVec.ofNat 32 X.nv) (hT3 inb_S1_S1_0 numel1_S1)) $$ HT3
    iintro HT3
    iapply (wpb_assume c 𝒱 bd h6)
    iapply (back X c 𝒱 bd i M4 h4 M5 h5 _ h6 (i 0).val (nblk X) (quads X (i 0).val) ((X.nv + 127) / 128) (by unfold nblk; omega) (by omega) fa ha T14 f hf) $$ [Ho Ha]
    · isplitl [Ho]; · iexact Ho
      iexact Ha
    iintro %acc14 HI
    unfold backInv
    icases HI with ⟨%fo, %hfo, Ho, Ha⟩
    obtain rfl := back_last X (i 0).val fo hfo
    iapply (wpb_for_none c 𝒱 bd (t15_trips _))
    iapply (send X (TF X) c 𝒱 bd i M4 h4 M5 h5 (i 0).val rfl q f0) $$ [Ho Hv Hn HT1]
    · isplitl [Ho]; · iexact Ho
      isplitl [Hv]; · iexact Hv
      isplitl [Hn]; · iexact Hn
      iexact HT1
    iintro ⟨HB, HT1⟩
    iapply (drain17 X (TF X) c 𝒱 bd i M4 h4 M5 h5 ((cond4_iff i).2 h31) (i 0).val q W) $$ [HB HO HT1]
    · isplitl [HB]; · iexact HB
      isplitl [HO]; · iexact HO
      iexact HT1
    iintro ⟨Hn, Ho, Hv, HO, HT1⟩
    iapply (wpb_ret c 𝒱 bd)
    iapply Hk
    isplitl [Ho Hv Hd Hn]
    · iapply (outW_end X c f0 (i 0).val (by omega))
      isplitl [Ho]; · iexists _; iexact Ho
      isplitl [Hv]; · iexact Hv
      rw [show 4096 = 128 * (i 0).val + 128 by omega]
      iapply (outs_join X c (outFin X (TF X)) 0 (128 * (i 0).val) (128 * (i 0).val + 128) (by omega) (by omega))
      isplitl [Hd]; · iexact Hd
      iexact Hn
    isplitl [Ha]; · iexists _; iexact Ha
    isplitl [HO]; · iexact HO
    isplitl [HT1]; · iexact HT1
    iexact HT3
  · rw [dif_neg (fun h => h31 ((cond4_iff i).1 h))]
    simp only [bind_assoc, pure_bind]
    iintro ⟨Ho, Hv, Hd, Hr, Ha, HO, HT1, HT3⟩ Hk
    ihave Hr := (outs_cut X c f0 (128 * (i 0).val) (128 * (i 0).val + 128) 4096 (by omega) (by omega)) $$ Hr
    icases Hr with ⟨Hn, Hr⟩
    iapply (wpb_smem c 𝒱 bd (m := Memref.whole main_arg0) (BitVec.ofNat 32 X.nv) (hT3 inb_S1_S1_0 numel1_S1)) $$ HT3
    iintro HT3
    iapply (wpb_assume c 𝒱 bd h6)
    iapply (back X c 𝒱 bd i M4 h4 M5 h5 _ h6 (i 0).val (nblk X) (quads X (i 0).val) ((X.nv + 127) / 128) (by unfold nblk; omega) (by omega) fa ha T14 f hf) $$ [Ho Ha]
    · isplitl [Ho]; · iexact Ho
      iexact Ha
    iintro %acc14 HI
    unfold backInv
    icases HI with ⟨%fo, %hfo, Ho, Ha⟩
    obtain rfl := back_last X (i 0).val fo hfo
    iapply (wpb_for_none c 𝒱 bd (t15_trips _))
    iapply (send X (TF X) c 𝒱 bd i M4 h4 M5 h5 (i 0).val rfl q f0) $$ [Ho Hv Hn HT1]
    · isplitl [Ho]; · iexact Ho
      isplitl [Hv]; · iexact Hv
      isplitl [Hn]; · iexact Hn
      iexact HT1
    iintro ⟨HB, HT1⟩
    iapply (wpb_ret c 𝒱 bd)
    iapply Hk
    isplitl [HB Hd Hr]
    · iapply (outW_on X c f0 (i 0).val (by omega))
      isplitl [HB]; · iexact HB
      isplitl [Hd]; · iexact Hd
      iexact Hr
    isplitl [Ha]; · iexists _; iexact Ha
    isplitl [HO]; · iexists W; iexact HO
    isplitl [HT1]; · iexact HT1
    iexact HT3

set_option maxHeartbeats 1000000 in
theorem tail_first (i : grid0.Coords) (M4 : Memref sig .tc .vmem S1x1x128 .i32) (h4 : M4.IsWhole) (M5 : Memref sig .tc .vmem S3840x128 .fp8e4m3) (h5 : M5.IsWhole) (hi0 : (i 0).val = 0) (q : PosShare TreeShare) (W : Waits sig Unit) (f0 : S4096x1x3840.Idx → Elt F .f32)
    (fa : S3840x128.Idx → Elt F .f32) (ha : AccAt X (i 0).val (nblk X) (quads X (i 0).val) fa) {Q : PUnit → sProp 𝕄} :
    iprop((lOutt c ↦{fullShare} (k0_pay73 (F := F))) ∗ semVal ((c : Thread nD τ), SemLoc.dma outSem) 0 ∗ Outs X c f0 0 4096
        ∗ (lAcc c ↦{fullShare} fa) ∗ owes (c : Thread nD τ) (0 : CellTallies nD τ sig Unit) W ∗ (lT1 c ↦{q} X.T1) ∗ (lT3 c ↦{q} X.T3))
      ⊢ iprop((iprop(OutW X c f0 ((i 0).val + 1) ∗ (∃ fa, lAcc c ↦{fullShare} fa) ∗ Owed c ∗ (lT1 c ↦{q} X.T1) ∗ (lT3 c ↦{q} X.T3)) -∗ Q ⟨⟩)
        -∗ WP c 𝒱 bd (tailProg i M4 h4 M5 h5) Q) := by
  unfold tailProg
  rw [dif_neg (fun h => absurd ((cond3_iff i).1 h) (by omega))]
  simp only [pure_bind]
  iintro ⟨Ho, Hv, Hr, Ha, HO, HT1, HT3⟩ Hk
  iapply (core X c 𝒱 bd i M4 h4 M5 h5 q W f0 fa ha (k0_pay73 (F := F)) (back_zero X _ _ _)) $$ [Ho Hv Hr Ha HO HT1 HT3]
  · isplitl [Ho]; · iexact Ho
    isplitl [Hv]; · iexact Hv
    isplitl []
    · rw [show 128 * (i 0).val = 0 by omega, outs_none]; iempintro
    isplitl [Hr]
    · rw [show 128 * (i 0).val = 0 by omega]; iexact Hr
    isplitl [Ha]; · iexact Ha
    isplitl [HO]; · iexact HO
    isplitl [HT1]; · iexact HT1
    iexact HT3
  iexact Hk

theorem outW_get (f0 : S4096x1x3840.Idx → Elt F .f32) (p : ℕ) (h0 : 0 < p) (h : p < 32) :
    OutW X c f0 p ⊢ iprop(BatchO X (TF X) c (p - 1) 128 0 ∗ Outs X c (outFin X (TF X)) 0 (128 * (p - 1)) ∗ Outs X c f0 (128 * p) 4096) := by
  unfold OutW; rw [if_neg (by omega), if_pos h]

set_option maxHeartbeats 1000000 in
theorem tail_rest (i : grid0.Coords) (M4 : Memref sig .tc .vmem S1x1x128 .i32) (h4 : M4.IsWhole) (M5 : Memref sig .tc .vmem S3840x128 .fp8e4m3) (h5 : M5.IsWhole) (hi0 : 0 < (i 0).val) (q : PosShare TreeShare) (W : Waits sig Unit) (f0 : S4096x1x3840.Idx → Elt F .f32)
    (fa : S3840x128.Idx → Elt F .f32) (ha : AccAt X (i 0).val (nblk X) (quads X (i 0).val) fa) {Q : PUnit → sProp 𝕄} :
    iprop(OutW X c f0 (i 0).val
        ∗ (lAcc c ↦{fullShare} fa) ∗ owes (c : Thread nD τ) (0 : CellTallies nD τ sig Unit) W ∗ (lT1 c ↦{q} X.T1) ∗ (lT3 c ↦{q} X.T3))
      ⊢ iprop((iprop(OutW X c f0 ((i 0).val + 1) ∗ (∃ fa, lAcc c ↦{fullShare} fa) ∗ Owed c ∗ (lT1 c ↦{q} X.T1) ∗ (lT3 c ↦{q} X.T3)) -∗ Q ⟨⟩)
        -∗ WP c 𝒱 bd (tailProg i M4 h4 M5 h5) Q) := by
  have hi : (i 0).val < 32 := (i 0).isLt
  unfold tailProg
  rw [dif_pos ((cond3_iff i).2 hi0)]
  simp only [bind_assoc, pure_bind]
  iintro ⟨Hw, Ha, HO, HT1, HT3⟩ Hk
  ihave Hw := (outW_get X c f0 (i 0).val hi0 hi) $$ Hw
  icases Hw with ⟨HB, Hd, Hr⟩
  iapply (drain13 X (TF X) c 𝒱 bd i M4 h4 M5 h5 ((cond3_iff i).2 hi0) ((i 0).val - 1) q W) $$ [HB HO HT1]
  · isplitl [HB]; · iexact HB
    isplitl [HO]; · iexact HO
    iexact HT1
  iintro ⟨Hn, Ho, Hv, ⟨%W', HO⟩, HT1⟩
  iapply (core X c 𝒱 bd i M4 h4 M5 h5 q W' f0 fa ha (TF X ((i 0).val - 1)) (back_first X _ _ _)) $$ [Ho Hv Hr Hn Hd Ha HO HT1 HT3]
  · isplitl [Ho]; · iexact Ho
    isplitl [Hv]; · iexact Hv
    isplitl [Hd Hn]
    · iapply (outs_join X c (outFin X (TF X)) 0 (128 * ((i 0).val - 1)) (128 * (i 0).val) (by omega) (by omega))
      isplitl [Hd]; · iexact Hd
      rw [show 128 * (i 0).val = 128 * ((i 0).val - 1) + 128 by omega]
      iexact Hn
    isplitl [Hr]; · iexact Hr
    isplitl [Ha]; · iexact Ha
    isplitl [HO]; · iexact HO
    isplitl [HT1]; · iexact HT1
    iexact HT3
  iexact Hk

/-! ## The step -/

/-- The pages before step `p`. -/
def InW (p : ℕ) : sProp 𝕄 :=
  if p = 0 then iprop(Pages X c 0 4096 ∗ SlotFree c (p % 2) ∗ SlotFree c ((p + 1) % 2)) else iprop(Ahead X c p ∗ SlotFree c ((p + 1) % 2))

theorem inW_first (p : ℕ) (h : p = 0) : InW X c p ⊢ iprop(Pages X c 0 4096 ∗ SlotFree c (p % 2) ∗ SlotFree c ((p + 1) % 2)) := by
  unfold InW; rw [if_pos h]
theorem inW_get (p : ℕ) (h : 0 < p) : InW X c p ⊢ iprop(Ahead X c p ∗ SlotFree c ((p + 1) % 2)) := by
  unfold InW; rw [if_neg (by omega)]
theorem inW_next (p : ℕ) : iprop(Ahead X c (p + 1) ∗ SlotFree c (p % 2)) ⊢ InW X c (p + 1) := by
  unfold InW; rw [if_neg (by omega), show (p + 1 + 1) % 2 = p % 2 by omega]
theorem outW_first (f0 : S4096x1x3840.Idx → Elt F .f32) (p : ℕ) (h : p = 0) :
    OutW X c f0 p ⊢ iprop((∃ f, lOutt c ↦{fullShare} f) ∗ semVal ((c : Thread nD τ), SemLoc.dma outSem) 0 ∗ Outs X c f0 0 4096) := by
  unfold OutW; rw [if_pos h]

/-- What the kernel holds before step `p`. -/
def StepInv (q : PosShare TreeShare) (f0 : S4096x1x3840.Idx → Elt F .f32) (p : ℕ) : sProp 𝕄 :=
  iprop(InW X c p ∗ OutW X c f0 p ∗ (∃ fb, lTb c ↦{fullShare} fb) ∗ (∃ fs, lTs c ↦{fullShare} fs) ∗ (∃ fa, lAcc c ↦{fullShare} fa) ∗ Tabs X c q)

set_option maxHeartbeats 2000000 in
theorem step (i : grid0.Coords) (M4 : Memref sig .tc .vmem S1x1x128 .i32) (h4 : M4.IsWhole) (M5 : Memref sig .tc .vmem S3840x128 .fp8e4m3) (h5 : M5.IsWhole) (q q4 q5 : PosShare TreeShare) (f0 : S4096x1x3840.Idx → Elt F .f32)
    (f4 : Buf (Elt F) (M4.view.loc (c : Thread nD τ))) (f5 : Buf (Elt F) (M5.view.loc (c : Thread nD τ)))
    (hM4 : ∀ b : Fin 128, M4.view.read (Elt F) f4 (ix3 (0 : Fin 1) (0 : Fin 1) b) = BitVec.ofNat 32 (X.ln (128 * (i 0).val + b.val))) (hM5 : M5.view.read (Elt F) f5 = X.Q) :
    iprop(StepInv X c q f0 (i 0).val ∗ (M4.view.loc (c : Thread nD τ) ↦{q4} f4) ∗ (M5.view.loc (c : Thread nD τ) ↦{q5} f5) ∗ Owed c)
      ⊢ WP c 𝒱 bd (cc0_match (F := F) i (Memref.whole main_v0) (Memref.isWhole_whole _) (Memref.whole main_v7) (Memref.isWhole_whole _) (Memref.whole main_arg0) (Memref.isWhole_whole _) M4 h4 M5 h5 (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7)
        (fun _ => iprop(StepInv X c q f0 ((i 0).val + 1) ∗ (M4.view.loc (c : Thread nD τ) ↦{q4} f4) ∗ (M5.view.loc (c : Thread nD τ) ↦{q5} f5) ∗ Owed c)) := by
  rw [match_eq]
  unfold StepInv Tabs
  by_cases h0 : (i 0).val = 0
  · iintro ⟨⟨HI, Hw, ⟨%fb, Htb⟩, ⟨%fs, Hts⟩, ⟨%fa, Ha⟩, HT1, HT2, HT3⟩, H4, H5, ⟨%W, HO⟩⟩
    ihave HI := (inW_first X c (i 0).val h0) $$ HI
    icases HI with ⟨HP, HF0, HF1⟩
    ihave Hw := (outW_first X c f0 (i 0).val h0) $$ Hw
    icases Hw with ⟨⟨%fo, Ho⟩, Hv, Hr⟩
    iapply (part13_first X c 𝒱 bd i M4 h4 M5 h5 h0 q W fo) $$ [HP HF0 HF1 Ho HO HT1]
    · isplitl [HP]; · iexact HP
      isplitl [HF0]; · iexact HF0
      isplitl [HF1]; · iexact HF1
      isplitl [Ho]; · iexact Ho
      isplitl [HO]; · iexact HO
      iexact HT1
    iintro %p ⟨HS, HA, Ho, ⟨%W', HO⟩, HT1⟩
    iapply (mid X c 𝒱 bd i M4 h4 M5 h5 p.1 p.2 q q4 q5 f4 f5 hM4 hM5 fb fs fa) $$ [HS Htb Hts Ha H4 H5 HT1 HT2 HT3]
    · isplitl [HS]; · iexact HS
      isplitl [Htb]; · iexact Htb
      isplitl [Hts]; · iexact Hts
      isplitl [Ha]; · iexact Ha
      isplitl [H4]; · iexact H4
      isplitl [H5]; · iexact H5
      unfold Tabs
      isplitl [HT1]; · iexact HT1
      isplitl [HT2]; · iexact HT2
      iexact HT3
    unfold Tabs
    iintro %z ⟨HF, Htb, Hts, ⟨%fa', %hfa, Ha⟩, H4, H5, HT1, HT2, HT3⟩
    iapply (tail_first X c 𝒱 bd i M4 h4 M5 h5 h0 q W' f0 fa' hfa) $$ [Ho Hv Hr Ha HO HT1 HT3]
    · isplitl [Ho]; · iexact Ho
      isplitl [Hv]; · iexact Hv
      isplitl [Hr]; · iexact Hr
      isplitl [Ha]; · iexact Ha
      isplitl [HO]; · iexact HO
      isplitl [HT1]; · iexact HT1
      iexact HT3
    iintro ⟨Hw, Ha, HO, HT1, HT3⟩
    isplitl [HF HA Hw Htb Hts Ha HT1 HT2 HT3]
    · isplitl [HF HA]
      · iapply (inW_next X c (i 0).val)
        isplitl [HA]; · iexact HA
        iexact HF
      isplitl [Hw]; · iexact Hw
      isplitl [Htb]; · iexact Htb
      isplitl [Hts]; · iexact Hts
      isplitl [Ha]; · iexact Ha
      isplitl [HT1]; · iexact HT1
      isplitl [HT2]; · iexact HT2
      iexact HT3
    isplitl [H4]; · iexact H4
    isplitl [H5]; · iexact H5
    iexact HO
  · iintro ⟨⟨HI, Hw, ⟨%fb, Htb⟩, ⟨%fs, Hts⟩, ⟨%fa, Ha⟩, HT1, HT2, HT3⟩, H4, H5, ⟨%W, HO⟩⟩
    ihave HI := (inW_get X c (i 0).val (by omega)) $$ HI
    icases HI with ⟨HA, HF⟩
    iapply (part13_rest X c 𝒱 bd i M4 h4 M5 h5 (by omega) q W) $$ [HA HF HO HT1]
    · isplitl [HA]; · iexact HA
      isplitl [HF]; · iexact HF
      isplitl [HO]; · iexact HO
      iexact HT1
    iintro %p ⟨HS, HA, ⟨%W', HO⟩, HT1⟩
    iapply (mid X c 𝒱 bd i M4 h4 M5 h5 p.1 p.2 q q4 q5 f4 f5 hM4 hM5 fb fs fa) $$ [HS Htb Hts Ha H4 H5 HT1 HT2 HT3]
    · isplitl [HS]; · iexact HS
      isplitl [Htb]; · iexact Htb
      isplitl [Hts]; · iexact Hts
      isplitl [Ha]; · iexact Ha
      isplitl [H4]; · iexact H4
      isplitl [H5]; · iexact H5
      unfold Tabs
      isplitl [HT1]; · iexact HT1
      isplitl [HT2]; · iexact HT2
      iexact HT3
    unfold Tabs
    iintro %z ⟨HF, Htb, Hts, ⟨%fa', %hfa, Ha⟩, H4, H5, HT1, HT2, HT3⟩
    iapply (tail_rest X c 𝒱 bd i M4 h4 M5 h5 (by omega) q W' f0 fa' hfa) $$ [Hw Ha HO HT1 HT3]
    · isplitl [Hw]; · iexact Hw
      isplitl [Ha]; · iexact Ha
      isplitl [HO]; · iexact HO
      isplitl [HT1]; · iexact HT1
      iexact HT3
    iintro ⟨Hw, Ha, HO, HT1, HT3⟩
    isplitl [HF HA Hw Htb Hts Ha HT1 HT2 HT3]
    · isplitl [HF HA]
      · iapply (inW_next X c (i 0).val)
        isplitl [HA]; · iexact HA
        iexact HF
      isplitl [Hw]; · iexact Hw
      isplitl [Htb]; · iexact Htb
      isplitl [Hts]; · iexact Hts
      isplitl [Ha]; · iexact Ha
      isplitl [HT1]; · iexact HT1
      isplitl [HT2]; · iexact HT2
      iexact HT3
    isplitl [H4]; · iexact H4
    isplitl [H5]; · iexact H5
    iexact HO

end Cert.Kernel.Hand
-- ==== Proof.Ends.lean ====
/-
  Whole buffers as families of page slices; the state before the first step and after the last.
-/
module

public import proofs.«01_k».proof.Proof.Step

@[expose] public section

noncomputable section

namespace Cert.Kernel.Hand

open Cert.Kernel Cert.Kernel.Gen
open Idealize.ShloMosaic Idealize.ShloMosaic.TcCoe Idealize.ShloMosaic.Tactic Idealize.ShloMosaic.Tactic
open Idealize.ShloMosaic.ValueIdx hiding ix0 ix1 ix2 ix3 ix4
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.WordCmp

local notation "𝕄" => MT nD τ sig Unit (Elt F) ℕ (Pipeline.UD sig nD τ) ℕ

variable (X : Inp F) (c : Dev nD) (𝒱 : Variants) (bd : Option 𝒱.V)

/-! ## Whole buffers as families of slices -/

theorem pg_ord (k : Fin 4096) : X.pg k.val = (X.ord k).val := by
  unfold Inp.pg; rw [dif_pos k.isLt]

theorem pg_inj {a b : ℕ} (ha : a < 4096) (hb : b < 4096) (h : X.pg a = X.pg b) : a = b := by
  have h1 : X.ord ⟨a, ha⟩ = X.ord ⟨b, hb⟩ := Fin.ext ((pg_ord X ⟨a, ha⟩).symm.trans (h.trans (pg_ord X ⟨b, hb⟩)))
  exact congrArg Fin.val (X.ord.injective h1)

theorem pg_onto (p : Fin 4096) : ∃ k, k < 4096 ∧ X.pg k = p.val :=
  ⟨(X.ord.symm p).val, (X.ord.symm p).isLt, (pg_ord X (X.ord.symm p)).trans (congrArg Fin.val (X.ord.apply_symm_apply p))⟩

theorem bits_whole : (lBits c ↦{fullShare} X.B : sProp 𝕄) = bigSep (Finset.Ico 0 4096) (bitsAt X c) := by
  have hu : (Finset.univ : Finset S4096x4x1024.Idx) = (Finset.Ico 0 4096).biUnion (fun k => BP (X.pg k)) := by
    ext (x : S4096x4x1024.Idx)
    obtain ⟨k, hk, hp⟩ := pg_onto X (x 0)
    simp only [BP, Finset.mem_biUnion, Finset.mem_filter, Finset.mem_univ, _root_.true_and, Finset.mem_Ico, true_iff]
    exact ⟨k, ⟨Nat.zero_le _, hk⟩, hp.symm⟩
  have hd : ∀ a ∈ Finset.Ico 0 4096, ∀ b ∈ Finset.Ico 0 4096, a ≠ b → Disjoint (BP (X.pg a)) (BP (X.pg b)) := by
    intro a ha b hb hab
    rw [Finset.disjoint_left]; intro x hx hx'
    simp only [BP, Finset.mem_filter] at hx hx'
    exact hab (pg_inj X (Finset.mem_Ico.1 ha).2 (Finset.mem_Ico.1 hb).2 (hx.2.symm.trans hx'.2))
  exact (congrArg (fun S => (lBits c ↦[S]{fullShare} X.B : sProp 𝕄)) hu).trans (pointsTo_biUnion (ℓ := lBits c) (q := fullShare) (f := X.B) (Finset.Ico 0 4096) (fun k => BP (X.pg k)) hd)

theorem scale_whole : (lScale c ↦{fullShare} X.S : sProp 𝕄) = bigSep (Finset.Ico 0 4096) (scaleAt X c) := by
  have hu : (Finset.univ : Finset S4096x1x1024.Idx) = (Finset.Ico 0 4096).biUnion (fun k => SP (X.pg k)) := by
    ext (x : S4096x1x1024.Idx)
    obtain ⟨k, hk, hp⟩ := pg_onto X (x 0)
    simp only [SP, Finset.mem_biUnion, Finset.mem_filter, Finset.mem_univ, _root_.true_and, Finset.mem_Ico, true_iff]
    exact ⟨k, ⟨Nat.zero_le _, hk⟩, hp.symm⟩
  have hd : ∀ a ∈ Finset.Ico 0 4096, ∀ b ∈ Finset.Ico 0 4096, a ≠ b → Disjoint (SP (X.pg a)) (SP (X.pg b)) := by
    intro a ha b hb hab
    rw [Finset.disjoint_left]; intro x hx hx'
    simp only [SP, Finset.mem_filter] at hx hx'
    exact hab (pg_inj X (Finset.mem_Ico.1 ha).2 (Finset.mem_Ico.1 hb).2 (hx.2.symm.trans hx'.2))
  exact (congrArg (fun S => (lScale c ↦[S]{fullShare} X.S : sProp 𝕄)) hu).trans (pointsTo_biUnion (ℓ := lScale c) (q := fullShare) (f := X.S) (Finset.Ico 0 4096) (fun k => SP (X.pg k)) hd)

theorem outs_whole (f : S4096x1x3840.Idx → Elt F .f32) : (lOut c ↦{fullShare} f : sProp 𝕄) = bigSep (Finset.Ico 0 4096) (outAt X c f) := by
  have hu : (Finset.univ : Finset S4096x1x3840.Idx) = (Finset.Ico 0 4096).biUnion (fun k => OP (X.pg k)) := by
    ext (x : S4096x1x3840.Idx)
    obtain ⟨k, hk, hp⟩ := pg_onto X (x 0)
    simp only [OP, Finset.mem_biUnion, Finset.mem_filter, Finset.mem_univ, _root_.true_and, Finset.mem_Ico, true_iff]
    exact ⟨k, ⟨Nat.zero_le _, hk⟩, hp.symm⟩
  have hd : ∀ a ∈ Finset.Ico 0 4096, ∀ b ∈ Finset.Ico 0 4096, a ≠ b → Disjoint (OP (X.pg a)) (OP (X.pg b)) := by
    intro a ha b hb hab
    rw [Finset.disjoint_left]; intro x hx hx'
    simp only [OP, Finset.mem_filter] at hx hx'
    exact hab (pg_inj X (Finset.mem_Ico.1 ha).2 (Finset.mem_Ico.1 hb).2 (hx.2.symm.trans hx'.2))
  exact (congrArg (fun S => (lOut c ↦[S]{fullShare} f : sProp 𝕄)) hu).trans (pointsTo_biUnion (ℓ := lOut c) (q := fullShare) (f := f) (Finset.Ico 0 4096) (fun k => OP (X.pg k)) hd)

theorem raw_halves (f : S2x128x4x1024.Idx → Elt F .i32) : (lRaw c ↦{fullShare} f : sProp 𝕄) = iprop((lRaw c ↦[RWs 0]{fullShare} f) ∗ (lRaw c ↦[RWs 1]{fullShare} f)) := by
  have hu : (Finset.univ : Finset S2x128x4x1024.Idx) = RWs 0 ∪ RWs 1 := by
    ext (x : S2x128x4x1024.Idx)
    have h1 : (x 0).val < 2 := (x 0).isLt
    simp only [RWs, Finset.mem_union, Finset.mem_filter, Finset.mem_univ, _root_.true_and, true_iff]
    omega
  have hd : Disjoint (RWs 0) (RWs 1) := by
    rw [Finset.disjoint_left]; intro x hx hx'
    simp only [RWs, Finset.mem_filter] at hx hx'
    omega
  exact (congrArg (fun S => (lRaw c ↦[S]{fullShare} f : sProp 𝕄)) hu).trans (BI.Entails.antisymm (pointsTo_union hd).1 (pointsTo_union hd).2)

theorem raw_join : iprop((∃ f, lRaw c ↦[RWs 0]{fullShare} f) ∗ (∃ f, lRaw c ↦[RWs 1]{fullShare} f)) ⊢ (∃ f, lRaw c ↦{fullShare} f : sProp 𝕄) := by
  have e0 : ∀ f g : S2x128x4x1024.Idx → Elt F .i32, (lRaw c ↦[RWs 0]{fullShare} f : sProp 𝕄) = (lRaw c ↦[RWs 0]{fullShare} fun x : S2x128x4x1024.Idx => if (x 0).val = 0 then f x else g x) :=
    fun f g => pointsTo_congr (ℓ := lRaw c) (q := fullShare) (f := f) (g := fun x : S2x128x4x1024.Idx => if (x 0).val = 0 then f x else g x) fun x hx => (if_pos (Finset.mem_filter.1 hx).2).symm
  have e1 : ∀ f g : S2x128x4x1024.Idx → Elt F .i32, (lRaw c ↦[RWs 1]{fullShare} g : sProp 𝕄) = (lRaw c ↦[RWs 1]{fullShare} fun x : S2x128x4x1024.Idx => if (x 0).val = 0 then f x else g x) :=
    fun f g => pointsTo_congr (ℓ := lRaw c) (q := fullShare) (f := g) (g := fun x : S2x128x4x1024.Idx => if (x 0).val = 0 then f x else g x) fun x hx => (if_neg (by have := (Finset.mem_filter.1 hx).2; omega)).symm
  iintro ⟨⟨%f, H0⟩, ⟨%g, H1⟩⟩
  iexists (fun x : S2x128x4x1024.Idx => if (x 0).val = 0 then f x else g x)
  iapply (Entails.of_eq (raw_halves c _).symm)
  isplitl [H0]
  · iapply (Entails.of_eq (e0 f g)) $$ H0
  · iapply (Entails.of_eq (e1 f g)) $$ H1

theorem raws_halves (f : S2x128x1x1024.Idx → Elt F .f32) : (lRaws c ↦{fullShare} f : sProp 𝕄) = iprop((lRaws c ↦[RCs 0]{fullShare} f) ∗ (lRaws c ↦[RCs 1]{fullShare} f)) := by
  have hu : (Finset.univ : Finset S2x128x1x1024.Idx) = RCs 0 ∪ RCs 1 := by
    ext (x : S2x128x1x1024.Idx)
    have h1 : (x 0).val < 2 := (x 0).isLt
    simp only [RCs, Finset.mem_union, Finset.mem_filter, Finset.mem_univ, _root_.true_and, true_iff]
    omega
  have hd : Disjoint (RCs 0) (RCs 1) := by
    rw [Finset.disjoint_left]; intro x hx hx'
    simp only [RCs, Finset.mem_filter] at hx hx'
    omega
  exact (congrArg (fun S => (lRaws c ↦[S]{fullShare} f : sProp 𝕄)) hu).trans (BI.Entails.antisymm (pointsTo_union hd).1 (pointsTo_union hd).2)

theorem raws_join : iprop((∃ f, lRaws c ↦[RCs 0]{fullShare} f) ∗ (∃ f, lRaws c ↦[RCs 1]{fullShare} f)) ⊢ (∃ f, lRaws c ↦{fullShare} f : sProp 𝕄) := by
  have e0 : ∀ f g : S2x128x1x1024.Idx → Elt F .f32, (lRaws c ↦[RCs 0]{fullShare} f : sProp 𝕄) = (lRaws c ↦[RCs 0]{fullShare} fun x : S2x128x1x1024.Idx => if (x 0).val = 0 then f x else g x) :=
    fun f g => pointsTo_congr (ℓ := lRaws c) (q := fullShare) (f := f) (g := fun x : S2x128x1x1024.Idx => if (x 0).val = 0 then f x else g x) fun x hx => (if_pos (Finset.mem_filter.1 hx).2).symm
  have e1 : ∀ f g : S2x128x1x1024.Idx → Elt F .f32, (lRaws c ↦[RCs 1]{fullShare} g : sProp 𝕄) = (lRaws c ↦[RCs 1]{fullShare} fun x : S2x128x1x1024.Idx => if (x 0).val = 0 then f x else g x) :=
    fun f g => pointsTo_congr (ℓ := lRaws c) (q := fullShare) (f := g) (g := fun x : S2x128x1x1024.Idx => if (x 0).val = 0 then f x else g x) fun x hx => (if_neg (by have := (Finset.mem_filter.1 hx).2; omega)).symm
  iintro ⟨⟨%f, H0⟩, ⟨%g, H1⟩⟩
  iexists (fun x : S2x128x1x1024.Idx => if (x 0).val = 0 then f x else g x)
  iapply (Entails.of_eq (raws_halves c _).symm)
  isplitl [H0]
  · iapply (Entails.of_eq (e0 f g)) $$ H0
  · iapply (Entails.of_eq (e1 f g)) $$ H1

/-! ## The first and the last state -/

theorem slot_zero : SemLoc.dma (slotSem 0) = (SemLoc.dma 3 : SemLoc sig) := by decide
theorem slot_one : SemLoc.dma (slotSem 1) = (SemLoc.dma 4 : SemLoc sig) := by decide
theorem out_sem : SemLoc.dma outSem = (SemLoc.dma 5 : SemLoc sig) := by decide

theorem start (q : PosShare TreeShare) (f0 : S4096x1x3840.Idx → Elt F .f32) :
    iprop(((∃ f, lRaw c ↦{fullShare} f) ∗ (∃ f, lRaws c ↦{fullShare} f) ∗ (∃ f, lTb c ↦{fullShare} f) ∗ (∃ f, lTs c ↦{fullShare} f) ∗ (∃ f, lAcc c ↦{fullShare} f) ∗ (∃ f, lOutt c ↦{fullShare} f))
      ∗ (semVal ((c : Thread nD τ), SemLoc.dma 3) 0 ∗ semVal ((c : Thread nD τ), SemLoc.dma 4) 0 ∗ semVal ((c : Thread nD τ), SemLoc.dma 5) 0)
      ∗ ((lBits c ↦{fullShare} X.B) ∗ (lScale c ↦{fullShare} X.S)) ∗ (lOut c ↦{fullShare} f0) ∗ Tabs X c q) ⊢ StepInv X c q f0 0 := by
  unfold StepInv InW OutW SlotFree Pages Outs
  rw [if_pos rfl, if_pos rfl, bits_whole X c, scale_whole X c, outs_whole X c f0, ← slot_zero, ← slot_one, ← out_sem]
  iintro ⟨⟨⟨%f1, H1⟩, ⟨%f2, H2⟩, H3, H4, H5, H6⟩, ⟨S3, S4, S5⟩, ⟨HB, HS⟩, HO, HT⟩
  ihave ⟨H1, H1'⟩ := (Entails.of_eq (raw_halves c f1)) $$ H1
  ihave ⟨H2, H2'⟩ := (Entails.of_eq (raws_halves c f2)) $$ H2
  isplitl [HB HS H1 H1' H2 H2' S3 S4]
  · isplitl [HB HS]
    · isplitl [HB] <;> iassumption
    isplitl [H1 H2 S3]
    · isplitl [H1]
      · iexists f1; iexact H1
      isplitl [H2]
      · iexists f2; iexact H2
      iexact S3
    isplitl [H1']
    · iexists f1; iexact H1'
    isplitl [H2']
    · iexists f2; iexact H2'
    iexact S4
  isplitl [H6 S5 HO]
  · isplitl [H6]; · iexact H6
    isplitl [S5] <;> iassumption
  isplitl [H3]; · iexact H3
  isplitl [H4]; · iexact H4
  isplitl [H5]; · iexact H5
  iexact HT

theorem finish (q : PosShare TreeShare) (f0 : S4096x1x3840.Idx → Elt F .f32) :
    StepInv X c q f0 32 ⊢
    iprop(((∃ f, lRaw c ↦{fullShare} f) ∗ (∃ f, lRaws c ↦{fullShare} f) ∗ (∃ f, lTb c ↦{fullShare} f) ∗ (∃ f, lTs c ↦{fullShare} f) ∗ (∃ f, lAcc c ↦{fullShare} f) ∗ (∃ f, lOutt c ↦{fullShare} f))
      ∗ (semVal ((c : Thread nD τ), SemLoc.dma 3) 0 ∗ semVal ((c : Thread nD τ), SemLoc.dma 4) 0 ∗ semVal ((c : Thread nD τ), SemLoc.dma 5) 0)
      ∗ ((lBits c ↦{fullShare} X.B) ∗ (lScale c ↦{fullShare} X.S)) ∗ (lOut c ↦{fullShare} outFin X (TF X)) ∗ Tabs X c q) := by
  unfold StepInv InW OutW Ahead SlotFree Pages Outs
  rw [if_neg (by decide), if_neg (by decide), if_neg (by decide), if_neg (by decide), bits_whole X c, scale_whole X c, outs_whole X c (outFin X (TF X)), ← slot_zero, ← slot_one, ← out_sem]
  rw [show 32 % 2 = 0 from rfl, show (32 + 1) % 2 = 1 from rfl]
  iintro ⟨⟨⟨⟨HB, HS⟩, R0, C0, S0⟩, R1, C1, S1⟩, ⟨H6, S5, HO⟩, H3, H4, H5, HT⟩
  ihave HR := (raw_join c) $$ [R0 R1]
  · isplitl [R0] <;> iassumption
  ihave HC := (raws_join c) $$ [C0 C1]
  · isplitl [C0] <;> iassumption
  isplitl [HR HC H3 H4 H5 H6]
  · isplitl [HR]; · iexact HR
    isplitl [HC]; · iexact HC
    isplitl [H3]; · iexact H3
    isplitl [H4]; · iexact H4
    isplitl [H5]; · iexact H5
    iexact H6
  isplitl [S0 S1 S5]
  · isplitl [S0]; · iexact S0
    isplitl [S1]; · iexact S1
    iexact S5
  isplitl [HB HS]
  · isplitl [HB] <;> iassumption
  isplitl [HO]; · iexact HO
  iexact HT

end Cert.Kernel.Hand

end
-- ==== Proof.Launch.lean ====
/-
  The launch: the pipeline's proof data, the body obligation, the run.
-/
module

public import proofs.«01_k».proof.Proof.Ends
public import Idealize.ShloMosaic.Lib.Pipeline.FrameBody
public import Idealize.ShloMosaic.Lib.Pipeline.FrameValue

@[expose] public section

noncomputable section

namespace Cert.Kernel.Hand

open Cert.Kernel Cert.Kernel.Gen
open Idealize.ShloMosaic Idealize.ShloMosaic.TcCoe Idealize.ShloMosaic.Tactic Idealize.ShloMosaic.Tactic
open Idealize.ShloMosaic.ValueIdx hiding ix0 ix1 ix2 ix3 ix4
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.WordCmp

local notation "𝕄" => MT nD τ sig Unit (Elt F) ℕ (Pipeline.UD sig nD τ) ℕ

open Idealize.ShloMosaic.Pipeline (Dat Cfg BodyObligation)

/-! ## The memory as the pipeline finds it -/

/-- The core's buffers when the pipeline starts: the host operations have run. -/
def V (m : (ℓ : Loc nD τ sig) → Buf (Elt F) ℓ) (c : Dev nD) (b : Ref sig .tc) : Buf (Elt F) ((c : Thread nD τ).loc b) :=
  StableHlo.after ([hostOps0, hostOps0_1] : List (List (HloOp τ sig (Elt F)))).flatten (fun b => m (c, b)) b

/-- The buffers the kernel reads hold the inputs `X`. -/
structure Holds (X : Inp F) (m : (ℓ : Loc nD τ sig) → Buf (Elt F) ℓ) : Prop where
  hB : ∀ c, V m c main_arg3 = X.B
  hS : ∀ c, V m c main_v9 = X.S
  hA : ∀ c, V m c main_v0 = X.T1
  hN : ∀ c, V m c main_v7 = X.T2
  hV : ∀ c, V m c main_arg0 = X.T3
  hL : ∀ c, V m c main_v8 = X.L
  hQ : ∀ c, V m c main_arg2 = X.Q

variable (m : (ℓ : Loc nD τ sig) → Buf (Elt F) ℓ) (ρ : Dev nD → PrngReg)

/-- The tables' contents. -/
def adm (_ : Fin 1) : (pcfg0 (F := F)).Adm := ⟨fun k => V m (0 : Fin 1) (pre0.ref k), trivial⟩

abbrev osem0 : Fin 3 → SemLoc sig := fun j => (![SemLoc.dma 3, SemLoc.dma 4, SemLoc.dma 5] : Fin 3 → SemLoc sig) j
theorem ownSemFacts0 : Pipeline.OwnSemFacts spec0 osem0 := by decide

theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 3) 0 ∗ semVal ((c : Thread nD τ), SemLoc.dma 4) 0 ∗ semVal ((c : Thread nD τ), SemLoc.dma 5) 0) := by
  rw [Pipeline.ownSems0_eq_of_list c osem0 [0, 1, 2] (by decide) (by decide)]; rfl

abbrev H0 : Finset (Ref sig .tc) := {main_arg3, main_v9}
abbrev R0 : Finset (Ref sig .tc) := {main_v10}
theorem H0_sub : H0 ⊆ Pipeline.restRefsP sig pre0 spec0 := by decide
theorem R0_sub : R0 ⊆ Pipeline.restRefsP sig pre0 spec0 \ H0 := by decide

/-- What the result buffer holds at the end. -/
def G (X : Inp F) (c : Dev nD) (b : Ref sig .tc) : Buf (Elt F) ((c : Thread nD τ).loc b) :=
  if h : b = main_v10 then h ▸ (outFin X (TF X) : Buf (Elt F) ((c : Thread nD τ).loc main_v10)) else V m c b

theorem G_out (X : Inp F) (c : Dev nD) : G m X c main_v10 = outFin X (TF X) := by unfold G; rw [dif_pos rfl]

theorem phi_eq (W : (c : Dev nD) → (b : Ref sig .tc) → Buf (Elt F) ((c : Thread nD τ).loc b)) (c : Dev nD) :
    (Pipeline.ΦDRG osem0 spec0 H0 R0 (V m) W c : sProp 𝕄)
      = iprop(((∃ f, lRaw c ↦{fullShare} f) ∗ (∃ f, lRaws c ↦{fullShare} f) ∗ (∃ f, lTb c ↦{fullShare} f) ∗ (∃ f, lTs c ↦{fullShare} f) ∗ (∃ f, lAcc c ↦{fullShare} f) ∗ (∃ f, lOutt c ↦{fullShare} f))
        ∗ (∃ r, prngReg c r)
        ∗ (semVal ((c : Thread nD τ), SemLoc.dma 3) 0 ∗ semVal ((c : Thread nD τ), SemLoc.dma 4) 0 ∗ semVal ((c : Thread nD τ), SemLoc.dma 5) 0)
        ∗ ((lBits c ↦{fullShare} V m c main_arg3) ∗ (lScale c ↦{fullShare} V m c main_v9))
        ∗ (lOut c ↦{fullShare} W c main_v10)) := by
  rw [Pipeline.ΦDRG_eq, ownSems0_eq, scopedRest0_eq]
  unfold Pipeline.routed
  rw [BI.bigSep_eq_bigSepL_of_eq [main_arg3, main_v9] (by decide) (by decide), BI.bigSep_eq_bigSepL_of_eq [main_v10] (by decide) (by decide)]
  rfl

theorem tables_eq (c : Dev nD) (q : PosShare TreeShare) (v : pre0.Contents (Elt F)) :
    (Pipeline.prefHeld (Ix := Unit) (Name := ℕ) (U := Pipeline.UD sig nD τ) (Lvl := ℕ) pre0 c (fun _ => q) v : sProp 𝕄)
      = iprop((lT1 c ↦{q} v 0) ∗ (lT2 c ↦{q} v 1) ∗ (lT3 c ↦{q} v 2)) := by
  unfold Pipeline.prefHeld
  rw [BI.bigSep_univ_eq_bigSepL [(0 : Fin 3), (1 : Fin 3), (2 : Fin 3)] (by decide) (by decide)]
  rfl

attribute [local irreducible] V in
theorem tabs_eq (X : Inp F) (hX : Holds X m) (c : Dev nD) :
    (Pipeline.ΦT (U := Pipeline.UD sig nD τ) pre0 (adm m 0).1 c : sProp 𝕄) = Tabs X c fullShare.right := by
  obtain rfl : c = 0 := Subsingleton.elim _ _
  refine (tables_eq 0 fullShare.right _).trans ?_
  unfold Tabs
  rw [show (adm m 0).1 0 = X.T1 from hX.hA 0, show (adm m 0).1 1 = X.T2 from hX.hN 0, show (adm m 0).1 2 = X.T3 from hX.hV 0]

/-! ## The pipeline's proof data -/

abbrev kcfg : Cfg sig Λ₀ := cfg0 (adm m 0)

/-- The arrays as found, the windows left as fetched, the step's state in between. -/
def dats (X : Inp F) (p : Fin 1) (c : Dev nD) : Dat τ (Elt F) Unit ℕ (Pipeline.UD sig nD τ) ℕ (Pipeline.pin (pcfgs (F := F)) (adm m) p) c where
  A w := V m c (Pipeline.arrRef spec0 w)
  after w t := match w with
    | ⟨0, _⟩ => ((win0 (adm m 0) 0).blk t).view.read (Elt F) (V m c main_v8)
    | ⟨1, _⟩ => ((win0 (adm m 0) 1).blk t).view.read (Elt F) (V m c main_arg2)
  Φ t := iprop((∃ r, prngReg c r) ∗ StepInv X c fullShare.right (V m c main_v10) t.val)
  q _ := fullShare
  owed _ := 0

set_option maxRecDepth 10000 in
theorem coords_val : ∀ t : Fin grid0.N, (grid0.coords t 0).val = t.val := by decide +kernel

theorem before0 (X : Inp F) (c : Dev nD) (t : Fin (kcfg m).N) (d) : (dats m X 0 c).before 0 t d = ((win0 (adm m 0) 0).blk t).view.read (Elt F) (V m c main_v8) :=
  (dats m X 0 c).before_in_eq_fetched (0 : Fin 2) rfl (fun _ => rfl) (fun _ _ _ => rfl) (fun _ => rfl) t d
theorem before1 (X : Inp F) (c : Dev nD) (t : Fin (kcfg m).N) (d) : (dats m X 0 c).before 1 t d = ((win0 (adm m 0) 1).blk t).view.read (Elt F) (V m c main_arg2) :=
  (dats m X 0 c).before_in_eq_fetched (1 : Fin 2) rfl (fun _ => rfl) (fun _ _ _ => rfl) (fun _ => rfl) t d

theorem block0 (X : Inp F) (hX : Holds X m) (c : Dev nD) (t : Fin (kcfg m).N) (b : Fin 128) :
    ((win0 (adm m 0) 0).blk t).view.read (Elt F) (V m c main_v8) (ix3 (0 : Fin 1) (0 : Fin 1) b) = BitVec.ofNat 32 (X.ln (128 * t.val + b.val)) := by
  have ht : t.val < 32 := t.isLt
  have hb := b.isLt
  have h1 := X.hL ⟨128 * t.val + b.val, by omega⟩
  unfold Inp.ln
  rw [dif_pos (show 128 * t.val + b.val < 4096 by omega), ← h1, hX.hL c]
  show X.L _ = X.L _
  congr 1
  funext a
  fin_cases a
  · apply Fin.ext
    show (BitVec.ofNat 32 (grid0.coords t 0).val).toNat * 1 + 1 * 0 = (128 * t.val + b.val) / 128
    rw [coords_val t, BitVec.toNat_ofNat]; omega
  · apply Fin.ext; rfl
  · apply Fin.ext
    show (0#32 : BitVec 32).toNat * 128 + 1 * b.val = (128 * t.val + b.val) % 128
    rw [show (0#32 : BitVec 32).toNat = 0 from rfl]; omega

theorem block1 (X : Inp F) (hX : Holds X m) (c : Dev nD) (t : Fin (kcfg m).N) :
    ((win0 (adm m 0) 1).blk t).view.read (Elt F) (V m c main_arg2) = X.Q := by
  rw [hX.hQ c]
  funext x
  show X.Q _ = X.Q _
  congr 1
  funext a
  fin_cases a
  · apply Fin.ext
    show (0#32 : BitVec 32).toNat * 3840 + 1 * (x 0).val = (x 0).val
    rw [show (0#32 : BitVec 32).toNat = 0 from rfl]; omega
  · apply Fin.ext
    show (0#32 : BitVec 32).toNat * 128 + 1 * (x 1).val = (x 1).val
    rw [show (0#32 : BitVec 32).toNat = 0 from rfl]; omega

/-! ## The body obligation -/

theorem owns_open {s : Shape} {e : EltTy} (c : Dev nD) (M : Memref sig .tc .vmem s e) (h : M.IsWhole) (Y : s.Idx → Elt F e) :
    (owns (c : Thread nD τ) M fullShare Y : sProp 𝕄) ⊢ (∃ f, ⌜M.view.read (Elt F) f = Y⌝ ∗ (M.view.loc (c : Thread nD τ) ↦{fullShare} f)) := by
  unfold owns; rw [h.set_eq_univ]

theorem owns_close {s : Shape} {e : EltTy} (c : Dev nD) (M : Memref sig .tc .vmem s e) (h : M.IsWhole) (Y : s.Idx → Elt F e) :
    (∃ f, ⌜M.view.read (Elt F) f = Y⌝ ∗ (M.view.loc (c : Thread nD τ) ↦{fullShare} f)) ⊢ (owns (c : Thread nD τ) M fullShare Y : sProp 𝕄) := by
  unfold owns; rw [h.set_eq_univ]

abbrev st0 (t : Fin (kcfg m).N) : Memref sig .tc .vmem S1x1x128 .i32 := (win0 (adm m 0) 0).stage ((kcfg m).slots t 0)
abbrev st1 (t : Fin (kcfg m).N) : Memref sig .tc .vmem S3840x128 .fp8e4m3 := (win0 (adm m 0) 1).stage ((kcfg m).slots t 1)
theorem st0_whole (t : Fin (kcfg m).N) : (st0 m t).IsWhole := stage_whole0 0 _
theorem st1_whole (t : Fin (kcfg m).N) : (st1 m t).IsWhole := stage_whole0 1 _

def bodyPre (X : Inp F) (c : Dev nD) (t : Fin (kcfg m).N) : sProp 𝕄 :=
  iprop((dats m X 0 c).Φ t.castSucc ∗ (dats m X 0 c).owesAt () t.castSucc
    ∗ (∃ d, owns (c : Thread nD τ) (st0 m t) fullShare ((dats m X 0 c).before 0 t d)) ∗ (∃ d, owns (c : Thread nD τ) (st1 m t) fullShare ((dats m X 0 c).before 1 t d)))
def bodyPost (X : Inp F) (c : Dev nD) (t : Fin (kcfg m).N) : sProp 𝕄 :=
  iprop((dats m X 0 c).Φ t.succ ∗ (dats m X 0 c).owesAt () t.succ
    ∗ owns (c : Thread nD τ) (st0 m t) fullShare ((dats m X 0 c).after 0 t) ∗ owns (c : Thread nD τ) (st1 m t) fullShare ((dats m X 0 c).after 1 t))

abbrev bodyAt (t : Fin (kcfg m).N) : Prog (TpuEff nD τ sig (Elt F) Λ₀ .tc) PUnit :=
  cc0_match (F := F) (grid0.coords t) (Memref.whole main_v0) (Memref.isWhole_whole _) (Memref.whole main_v7) (Memref.isWhole_whole _) (Memref.whole main_arg0) (Memref.isWhole_whole _) (st0 m t) (st0_whole m t) (st1 m t) (st1_whole m t) (Memref.whole main_arg3) (Memref.isWhole_whole _) (Memref.whole main_v9) (Memref.isWhole_whole _) (Memref.whole main_v10) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7

theorem step_at (X : Inp F) (hX : Holds X m) (c : Dev nD) (t : Fin (kcfg m).N) (f4 : Buf (Elt F) ((st0 m t).view.loc (c : Thread nD τ))) (f5 : Buf (Elt F) ((st1 m t).view.loc (c : Thread nD τ)))
    (h4 : (st0 m t).view.read (Elt F) f4 = ((win0 (adm m 0) 0).blk t).view.read (Elt F) (V m c main_v8)) (h5 : (st1 m t).view.read (Elt F) f5 = ((win0 (adm m 0) 1).blk t).view.read (Elt F) (V m c main_arg2)) :
    iprop(StepInv X c fullShare.right (V m c main_v10) t.val ∗ ((st0 m t).view.loc (c : Thread nD τ) ↦{fullShare} f4) ∗ ((st1 m t).view.loc (c : Thread nD τ) ↦{fullShare} f5) ∗ Owed c)
      ⊢ WP c Variants.none none (bodyAt m t) (fun _ => iprop(StepInv X c fullShare.right (V m c main_v10) (t.val + 1) ∗ ((st0 m t).view.loc (c : Thread nD τ) ↦{fullShare} f4) ∗ ((st1 m t).view.loc (c : Thread nD τ) ↦{fullShare} f5) ∗ Owed c)) := by
  have hs := step X c Variants.none none (grid0.coords t) (st0 m t) (st0_whole m t) (st1 m t) (st1_whole m t) fullShare.right fullShare fullShare (V m c main_v10) f4 f5
    (fun b => (congrFun h4 _).trans ((block0 m X hX c t b).trans (by rw [coords_val t]))) (h5.trans (block1 m X hX c t))
  rw [coords_val t] at hs
  exact hs

theorem sound_body (X : Inp F) (hX : Holds X m) (c : Dev nD) (t : Fin (kcfg m).N) :
    bodyPre m X c t ⊢ wp frame (wpE (defs₀ (F := F)) Variants.none c none) Set.univ (bodyAt m t) (fun _ => bodyPost m X c t) := by
  unfold bodyPre bodyPost
  rw [show (dats m X 0 c).Φ t.castSucc = iprop((∃ r, prngReg c r) ∗ StepInv X c fullShare.right (V m c main_v10) t.val) from rfl,
    show (dats m X 0 c).Φ t.succ = iprop((∃ r, prngReg c r) ∗ StepInv X c fullShare.right (V m c main_v10) (t.val + 1)) from rfl,
    show (dats m X 0 c).after 0 t = ((win0 (adm m 0) 0).blk t).view.read (Elt F) (V m c main_v8) from rfl,
    show (dats m X 0 c).after 1 t = ((win0 (adm m 0) 1).blk t).view.read (Elt F) (V m c main_arg2) from rfl]
  simp only [before0 m X c t, before1 m X c t]
  unfold Dat.owesAt Pipeline.owesWithin
  rw [show (dats m X 0 c).owed t.castSucc = 0 from rfl, show (dats m X 0 c).owed t.succ = 0 from rfl]
  iintro ⟨⟨Hg, HI⟩, ⟨%W, -, HW⟩, ⟨%d0, H4⟩, ⟨%d1, H5⟩⟩
  ihave ⟨%f4, %h4, H4⟩ := (owns_open c _ (st0_whole m t) _) $$ H4
  ihave ⟨%f5, %h5, H5⟩ := (owns_open c _ (st1_whole m t) _) $$ H5
  ihave Hwp := (step_at m X hX c t f4 f5 h4 h5) $$ [HI H4 H5 HW]
  · isplitl [HI]; · iexact HI
    isplitl [H4]; · iexact H4
    isplitl [H5]; · iexact H5
    iexists W; iexact HW
  iapply (wp_wand _ _ _) $$ Hwp
  iintro %_ ⟨HI, H4, H5, ⟨%W', HW'⟩⟩
  isplitl [Hg HI]
  · isplitl [Hg] <;> iassumption
  isplitl [HW']
  · iexists W'; isplitr; · ipureintro; exact fun _ _ => Or.inl trivial
    iexact HW'
  isplitl [H4]
  · iapply (owns_close c _ (st0_whole m t) _)
    iexists f4; isplitr; · ipureintro; exact h4
    iexact H4
  · iapply (owns_close c _ (st1_whole m t) _)
    iexists f5; isplitr; · ipureintro; exact h5
    iexact H5

theorem defs₀_row (t : Fin (kcfg m).N) :
    defs₀ (F := F) .tc (kcfg m).body ((kcfg m).bodyArgs t ((kcfg m).slots t)) = bodyAt m t := by
  unfold defs₀; rw [Defs.onTc_tc]

theorem body_obligation (X : Inp F) (hX : Holds X m) (c : Dev nD) : BodyObligation (dats m X 0 c) (defs₀ (F := F)) Variants.none () Set.univ := fun t => by
  rw [bigSep_W0, bigSep_W0, defs₀_row m t]
  exact triple_restated (sound_body m X hX c t) rfl .rfl fun _ => .rfl

/-! ## The run -/

theorem hmain_ : Pipeline.HMainP (Ix := Unit) (Name := ℕ) (U := Pipeline.UD sig nD τ) (Lvl := ℕ) (pcfgs (F := F)) 0 defs₀ Variants.none m main (V m) :=
  Pipeline.hmainP_prefixes (pcfgs (F := F)) 0 defs₀ Variants.none m main [hostOps0, hostOps0_1] ⟨hostOps0_sub, hostOps0_1_sub⟩ ⟨by repeat' constructor, by repeat' constructor⟩ (fun c => main_chain c)

theorem enter (X : Inp F) (c : Dev nD) (f0 : S4096x1x3840.Idx → Elt F .f32) :
    iprop((((∃ f, lRaw c ↦{fullShare} f) ∗ (∃ f, lRaws c ↦{fullShare} f) ∗ (∃ f, lTb c ↦{fullShare} f) ∗ (∃ f, lTs c ↦{fullShare} f) ∗ (∃ f, lAcc c ↦{fullShare} f) ∗ (∃ f, lOutt c ↦{fullShare} f))
        ∗ (∃ r, prngReg c r)
        ∗ (semVal ((c : Thread nD τ), SemLoc.dma 3) 0 ∗ semVal ((c : Thread nD τ), SemLoc.dma 4) 0 ∗ semVal ((c : Thread nD τ), SemLoc.dma 5) 0)
        ∗ ((lBits c ↦{fullShare} X.B) ∗ (lScale c ↦{fullShare} X.S))
        ∗ (lOut c ↦{fullShare} f0)) ∗ Tabs X c fullShare.right) ⊢ (iprop((∃ r, prngReg c r) ∗ StepInv X c fullShare.right f0 0) : sProp 𝕄) := by
  iintro ⟨⟨HS, Hg, Hq, HH, HO⟩, HT⟩
  isplitl [Hg]; · iexact Hg
  iapply (start X c fullShare.right f0)
  isplitl [HS]; · iexact HS
  isplitl [Hq]; · iexact Hq
  isplitl [HH]; · iexact HH
  isplitl [HO]; · iexact HO
  iexact HT

theorem leave (X : Inp F) (c : Dev nD) (f0 : S4096x1x3840.Idx → Elt F .f32) :
    (iprop((∃ r, prngReg c r) ∗ StepInv X c fullShare.right f0 32) : sProp 𝕄) ⊢ iprop(((∃ f, lRaw c ↦{fullShare} f) ∗ (∃ f, lRaws c ↦{fullShare} f) ∗ (∃ f, lTb c ↦{fullShare} f) ∗ (∃ f, lTs c ↦{fullShare} f) ∗ (∃ f, lAcc c ↦{fullShare} f) ∗ (∃ f, lOutt c ↦{fullShare} f))
        ∗ (∃ r, prngReg c r)
        ∗ (semVal ((c : Thread nD τ), SemLoc.dma 3) 0 ∗ semVal ((c : Thread nD τ), SemLoc.dma 4) 0 ∗ semVal ((c : Thread nD τ), SemLoc.dma 5) 0)
        ∗ ((lBits c ↦{fullShare} X.B) ∗ (lScale c ↦{fullShare} X.S))
        ∗ (lOut c ↦{fullShare} outFin X (TF X))) := by
  iintro ⟨Hg, HI⟩
  ihave ⟨HS, Hq, HH, HO, -⟩ := (finish X c fullShare.right f0) $$ HI
  isplitl [HS]; · iexact HS
  isplitl [Hg]; · iexact Hg
  isplitl [Hq]; · iexact Hq
  isplitl [HH]; · iexact HH
  iexact HO

set_option backward.isDefEq.respectTransparency.types false in
theorem run_main (X : Inp F) (hX : Holds X m) : θ_run defs (onTc (τ := τ) (main (F := F))) (s₀ m ρ)
    (fun r => Pipeline.FramePostRG (Pipeline.pin (pcfgs (F := F)) (adm m)) (dats m X) 0 R0 (V m) (G m X) r ∧ r.2.sem = fun _ => 0) :=
  Pipeline.θ_run_frameP_dmaRG (Q' := _) (pcfgs (F := F)) (adm m) (dats m X) (0 : Fin 1) launch0 osem0 defs₀ Variants.none ownSemFacts0 H0 R0 H0_sub R0_sub m ρ main
    (hbody := fun c => (body_obligation m X hX c).loose) (hshare := fun c => (dats m X 0 c).share_full fun _ => rfl)
    (howed := fun _ _ => rfl) (V := V m) (hmain := hmain_ m) (hA := fun _ _ => rfl)
    (hpf := fun c k => by obtain rfl : c = 0 := Subsingleton.elim _ _; rfl) (G := G m X)
    (hin := fun c => by
      rw [show (dats m X 0 c).Φ 0 = iprop((∃ r, prngReg c r) ∗ StepInv X c fullShare.right (V m c main_v10) 0) from rfl]
      refine BI.Entails.trans (BI.sep_mono (Entails.of_eq (phi_eq m (V m) c)) (Entails.of_eq (tabs_eq m X hX c))) ?_
      rw [hX.hB c, hX.hS c]
      exact enter X c _)
    (hout := fun c => by
      rw [show (dats m X 0 c).Φ (Fin.last _) = iprop((∃ r, prngReg c r) ∗ StepInv X c fullShare.right (V m c main_v10) 32) from rfl]
      refine BI.Entails.trans ?_ (Entails.of_eq (phi_eq m (G m X) c).symm)
      rw [G_out, hX.hB c, hX.hS c]
      exact leave X c _)

/-- The run ends with the result buffer at the kernel's output, the arguments as they were and every semaphore at zero. -/
theorem run_value (X : Inp F) (hX : Holds X m) (hV : ∀ c, V m c main_arg0 = m ((c : Thread nD τ).loc main_arg0) ∧ V m c main_arg1 = m ((c : Thread nD τ).loc main_arg1) ∧ V m c main_arg2 = m ((c : Thread nD τ).loc main_arg2)
      ∧ V m c main_arg3 = m ((c : Thread nD τ).loc main_arg3) ∧ V m c main_arg4 = m ((c : Thread nD τ).loc main_arg4)) :
    θ_run defs (onTc (τ := τ) (main (F := F))) ⟨m, fun _ => 0, ρ⟩ (fun r => (∀ c : Dev nD,
      r.2.mem ((c.tc : Thread nD τ).loc main_v10) = outFin X (TF X)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ⟨?_, ?_, ?_, ?_, ?_, ?_⟩, h.2⟩) (run_main m ρ X hX)
  · exact (h.1.2 c main_v10 (by decide)).trans (G_out m X c)
  · exact ((h.1.1 c).2 main_arg0 (show main_arg0 ∈ Pipeline.restRefs sig spec0 \ R0 by decide)).trans (hV c).1
  · exact ((h.1.1 c).2 main_arg1 (show main_arg1 ∈ Pipeline.restRefs sig spec0 \ R0 by decide)).trans (hV c).2.1
  · exact ((h.1.1 c).1 (1 : Fin 2)).trans (((dats m X 0 c).arrAt_in (1 : Fin 2) rfl _).trans (hV c).2.2.1)
  · exact ((h.1.1 c).2 main_arg3 (show main_arg3 ∈ Pipeline.restRefs sig spec0 \ R0 by decide)).trans (hV c).2.2.2.1
  · exact ((h.1.1 c).2 main_arg4 (show main_arg4 ∈ Pipeline.restRefs sig spec0 \ R0 by decide)).trans (hV c).2.2.2.2

end Cert.Kernel.Hand

end
-- ==== Proof.Sorted.lean ====
/-
  The order of the pages: what the host operations before the launch compute, and that it is an input the launch theorem takes.
-/
module

public import proofs.«01_k».proof.Proof.Launch
public import Idealize.ShloMosaic.Lib.SortFacts
public import Idealize.ShloMosaic.Lib.Routing.OpsSet
public import Idealize.ShloMosaic.Lib.StableHlo.Predicate
public import Idealize.ShloMosaic.Lib.Claim
public import Idealize.ShloMosaic.Lib.Pointwise

@[expose] public section

noncomputable section

namespace Cert.Kernel.Hand

open Cert.Kernel Cert.Kernel.Gen
open Idealize.ShloMosaic Idealize.ShloMosaic.TcCoe Idealize.ShloMosaic.Tactic Idealize.ShloMosaic.Tactic
open Idealize.ShloMosaic.ValueIdx hiding ix0 ix1 ix2 ix3 ix4
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.WordCmp

local notation "𝕄" => MT nD τ sig Unit (Elt F) ℕ (Pipeline.UD sig nD τ) ℕ

/-! ## The stable order by length -/

/-- Page `k` is shorter than page `k'`. -/
def rel (A : S4096.Idx → BitVec 32) (k k' : Fin 4096) : Bool := IntOp.cmpi .slt (A (ValueIdx.ix1 k)) (A (ValueIdx.ix1 k')) == 1#1

/-- The page at each position of the stable order. -/
def ordOf (A : S4096.Idx → BitVec 32) : Fin 4096 ≃ Fin 4096 :=
  Equiv.ofBijective (sortedFrom (rel A)) ⟨sortedFrom_injective _, sortedFrom_surjective _⟩

/-- The length of the page at each position of the stable order. -/
def lenOf (A : S4096.Idx → BitVec 32) (k : Fin 4096) : ℕ := (A (ValueIdx.ix1 (sortedFrom (rel A) k))).toNat

/-- The page numbers in the order, as the sort leaves them. -/
def tab1 (A : S4096.Idx → BitVec 32) : S4096.Idx → BitVec 32 := (Host.sort2 S4096 0 comparator_i32_i32_d0 A (iotaInDim S4096 32 0)).2

/-- The lengths in the order, as the gather reads them. -/
def tab2 (A : S4096.Idx → BitVec 32) : S4096.Idx → BitVec 32 :=
  Host.gather gather_S4096_S4096x1_S4096_n_0_n_n_0_1_1 A
    (broadcastInDim S4096x1 ![0] bcast_S4096_S4096x1_0
      (select (cmpi .slt (tab1 A) (broadcastInDim S4096 ![] bcast_S_S4096 (constantI S_ 32 0#32)))
        (addi (tab1 A) (broadcastInDim S4096 ![] bcast_S_S4096 (constantI S_ 32 4096#32))) (tab1 A)))

theorem sort2_vec {N : ℕ} {α β : Type} (cmp : α × β → α × β → BitVec 1) (x : (⟨1, ![N]⟩ : Shape).Idx → α) (y : (⟨1, ![N]⟩ : Shape).Idx → β) (k : Fin N) :
    (Host.sort2 ⟨1, ![N]⟩ 0 cmp x y).2 (ValueIdx.ix1 k)
      = y (ValueIdx.ix1 (sortedFrom (fun a b => cmp (x (ValueIdx.ix1 a), y (ValueIdx.ix1 a)) (x (ValueIdx.ix1 b), y (ValueIdx.ix1 b)) == 1#1) k)) := by
  let f : Fin N → (⟨1, ![N]⟩ : Shape).Idx := fun a => (ValueIdx.ix1 k : (⟨1, ![N]⟩ : Shape).Idx).along (0 : Fin 1) a
  have hf : f = fun a => ValueIdx.ix1 a := by
    funext a d; obtain rfl : d = 0 := Subsingleton.elim _ _
    exact Function.update_self (β := fun _ => Fin N) (0 : Fin 1) a (fun _ => k)
  have e : (Host.sort2 ⟨1, ![N]⟩ 0 cmp x y).2 (ValueIdx.ix1 k)
      = y (f (sortedFrom (fun (a b : Fin N) => cmp (x (f a), y (f a)) (x (f b), y (f b)) == 1#1) k)) := rfl
  rw [e, hf]

theorem tab1_apply (A : S4096.Idx → BitVec 32) (k : Fin 4096) : tab1 A (ValueIdx.ix1 k) = BitVec.ofNat 32 (ordOf A k).val :=
  sort2_vec (N := 4096) comparator_i32_i32_d0 A (iotaInDim S4096 32 0) k

theorem ordOf_apply (A : S4096.Idx → BitVec 32) (k : Fin 4096) : ordOf A k = sortedFrom (rel A) k :=
  Equiv.ofBijective_apply (sortedFrom (rel A)) ⟨sortedFrom_injective _, sortedFrom_surjective _⟩ k

theorem ofNat_self (x : BitVec 32) : x = BitVec.ofNat 32 x.toNat := by simp

theorem lenOf_mono (A : S4096.Idx → BitVec 32) (hA : ∀ k : Fin 4096, 1 ≤ (A (ValueIdx.ix1 k)).toNat ∧ (A (ValueIdx.ix1 k)).toNat ≤ 1024)
    (k k' : Fin 4096) (h : k ≤ k') : lenOf A k ≤ lenOf A k' := by
  have hb : ∀ p, (A (ValueIdx.ix1 p)).toNat < 2 ^ 31 := fun p => Nat.lt_of_le_of_lt (hA p).2 (by decide)
  have hr : ∀ a b, Iff (rel A a b = true) ((A (ValueIdx.ix1 a)).toNat < (A (ValueIdx.ix1 b)).toNat) := fun a b => by
    unfold rel; rw [beq_iff_eq]; exact StableHlo.Predicate.slt_iff_toNat (hb a) (hb b)
  have hn : ∀ a b, Iff (rel A a b = false) ((A (ValueIdx.ix1 b)).toNat ≤ (A (ValueIdx.ix1 a)).toNat) := fun a b => by
    rw [← Bool.not_eq_true, hr]; exact Nat.not_lt
  rcases Nat.lt_or_ge k.val k'.val with hlt | hge
  · have e := sortedFrom_noInversion (rel A) (rel A) (fun a b h => by rw [hr] at h; rw [hn]; exact Nat.le_of_lt h) (fun _ _ h => h)
      (fun a b c h h' => by rw [hn] at *; exact Nat.le_trans h' h) k k' hlt
    rw [hn] at e; unfold lenOf; exact e
  · obtain rfl : k = k' := Fin.ext (Nat.le_antisymm h hge)
    exact Nat.le_refl _

theorem wrap_apply (A : S4096.Idx → BitVec 32) (k : Fin 4096) :
    select (cmpi .slt (tab1 A) (broadcastInDim S4096 ![] bcast_S_S4096 (constantI S_ 32 0#32)))
        (addi (tab1 A) (broadcastInDim S4096 ![] bcast_S_S4096 (constantI S_ 32 4096#32))) (tab1 A) (ValueIdx.ix1 k) = BitVec.ofNat 32 (ordOf A k).val := by
  have h0 : cmpi .slt (tab1 A) (broadcastInDim S4096 ![] bcast_S_S4096 (constantI S_ 32 0#32)) (ValueIdx.ix1 k) = 0#1 := by
    show IntOp.cmpi .slt (tab1 A (ValueIdx.ix1 k)) 0#32 = 0#1
    have hk : (tab1 A (ValueIdx.ix1 k)).toNat = (ordOf A k).val := by
      rw [tab1_apply, BitVec.toNat_ofNat]; exact Nat.mod_eq_of_lt (Nat.lt_trans (ordOf A k).isLt (by decide))
    by_contra e
    have e1 : IntOp.cmpi .slt (tab1 A (ValueIdx.ix1 k)) 0#32 = 1#1 := by
      rcases BitVec.eq_zero_or_eq_one (IntOp.cmpi .slt (tab1 A (ValueIdx.ix1 k)) 0#32) with e' | e'
      · exact absurd e' e
      · exact e'
    rw [StableHlo.Predicate.slt_iff_toNat (by rw [hk]; exact Nat.lt_trans (ordOf A k).isLt (by decide)) (by decide)] at e1
    exact absurd e1 (by simp)
  show Scalar.select _ _ _ = _
  rw [h0]
  exact (if_neg (by decide)).trans (tab1_apply A k)

theorem tab2_apply (A : S4096.Idx → BitVec 32) (k : Fin 4096) : tab2 A (ValueIdx.ix1 k) = A (ValueIdx.ix1 (ordOf A k)) := by
  unfold tab2
  refine Routing.gather_take1 (N := 4096) (n := 4096) gather_S4096_S4096x1_S4096_n_0_n_n_0_1_1 rfl rfl rfl rfl A _ k (ordOf A k) ?_ (by omega)
  refine Eq.trans ?_ (wrap_apply A k)
  unfold broadcastInDim
  exact congrArg _ (funext fun a => by obtain rfl : a = 0 := Subsingleton.elim _ _; rfl)

theorem tab2_len (A : S4096.Idx → BitVec 32) (k : Fin 4096) : tab2 A (ValueIdx.ix1 k) = BitVec.ofNat 32 (lenOf A k) := by
  rw [tab2_apply, ordOf_apply]; exact ofNat_self _

theorem cast3 {α : Type} (x : S4096.Idx → α) (a : Fin 32) (b : Fin 128) :
    shapeCast S32x1x128 x shapeCasts_S4096_S32x1x128 (Idealize.ShloMosaic.ix3 a (0 : Fin 1) b) = x (Idealize.ShloMosaic.ix1 (⟨a.val * 128 + b.val, by omega⟩ : Fin 4096)) := by
  pointwise []

/-! ## The inputs from the memory at launch -/

/-- The kernel's inputs from its arguments: the number of query rows, the lengths, the query rows, the packed patches, the scales. -/
def mkInp (a0 : S1.Idx → Elt F .i32) (A : S4096.Idx → BitVec 32) (Q : S3840x128.Idx → Elt F .fp8e4m3) (B : S4096x4x1024.Idx → Elt F .i32)
    (S : S4096x1024.Idx → Elt F .f32) (h0 : (a0 (ValueIdx.ix1 0) : BitVec 32).toNat ≤ 3840)
    (hA : ∀ k : Fin 4096, 1 ≤ (A (ValueIdx.ix1 k)).toNat ∧ (A (ValueIdx.ix1 k)).toNat ≤ 1024) : Inp F where
  B := B
  S := shapeCast S4096x1x1024 S shapeCasts_S4096x1024_S4096x1x1024
  T1 := tab1 A
  T2 := tab2 A
  T3 := a0
  L := shapeCast S32x1x128 (tab2 A) shapeCasts_S4096_S32x1x128
  Q := Q
  ord := ordOf A
  len := lenOf A
  nv := (a0 (ValueIdx.ix1 0) : BitVec 32).toNat
  hT1 k := by
    refine (congrArg BitVec.toNat (tab1_apply A k)).trans ?_
    rw [BitVec.toNat_ofNat]; exact Nat.mod_eq_of_lt (Nat.lt_trans (ordOf A k).isLt (by decide))
  hT2 k := tab2_len A k
  hL k := by
    refine Eq.trans ?_ (tab2_len A k)
    refine (cast3 (tab2 A) _ _).trans (congrArg (tab2 A) (funext fun d => ?_))
    obtain rfl : d = 0 := Subsingleton.elim _ _
    exact Fin.ext (by show k.val / 128 * 128 + k.val % 128 = k.val; omega)
  hT3 := ofNat_self _
  hnv := h0
  hlen k := hA _
  hmono := lenOf_mono A hA

theorem holds_mkInp (m : (ℓ : Loc nD τ sig) → Buf (Elt F) ℓ) (c : Dev nD) (h0 hA) :
    Holds (mkInp (m ((c : Thread nD τ).loc main_arg0)) (m ((c : Thread nD τ).loc main_arg1)) (m ((c : Thread nD τ).loc main_arg2))
      (m ((c : Thread nD τ).loc main_arg3)) (m ((c : Thread nD τ).loc main_arg4)) h0 hA) m where
  hB c' := by obtain rfl : c' = c := Subsingleton.elim _ _; dsimp only [V, hostOps0, hostOps0_1, List.flatten_cons, List.flatten_nil, List.append_nil, List.cons_append, List.nil_append]; after_results; rfl
  hS c' := by obtain rfl : c' = c := Subsingleton.elim _ _; dsimp only [V, hostOps0, hostOps0_1, List.flatten_cons, List.flatten_nil, List.append_nil, List.cons_append, List.nil_append]; after_results; rfl
  hA c' := by obtain rfl : c' = c := Subsingleton.elim _ _; dsimp only [V, hostOps0, hostOps0_1, List.flatten_cons, List.flatten_nil, List.append_nil, List.cons_append, List.nil_append]; after_results; rfl
  hN c' := by obtain rfl : c' = c := Subsingleton.elim _ _; dsimp only [V, hostOps0, hostOps0_1, List.flatten_cons, List.flatten_nil, List.append_nil, List.cons_append, List.nil_append]; after_results; rfl
  hV c' := by obtain rfl : c' = c := Subsingleton.elim _ _; dsimp only [V, hostOps0, hostOps0_1, List.flatten_cons, List.flatten_nil, List.append_nil, List.cons_append, List.nil_append]; after_results; rfl
  hL c' := by obtain rfl : c' = c := Subsingleton.elim _ _; dsimp only [V, hostOps0, hostOps0_1, List.flatten_cons, List.flatten_nil, List.append_nil, List.cons_append, List.nil_append]; after_results; rfl
  hQ c' := by obtain rfl : c' = c := Subsingleton.elim _ _; dsimp only [V, hostOps0, hostOps0_1, List.flatten_cons, List.flatten_nil, List.append_nil, List.cons_append, List.nil_append]; after_results; rfl

end Cert.Kernel.Hand

end
-- ==== Proof.Eq.lean ====
/-
  The idealized program is the program: they are equal by definition, so that what is proved of one holds of the other.
-/
module
public import proofs.«01_k».proof.Proof.Gen.Kernel
public import proofs.«01_k».proof.Proof.Gen.KernelIdeal
@[expose] public section
noncomputable section
open Idealize.ShloMosaic
variable {F : FTy → Type} [FloatOps F]
namespace Cert.Kernel.Hand
theorem sig_eq : Cert.KernelIdeal.sig = Cert.Kernel.sig := rfl
theorem lam_eq : Cert.KernelIdeal.Λ₀ = Cert.Kernel.Λ₀ := rfl
set_option maxRecDepth 100000 in
theorem main_eq : Cert.KernelIdeal.main (F := F) = Cert.Kernel.main (F := F) := rfl
set_option maxRecDepth 100000 in
theorem defs₀_eq : Cert.KernelIdeal.defs₀ (F := F) = Cert.Kernel.defs₀ (F := F) := by
  unfold Cert.KernelIdeal.defs₀ Cert.Kernel.defs₀
  refine congrArg (Defs.onTc (nD := Cert.Kernel.nD) (τ := Cert.Kernel.τ) (sig := Cert.Kernel.sig) (Val := Elt F) (Λ := Cert.Kernel.Λ₀)) ?_
  funext ℓ x
  match ℓ, x with
  | (0 : Fin 1), (t, s) => rfl
  | ⟨_ + 1, h⟩, _ => exact absurd h (by omega)
set_option maxRecDepth 100000 in
theorem defs_eq : Cert.KernelIdeal.defs (F := F) = Cert.Kernel.defs (F := F) := congrArg (fun d => Pipeline.defs (Cert.Kernel.pcfgs (F := F)) d) defs₀_eq
end Cert.Kernel.Hand
end
-- ==== Proof.Frames.lean ====
/-
  The ranges the precondition states, and what a run of the program ends with from them.
-/
module

public import proofs.«01_k».proof.Proof.Sorted
public import proofs.«01_k».proof.Proof.Eq
public import proofs.«01_k».proof.Proof.Gen.Pre_in_range
public import Idealize.ShloMosaic.Lib.WordCmp

@[expose] public section

noncomputable section

namespace Cert.Kernel.Hand

open Cert.Kernel Cert.Kernel.Gen
open Idealize.ShloMosaic Idealize.ShloMosaic.TcCoe Idealize.ShloMosaic.Tactic
open Idealize.ShloMosaic.WordCmp
open Idealize.ShloMosaic.ValueIdx hiding ix0 ix1 ix2 ix3 ix4
open Idealize.SL Idealize.SL.RA Idealize.SL.BI
open Idealize.SL.ProofMode Idealize.SL.Sem

variable {F : FTy → Type} [FloatOps F]

theorem word_range (x : BitVec 32) (a b : ℕ) (ha : a < 2 ^ 31) (hb : b < 2 ^ 31)
    (h : IntOp.andi (IntOp.cmpi .sge x (BitVec.ofNat 32 a)) (IntOp.cmpi .sle x (BitVec.ofNat 32 b)) = 1#1) : a ≤ x.toNat ∧ x.toNat ≤ b := by
  rw [cmpi_sge_eq, cmpi_sle_eq, andi_ofBool, ofBool_eq_one_iff, Bool.and_eq_true, decide_eq_true_eq, decide_eq_true_eq,
    toInt_ofNat_of_lt ha, toInt_ofNat_of_lt hb] at h
  obtain ⟨h1, h2⟩ := h
  rw [BitVec.toInt_eq_toNat_cond] at h1 h2
  have := x.isLt
  split at h1 <;> split at h2 <;> omega

/-- The number of query rows is at most 3840. -/
theorem pre_nv (a0 : IVec S1 32) (a1 : IVec S4096 32) (a2 : FVec F S3840x128 .fp8e4m3) (a3 : IVec S4096x4x1024 32) (a4 : FVec F S4096x1024 .f32)
    (h : (Cert.Pre_in_range.fn a0 a1 a2 a3 a4).1 = fun _ => 1#1) : (a0 (ValueIdx.ix1 0) : BitVec 32).toNat ≤ 3840 :=
  (word_range (a0 (ValueIdx.ix1 0)) 0 3840 (by decide) (by decide) (congrFun h (ValueIdx.ix1 0))).2

/-- Every page holds between one and 1024 patches. -/
theorem pre_len (a0 : IVec S1 32) (a1 : IVec S4096 32) (a2 : FVec F S3840x128 .fp8e4m3) (a3 : IVec S4096x4x1024 32) (a4 : FVec F S4096x1024 .f32)
    (h : (Cert.Pre_in_range.fn a0 a1 a2 a3 a4).2 = fun _ => 1#1) (k : Fin 4096) : 1 ≤ (a1 (ValueIdx.ix1 k)).toNat ∧ (a1 (ValueIdx.ix1 k)).toNat ≤ 1024 :=
  word_range (a1 (ValueIdx.ix1 k)) 1 1024 (by decide) (by decide) (congrFun h (ValueIdx.ix1 k))

theorem keeps (m : (ℓ : Loc nD τ sig) → Buf (Elt F) ℓ) (c : Dev nD) : V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3) ∧ V m c main_arg4 = m ((c : Thread nD τ).loc main_arg4) := by
  refine ⟨?_, ?_, ?_, ?_, ?_⟩ <;>
  · dsimp only [V, hostOps0, hostOps0_1, List.flatten_cons, List.flatten_nil, List.append_nil, List.cons_append, List.nil_append]; after_results

/-- The run from arguments in range. -/
theorem run_range (m : (ℓ : Loc nD τ sig) → Buf (Elt F) ℓ) (ρ : Dev nD → PrngReg) (h0 : (m (((0 : Dev nD) : Thread nD τ).loc main_arg0) (ValueIdx.ix1 0) : BitVec 32).toNat ≤ 3840)
    (hA : ∀ k : Fin 4096, 1 ≤ (m (((0 : Dev nD) : Thread nD τ).loc main_arg1) (ValueIdx.ix1 k)).toNat ∧ (m (((0 : Dev nD) : Thread nD τ).loc main_arg1) (ValueIdx.ix1 k)).toNat ≤ 1024) :
    θ_run defs (onTc (τ := τ) (main (F := F))) ⟨m, fun _ => 0, ρ⟩ (fun r => (∀ c : Dev nD,
      r.2.mem ((c.tc : Thread nD τ).loc main_v10) = outFin (mkInp (m (((0 : Dev nD) : Thread nD τ).loc main_arg0)) (m (((0 : Dev nD) : Thread nD τ).loc main_arg1)) (m (((0 : Dev nD) : Thread nD τ).loc main_arg2))
          (m (((0 : Dev nD) : Thread nD τ).loc main_arg3)) (m (((0 : Dev nD) : Thread nD τ).loc main_arg4)) h0 hA)
        (TF (mkInp (m (((0 : Dev nD) : Thread nD τ).loc main_arg0)) (m (((0 : Dev nD) : Thread nD τ).loc main_arg1)) (m (((0 : Dev nD) : Thread nD τ).loc main_arg2))
          (m (((0 : Dev nD) : Thread nD τ).loc main_arg3)) (m (((0 : Dev nD) : Thread nD τ).loc main_arg4)) h0 hA))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  run_value m ρ _ (holds_mkInp m 0 h0 hA) (keeps m)

set_option maxRecDepth 100000 in
/-- The same of the idealized program. -/
theorem run_range_ideal (m : (ℓ : Loc nD τ sig) → Buf (Elt F) ℓ) (ρ : Dev nD → PrngReg) (h0 : (m (((0 : Dev nD) : Thread nD τ).loc main_arg0) (ValueIdx.ix1 0) : BitVec 32).toNat ≤ 3840)
    (hA : ∀ k : Fin 4096, 1 ≤ (m (((0 : Dev nD) : Thread nD τ).loc main_arg1) (ValueIdx.ix1 k)).toNat ∧ (m (((0 : Dev nD) : Thread nD τ).loc main_arg1) (ValueIdx.ix1 k)).toNat ≤ 1024) :
    θ_run (Cert.KernelIdeal.defs (F := F)) (onTc (τ := τ) (Cert.KernelIdeal.main (F := F))) ⟨m, fun _ => 0, ρ⟩ (fun r => (∀ c : Dev nD,
      r.2.mem ((c.tc : Thread nD τ).loc main_v10) = outFin (mkInp (m (((0 : Dev nD) : Thread nD τ).loc main_arg0)) (m (((0 : Dev nD) : Thread nD τ).loc main_arg1)) (m (((0 : Dev nD) : Thread nD τ).loc main_arg2))
          (m (((0 : Dev nD) : Thread nD τ).loc main_arg3)) (m (((0 : Dev nD) : Thread nD τ).loc main_arg4)) h0 hA)
        (TF (mkInp (m (((0 : Dev nD) : Thread nD τ).loc main_arg0)) (m (((0 : Dev nD) : Thread nD τ).loc main_arg1)) (m (((0 : Dev nD) : Thread nD τ).loc main_arg2))
          (m (((0 : Dev nD) : Thread nD τ).loc main_arg3)) (m (((0 : Dev nD) : Thread nD τ).loc main_arg4)) h0 hA))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  have e := run_range m ρ h0 hA
  rw [← main_eq, ← defs_eq] at e
  exact e

end Cert.Kernel.Hand

end
-- ==== Proof.Signs.lean ====
/-
  The bytes of a word shifted, masked and combined are the patterns of one and of minus one, by the word's bits.
-/
module

public import proofs.«01_k».proof.Proof.QuadPure
public import Idealize.ShloMosaic.Lib.BitcastPair

@[expose] public section

noncomputable section

namespace Cert.Kernel.Hand

open Cert.Kernel Cert.Kernel.Gen
open Idealize.ShloMosaic Idealize.ShloMosaic.TcCoe Idealize.ShloMosaic.Tactic
open Idealize.ShloMosaic.ValueIdx hiding ix0 ix1 ix2 ix3 ix4

/-- The sign row `e` of a word's thirty-two stands for. -/
def sgnW (x : BitVec 32) (e : ℕ) : EReal := if x.getLsbD (8 * (e % 4) + 7 - e / 4) then 1 else -1

theorem one_fp8 : Ideal.ofBits .fp8e4m3 0x38#8 = 1 := by
  simp [Ideal.ofBits, Ideal.e4m3fn, -EReal.coe_mul]; norm_num
theorem neg_one_fp8 : Ideal.ofBits .fp8e4m3 0xB8#8 = -1 := by
  simp [Ideal.ofBits, Ideal.e4m3fn, -EReal.coe_mul]; norm_num

theorem bitcast_32_8 {s t : Shape} (x : s.Idx → BitVec 32) (h : s.Bitcasts 32 t 8) (j : t.Idx) :
    bitcast t 8 x h j = (x (h.srcIdx j (t.row j / 4) (fun a ha => by
        have := h.pos_lt j 0 (by decide) a ha; omega))).extractLsb' (8 * (t.row j % 4)) 8 := by
  apply BitVec.eq_of_getLsbD_eq
  intro i hi
  rw [bitcast_getLsbD x h j i hi (by decide), BitVec.getLsbD_extractLsb']
  have ep : (t.row j * 8 + i) / 32 = t.row j / 4 := by omega
  have eq : (t.row j * 8 + i) % 32 = 8 * (t.row j % 4) + i := by omega
  rw [h.srcIdx_congr j ep _ (fun a ha => by have := h.pos_lt j 0 (by decide) a ha; omega), eq]
  simp [hi]

theorem byte_fin (x : BitVec 32) (a : Fin 8) (b : Fin 4) :
    (((x <<< a.val) &&& 2155905152#32) ^^^ 3099113656#32).extractLsb' (8 * b.val) 8 = if x.getLsbD (8 * b.val + 7 - a.val) then 0x38#8 else 0xB8#8 := by
  apply BitVec.eq_of_getLsbD_eq
  intro i hi
  have hi' : i = 0 ∨ i = 1 ∨ i = 2 ∨ i = 3 ∨ i = 4 ∨ i = 5 ∨ i = 6 ∨ i = 7 := by omega
  rw [BitVec.getLsbD_extractLsb', BitVec.getLsbD_xor, BitVec.getLsbD_and, BitVec.getLsbD_shiftLeft]
  fin_cases b <;> rcases hi' with rfl | rfl | rfl | rfl | rfl | rfl | rfl | rfl <;>
    (split <;> rename_i hx <;> fin_cases a <;> simp_all <;> decide)

/-- One word row spread over thirty-two sign rows. -/
def spread (bw : Vec Ideal S1x1x128 .i32) : FVec Ideal S32x128 .fp8e4m3 := k0_pay37 v56c bw

theorem v56c_at (a : Fin 8) (l : Fin 128) : v56c (ix2 a l) = BitVec.ofNat 32 a.val := by
  pointwise [v56c]

theorem word_at (bw : Vec Ideal S1x1x128 .i32) (a : Fin 8) (l : Fin 128) :
    (xori (andi (shli (broadcastTo S8x128 (shapeCast S1x128 (shapeCast S1x128 bw shapeCasts_S1x1x128_S1x128) shapeCasts_S1x128_S1x128) broadcasts_S1x128_S8x128) v56c) (broadcast S8x128 2155905152#32)) (broadcast S8x128 3099113656#32) : IVec S8x128 32) (ix2 a l)
      = (((bw (ix3 (0 : Fin 1) (0 : Fin 1) l) : BitVec 32) <<< a.val) &&& 2155905152#32) ^^^ 3099113656#32 := by
  have e : (xori (andi (shli (broadcastTo S8x128 (shapeCast S1x128 (shapeCast S1x128 bw shapeCasts_S1x1x128_S1x128) shapeCasts_S1x128_S1x128) broadcasts_S1x128_S8x128) v56c) (broadcast S8x128 2155905152#32)) (broadcast S8x128 3099113656#32) : IVec S8x128 32) (ix2 a l)
      = IntOp.xori (IntOp.andi (IntOp.shli .vector (bw (ix3 (0 : Fin 1) (0 : Fin 1) l)) (v56c (ix2 a l))) 2155905152#32) 3099113656#32 := by
    pointwise []
  have ha := a.isLt
  have ht : (BitVec.ofNat 32 a.val).toNat = a.val := by rw [BitVec.toNat_ofNat]; omega
  have hs : IntOp.shli .vector (bw (ix3 (0 : Fin 1) (0 : Fin 1) l) : BitVec 32) (BitVec.ofNat 32 a.val) = (bw (ix3 (0 : Fin 1) (0 : Fin 1) l) : BitVec 32) <<< a.val := by
    unfold IntOp.shli
    rw [if_pos (by rw [ht]; omega)]
    rw [BitVec.shiftLeft_eq', ht]
  rw [e, v56c_at, hs]
  rfl

theorem spread_at (bw : Vec Ideal S1x1x128 .i32) (e : Fin 32) (l : Fin 128) : spread bw (ix2 e l) = sgnW (bw (ix3 (0 : Fin 1) (0 : Fin 1) l)) e.val := by
  have h : spread bw (ix2 e l) = Ideal.ofBits .fp8e4m3 ((bitcast S32x128 8 (xori (andi (shli (broadcastTo S8x128 (shapeCast S1x128 (shapeCast S1x128 bw shapeCasts_S1x1x128_S1x128) shapeCasts_S1x128_S1x128) broadcasts_S1x128_S8x128) v56c) (broadcast S8x128 2155905152#32)) (broadcast S8x128 3099113656#32) : IVec S8x128 32) bitcasts_S8x128_w32_S32x128_w8) (ix2 e l)) := rfl
  rw [h, bitcast_32_8]
  have hr : S32x128.row (ix2 e l) = e.val := rfl
  have hi : (bitcasts_S8x128_w32_S32x128_w8).srcIdx (ix2 e l) (S32x128.row (ix2 e l) / 4) (fun a ha => by
        have := (bitcasts_S8x128_w32_S32x128_w8).pos_lt (ix2 e l) 0 (by decide) a ha; omega) = (ix2 (⟨e.val / 4, by omega⟩ : Fin 8) l : S8x128.Idx) := by
    funext d; apply Fin.ext; fin_cases d
    · rfl
    · rfl
  rw [hi, hr, word_at, byte_fin _ (⟨e.val / 4, by omega⟩ : Fin 8) (⟨e.val % 4, by omega⟩ : Fin 4)]
  unfold sgnW
  split
  · exact one_fp8
  · exact neg_one_fp8

end Cert.Kernel.Hand

end
-- ==== Proof.QuadAt.lean ====
/-
  What one quad of patches makes of an accumulator row, as sums over the row's components.
-/
module

public import proofs.«01_k».proof.Proof.Signs

@[expose] public section

noncomputable section

namespace Cert.Kernel.Hand

open Cert.Kernel Cert.Kernel.Gen
open Idealize.ShloMosaic Idealize.ShloMosaic.TcCoe Idealize.ShloMosaic.Tactic
open Idealize.ShloMosaic.ValueIdx hiding ix0 ix1 ix2 ix3 ix4

/-- The four word rows of a patch, spread and stacked. -/
def col (bw : Fin 4 → Vec Ideal S1x1x128 .i32) : FVec Ideal S128x128 .fp8e4m3 :=
  concatenate S128x128 0 [⟨S32x128, spread (bw 0)⟩, ⟨S32x128, spread (bw 1)⟩, ⟨S32x128, spread (bw 2)⟩, ⟨S32x128, spread (bw 3)⟩] concatenates_S32x128_S32x128_S32x128_S32x128_S128x128_d0

/-- Two patches side by side. -/
def side (x y : FVec Ideal S128x128 .fp8e4m3) : FVec Ideal S128x256 .fp8e4m3 :=
  concatenate S128x256 1 [⟨S128x128, x⟩, ⟨S128x128, y⟩] concatenates_S128x128_S128x128_S128x256_d1

/-- The running maximum after two patches. -/
def half (x y : FVec Ideal S128x128 .fp8e4m3) (s0 s1 : FVec Ideal S1x128 .f32) (qb : FVec Ideal S256x128 .fp8e4m3) (ab : FVec Ideal S256x128 .f32) : FVec Ideal S256x128 .f32 :=
  maximumf ab (maximumf
    (mulf (extractStridedSlice S256x128 ![0, 0] (matmul dot_S256x128_S128x256_S256x256_1_0_0_1_n_n none qb (side x y) (constant S256x256 .f32 0x00000000#32)) slices_S256x256_o0_0_S256x128) (broadcastTo S256x128 s0 broadcasts_S1x128_S256x128))
    (mulf (extractStridedSlice S256x128 ![0, 128] (matmul dot_S256x128_S128x256_S256x256_1_0_0_1_n_n none qb (side x y) (constant S256x256 .f32 0x00000000#32)) slices_S256x256_o0_128_S256x128) (broadcastTo S256x128 s1 broadcasts_S1x128_S256x128)))

theorem quadVal_eq (bw : Fin 4 → Fin 4 → Vec Ideal S1x1x128 .i32) (sc : Fin 4 → Vec Ideal S1x128 .f32) (qb : Vec Ideal S256x128 .fp8e4m3) (ab : Vec Ideal S256x128 .f32) :
    quadVal v56c bw sc qb ab
      = shapeCast S256x128 (half (col fun w => bw w 2) (col fun w => bw w 3) (sc 2) (sc 3) qb (half (col fun w => bw w 0) (col fun w => bw w 1) (sc 0) (sc 1) qb ab)) shapeCasts_S256x128_S256x128 := rfl

theorem col_at (bw : Fin 4 → Vec Ideal S1x1x128 .i32) (e l : Fin 128) :
    col bw (ix2 e l) = sgnW (bw (⟨e.val / 32, by omega⟩ : Fin 4) (ix3 (0 : Fin 1) (0 : Fin 1) l)) (e.val % 32) := by
  have he := e.isLt
  have h : e.val < 32 ∨ 32 ≤ e.val ∧ e.val < 64 ∨ 64 ≤ e.val ∧ e.val < 96 ∨ 96 ≤ e.val ∧ e.val < 128 := by omega
  have hb : ∀ (w w' : Fin 4) (e₁ e₂ : ℕ), w = w' → e₁ = e₂ → sgnW (bw w (ix3 (0 : Fin 1) (0 : Fin 1) l)) e₁ = sgnW (bw w' (ix3 (0 : Fin 1) (0 : Fin 1) l)) e₂ := by
    rintro w _ e₁ _ rfl rfl; rfl
  pointwise [col]
  split
  · rw [spread_at]; exact hb _ _ _ _ (Fin.ext (by show 0 = e.val / 32; omega)) (by show e.val = _; omega)
  · split
    · rw [spread_at]; exact hb _ _ _ _ (Fin.ext (by show 1 = e.val / 32; omega)) (by show e.val - 32 = _; omega)
    · split
      · rw [spread_at]; exact hb _ _ _ _ (Fin.ext (by show 2 = e.val / 32; omega)) (by show e.val - 32 - 32 = _; omega)
      · rw [spread_at]; exact hb _ _ _ _ (Fin.ext (by show 3 = e.val / 32; omega)) (by show e.val - 32 - 32 - 32 = _; omega)

theorem half_at (x y : FVec Ideal S128x128 .fp8e4m3) (s0 s1 : Vec Ideal S1x128 .f32) (qb : Vec Ideal S256x128 .fp8e4m3) (ab : FVec Ideal S256x128 .f32) (r : Fin 256) (l : Fin 128) :
    half x y s0 s1 qb ab (ix2 r l) = max (ab (ix2 r l)) (max ((∑ e : Fin 128, qb (ix2 r e) * x (ix2 e l)) * s0 (ix2 (0 : Fin 1) l)) ((∑ e : Fin 128, qb (ix2 r e) * y (ix2 e l)) * s1 (ix2 (0 : Fin 1) l))) := by
  pointwise [half, side]

end Cert.Kernel.Hand

end
-- ==== Proof.Best.lean ====
/-
  The accumulator as the largest scaled product over the patches taken so far, and the kernel's result in terms of its arguments.
-/
module

public import proofs.«01_k».proof.Proof.QuadAt
public import proofs.«01_k».proof.Proof.Frames

@[expose] public section

noncomputable section

namespace Cert.Kernel.Hand

open Cert.Kernel Cert.Kernel.Gen
open Idealize.ShloMosaic Idealize.ShloMosaic.TcCoe Idealize.ShloMosaic.Tactic
open Idealize.ShloMosaic.ValueIdx hiding ix0 ix1 ix2 ix3 ix4

variable (X : Inp Ideal)

/-- Query row `n`'s product with patch `j` of the page at place `p` of tile `g`, scaled. -/
def val (g : ℕ) (n : Fin 3840) (p : Fin 128) (j : ℕ) : EReal :=
  (∑ e : Fin 128, (X.Q (ix2 n e) : EReal) * sgnW (tbc X g (⟨e.val / 32, by omega⟩ : Fin 4) (⟨j % 1024, Nat.mod_lt _ (by omega)⟩ : Fin 1024) p) (e.val % 32))
    * (tsc X g (⟨j % 1024, Nat.mod_lt _ (by omega)⟩ : Fin 1024) p : EReal)

theorem acc_zero (g : ℕ) (x : S3840x128.Idx) : accOf X g 0 x = (⊥ : EReal) := by
  show k0_pay81 (F := Ideal) _ = _
  have e : ∀ (r : Fin 256) (l : Fin 128), k0_pay81 (F := Ideal) (ix2 r l) = Ideal.ofBits .f32 0xFF800000#32 := fun r l => by
    pointwise [k0_pay81]
  refine (e _ _).trans ?_
  simp [Ideal.ofBits, Ideal.ieee]

theorem cast_same (x : FVec Ideal S256x128 .f32) (r : Fin 256) (l : Fin 128) : shapeCast S256x128 x shapeCasts_S256x128_S256x128 (ix2 r l) = x (ix2 r l) := by
  pointwise []

theorem blk_row {e : EltTy} (f : S3840x128.Idx → Elt Ideal e) (n : Fin 3840) (l : Fin 128) : blk (F := Ideal) f (n.val / 256) (ix2 (⟨n.val % 256, Nat.mod_lt _ (by omega)⟩ : Fin 256) l) = f (ix2 n l) := by
  have hn := n.isLt
  refine congrArg f ((ix2_self _ _ _ ?_ rfl).symm)
  show n.val = (256 * (n.val / 256) + n.val % 256) % 3840
  rw [show 256 * (n.val / 256) + n.val % 256 = n.val by omega, Nat.mod_eq_of_lt hn]

theorem acc_succ (g t : ℕ) (n : Fin 3840) (p : Fin 128) :
    accOf X g (t + 1) (ix2 n p) = max (max (accOf X g t (ix2 n p) : EReal) (max (val X g n p (4 * t)) (val X g n p (4 * t + 1)))) (max (val X g n p (4 * t + 2)) (val X g n p (4 * t + 3))) := by
  show quadVal v56c (bwV X g t) (scV X g t) (blk X.Q (n.val / 256)) (blk (accOf X g t) (n.val / 256)) (ix2 (⟨n.val % 256, Nat.mod_lt _ (by omega)⟩ : Fin 256) p) = _
  rw [quadVal_eq, cast_same, half_at, half_at, blk_row]
  have hq : ∀ q : Fin 4, (∑ e : Fin 128, (blk X.Q (n.val / 256) (ix2 (⟨n.val % 256, Nat.mod_lt _ (by omega)⟩ : Fin 256) e) : EReal) * col (fun w => bwV X g t w q) (ix2 e p)) * scV X g t q (ix2 (0 : Fin 1) p) = val X g n p (4 * t + q.val) := fun q => by
    unfold val
    refine congrArg₂ (· * ·) (Finset.sum_congr rfl fun e _ => ?_) rfl
    rw [blk_row, col_at]
    rfl
  exact congrArg₂ max (congrArg₂ max rfl (congrArg₂ max (hq 0) (hq 1))) (congrArg₂ max (hq 2) (hq 3))

/-- The accumulator after `t` quads is the largest over the first `4 t` patches. -/
theorem acc_sup (g t : ℕ) (n : Fin 3840) (p : Fin 128) : accOf X g t (ix2 n p) = (Finset.range (4 * t)).sup (val X g n p) := by
  induction t with
  | zero => rw [acc_zero]; rfl
  | succ t ih =>
    rw [acc_succ, ih]
    refine eq_of_forall_ge_iff fun b => ?_
    rw [max_le_iff, max_le_iff, max_le_iff, max_le_iff, show 4 * (t + 1) = 4 * t + 1 + 1 + 1 + 1 by omega,
      Finset.range_add_one, Finset.range_add_one, Finset.range_add_one, Finset.range_add_one,
      Finset.sup_insert, Finset.sup_insert, Finset.sup_insert, Finset.sup_insert, sup_le_iff, sup_le_iff, sup_le_iff, sup_le_iff]
    tauto

theorem val_zero (g : ℕ) (n : Fin 3840) (p : Fin 128) (j : ℕ) (hj : j < 1024) (h : ¬ j < X.ln (128 * g + p.val)) : val X g n p j = val X g n p 0 := by
  have e : j % 1024 = j := Nat.mod_eq_of_lt hj
  have h1 : ∀ w, tbc X g w (⟨j % 1024, Nat.mod_lt _ (by omega)⟩ : Fin 1024) p = tbc X g w (⟨0 % 1024, Nat.mod_lt _ (by omega)⟩ : Fin 1024) p := fun w => by
    refine Eq.trans ?_ (tbc_zero X g w p).symm
    unfold tbc
    rw [if_neg (by show ¬ j % 1024 < _; rw [e]; exact h)]
  have h2 : tsc X g (⟨j % 1024, Nat.mod_lt _ (by omega)⟩ : Fin 1024) p = tsc X g (⟨0 % 1024, Nat.mod_lt _ (by omega)⟩ : Fin 1024) p := by
    refine Eq.trans ?_ (tsc_zero X g p).symm
    unfold tsc
    rw [if_neg (by show ¬ j % 1024 < _; rw [e]; exact h)]
  unfold val
  refine congrArg₂ (· * ·) (Finset.sum_congr rfl fun e _ => ?_) h2
  rw [h1]

theorem ln_mono (g : ℕ) (hg : g < 32) (p : Fin 128) : X.ln (128 * g + p.val) ≤ X.ln (128 * g + 127) := by
  have hp := p.isLt
  unfold Inp.ln
  rw [dif_pos (by omega), dif_pos (by omega)]
  exact X.hmono _ _ (by show 128 * g + p.val ≤ 128 * g + 127; omega)

theorem sup_pad (f : ℕ → EReal) (N l : ℕ) (hN : N ≤ 1024) (h0 : 0 < N) (hl : l ≤ N) (hf : ∀ j, j < 1024 → ¬ j < l → f j = f 0) :
    (Finset.range N).sup f = Finset.univ.sup fun j : Fin 1024 => f j.val := by
  refine le_antisymm (Finset.sup_le fun j hj => ?_) (Finset.sup_le fun j _ => ?_)
  · have hj' := Finset.mem_range.1 hj
    have := Finset.le_sup (f := fun j : Fin 1024 => f j.val) (Finset.mem_univ (⟨j, by omega⟩ : Fin 1024))
    exact this
  · by_cases h : j.val < l
    · exact Finset.le_sup (f := f) (Finset.mem_range.2 (by omega))
    · rw [hf j.val j.isLt h]
      exact Finset.le_sup (f := f) (Finset.mem_range.2 h0)

/-- All the patches of the padded page. -/
theorem sup_quads (g : ℕ) (hg : g < 32) (n : Fin 3840) (p : Fin 128) :
    (Finset.range (4 * quads X g)).sup (val X g n p) = Finset.univ.sup fun j : Fin 1024 => val X g n p j.val := by
  have hm := ln_mono X g hg p
  have h1 := X.ln_pos (128 * g + p.val)
  have h2 := X.ln_le (128 * g + 127)
  have hq : 4 * quads X g = 4 * ((X.ln (128 * g + 127) + 3) / 4) := rfl
  generalize hv : val X g n p = f
  refine sup_pad f _ (X.ln (128 * g + p.val)) (by omega) (by omega) (by omega) fun j hj h => ?_
  rw [← hv]
  exact val_zero X g n p j hj h

/-- What the result holds for page `k` and query row `n`, from the arguments. -/
def spec (a0 : ℕ) (A : Fin 4096 → ℕ) (Q : S3840x128.Idx → EReal) (B : S4096x4x1024.Idx → BitVec 32) (S : S4096x1024.Idx → EReal) (k : Fin 4096) (n : Fin 3840) : EReal :=
  if n.val < 128 * ((a0 + 127) / 128) then
    Finset.univ.sup fun j : Fin 1024 =>
      (∑ e : Fin 128, Q (ix2 n e) * sgnW (B (ix3 k (⟨e.val / 32, by omega⟩ : Fin 4) (if j.val < A k then j else (⟨0, by omega⟩ : Fin 1024)))) (e.val % 32))
        * S (ix2 k (if j.val < A k then j else (⟨0, by omega⟩ : Fin 1024)))
  else 0

theorem tile_val (g : ℕ) (hg : g < 32) (p : Fin 128) (n : Fin 3840) :
    TF X g (ix3 p (0 : Fin 1) n) = if n.val < 128 * ((X.nv + 127) / 128) then (Finset.univ.sup fun j : Fin 1024 => val X g n p j.val) else (0 : EReal) := by
  show (if n.val < 128 * ((X.nv + 127) / 128) then accOf X g (quads X g) (ix2 n p) else k0_pay73 (F := Ideal) (ix3 p (0 : Fin 1) n)) = _
  split
  · rename_i h
    exact (acc_sup X g _ n p).trans (sup_quads X g hg n p)
  · pointwise [k0_pay73]

theorem castS (S : S4096x1024.Idx → EReal) (k : Fin 4096) (j : Fin 1024) :
    (shapeCast S4096x1x1024 S shapeCasts_S4096x1024_S4096x1x1024 : FVec Ideal S4096x1x1024 .f32) (ix3 k (0 : Fin 1) j) = S (ix2 k j) := by
  pointwise []

theorem out_val (a0 : S1.Idx → Elt Ideal .i32) (A : S4096.Idx → BitVec 32) (Q : S3840x128.Idx → Elt Ideal .fp8e4m3) (B : S4096x4x1024.Idx → Elt Ideal .i32)
    (S : S4096x1024.Idx → Elt Ideal .f32) (h0 hA) (k : Fin 4096) (n : Fin 3840) :
    outFin (mkInp a0 A Q B S h0 hA) (TF (mkInp a0 A Q B S h0 hA)) (ix3 k (0 : Fin 1) n)
      = spec (a0 (ValueIdx.ix1 0) : BitVec 32).toNat (fun k => (A (ValueIdx.ix1 k)).toNat) Q B S k n := by
  obtain ⟨s, hs⟩ : ∃ s, (ordOf A).symm k = s := ⟨_, rfl⟩
  have hk : ordOf A s = k := by rw [← hs]; exact Equiv.apply_symm_apply _ _
  have hsl := s.isLt
  have hu : outFin (mkInp a0 A Q B S h0 hA) (TF (mkInp a0 A Q B S h0 hA)) (ix3 k (0 : Fin 1) n)
      = TF (mkInp a0 A Q B S h0 hA) (s.val / 128) (ix3 (⟨s.val % 128, Nat.mod_lt _ (by omega)⟩ : Fin 128) (0 : Fin 1) n) := by
    rw [← hs]; rfl
  have hi : 128 * (s.val / 128) + s.val % 128 = s.val := by omega
  have hpg : (mkInp a0 A Q B S h0 hA).pg (128 * (s.val / 128) + s.val % 128) = k.val := by
    rw [hi]; unfold Inp.pg; rw [dif_pos hsl]; exact congrArg Fin.val hk
  have hln : (mkInp a0 A Q B S h0 hA).ln (128 * (s.val / 128) + s.val % 128) = (A (ValueIdx.ix1 k)).toNat := by
    rw [hi]; unfold Inp.ln; rw [dif_pos hsl]
    show (A (ValueIdx.ix1 (sortedFrom (rel A) s))).toNat = _
    rw [← ordOf_apply, hk]
  rw [hu, tile_val _ _ (by omega)]
  unfold spec
  refine congrArg (fun z => if n.val < 128 * (((a0 (ValueIdx.ix1 0) : BitVec 32).toNat + 127) / 128) then z else (0 : EReal)) ?_
  refine Finset.sup_congr rfl fun j _ => ?_
  have hj : (⟨j.val % 1024, Nat.mod_lt _ (by omega)⟩ : Fin 1024) = j := Fin.ext (Nat.mod_eq_of_lt j.isLt)
  have hkk : (⟨(mkInp a0 A Q B S h0 hA).pg (128 * (s.val / 128) + s.val % 128), Inp.pg_lt _ _⟩ : Fin 4096) = k := Fin.ext hpg
  unfold val tbc tsc
  rw [hj]
  dsimp only
  rw [hln]
  refine congrArg₂ (· * ·) (Finset.sum_congr rfl fun e _ => ?_) ?_
  · refine congrArg (fun z => (Q (ix2 n e) : EReal) * sgnW (B (ix3 z (⟨e.val / 32, by omega⟩ : Fin 4) (if j.val < (A (ValueIdx.ix1 k)).toNat then j else (⟨0, by omega⟩ : Fin 1024)))) (e.val % 32)) hkk
  · refine Eq.trans ?_ (castS S k _)
    exact congrArg (fun z => (mkInp a0 A Q B S h0 hA).S (ix3 z (0 : Fin 1) (if j.val < (A (ValueIdx.ix1 k)).toNat then j else (⟨0, by omega⟩ : Fin 1024)))) hkk

end Cert.Kernel.Hand

end
-- ==== Proof.RefValue.lean ====
/-
  What the reference computes, entry by entry, in terms of its arguments.
-/
module

public import proofs.«01_k».proof.Proof.Signs
public import proofs.«01_k».proof.Proof.Gen.ReferenceIdeal.Run
public import Idealize.ShloMosaic.Lib.Pipeline.ValueKit
public import Idealize.ShloMosaic.Lib.WordCmp
public import Idealize.ShloMosaic.Lib.Routing.OpsSearch

@[expose] public section

noncomputable section

namespace Cert.ReferenceIdeal.Hand

open Cert.ReferenceIdeal Cert.ReferenceIdeal.Gen
open Idealize.ShloMosaic Idealize.ShloMosaic.TcCoe Idealize.ShloMosaic.Tactic Idealize.SL.Sem
open Idealize.ShloMosaic.WordCmp
open Idealize.ShloMosaic.ValueIdx hiding ix0 ix1 ix2 ix3 ix4

variable (m : (ℓ : Loc nD τ sig) → Buf (Elt Ideal) ℓ)

/-- The pages' lengths as a mask. -/
def mask (A : IVec S4096 32) : IVec S4096x1024 1 :=
  cmpi .slt (broadcastInDim S4096x1024 ![0, 1] bcast_S1x1024_S4096x1024_0_1 (broadcastInDim S1x1024 ![1] bcast_S1024_S1x1024_1 (iotaInDim S1024 32 0))) (broadcastInDim S4096x1024 ![0, 1] bcast_S4096x1_S4096x1024_0_1 (broadcastInDim S4096x1 ![0] bcast_S4096_S4096x1_0 A))

theorem mask_at (A : IVec S4096 32) (k : Fin 4096) (j : Fin 1024) : mask A (ix2 k j) = IntOp.cmpi .slt (BitVec.ofNat 32 j.val) (A (ValueIdx.ix1 k)) := by
  pointwise [mask]
  rfl

/-- The words with padding replaced. -/
def words (A : IVec S4096 32) (B : IVec S4096x4x1024 32) : IVec S4096x4x1024 32 :=
  select (broadcastInDim S4096x4x1024 ![0, 1, 2] bcast_S4096x1x1024_S4096x4x1024_0_1_2 (broadcastInDim S4096x1x1024 ![0, 2] bcast_S4096x1024_S4096x1x1024_0_2 (mask A))) B (broadcastInDim S4096x4x1024 ![0, 1, 2] bcast_S4096x4x1_S4096x4x1024_0_1_2 (extractStridedSlice S4096x4x1 ![0, 0, 0] B slices_S4096x4x1024_S4096x4x1_0_0_0))

theorem words_at (A : IVec S4096 32) (B : IVec S4096x4x1024 32) (k : Fin 4096) (w : Fin 4) (j : Fin 1024) :
    words A B (ix3 k w j) = Scalar.select (mask A (ix2 k j)) (B (ix3 k w j)) (B (ix3 k w (0 : Fin 1024))) := by
  pointwise [words]

/-- The scales with padding replaced. -/
def scales (A : IVec S4096 32) (S : FVec Ideal S4096x1024 .f32) : FVec Ideal S4096x1024 .f32 :=
  select (mask A) S (broadcastInDim S4096x1024 ![0, 1] bcast_S4096x1_S4096x1024_0_1 (extractStridedSlice S4096x1 ![0, 0] S slices_S4096x1024_S4096x1_0_0))

theorem scales_at (A : IVec S4096 32) (S : FVec Ideal S4096x1024 .f32) (k : Fin 4096) (j : Fin 1024) :
    scales A S (ix2 k j) = Scalar.select (mask A (ix2 k j)) (S (ix2 k j)) (S (ix2 k (0 : Fin 1024))) := by
  pointwise [scales]

/-- The queries' components in the pages' order. -/
def qOrd (q : FVec Ideal S3840x128 .bf16) : FVec Ideal S3840x128 .bf16 :=
  shapeCast _ (Host.reverse [3] (transpose S3840x4x4x8 [0, 1, 3, 2] (shapeCast _ q shapeCasts_S3840x128_S3840x4x8x4) transposes_S3840x4x8x4_S3840x4x4x8_0_1_3_2)) shapeCasts_S3840x4x4x8_S3840x128

theorem qOrd_at (q : FVec Ideal S3840x128 .bf16) (n : Fin 3840) (c : Fin 128) :
    qOrd q (ix2 n c) = q (ix2 n (⟨32 * (c.val / 32) + 4 * (7 - c.val % 8) + c.val % 32 / 8, by omega⟩ : Fin 128)) := by
  pointwise [qOrd]
  have := c.isLt
  refine Eq.trans (b := q (ix2 n (⟨c.val / 32 * 32 + (8 - (c.val % 8 + 1)) * 4 + c.val / 8 % 4, by omega⟩ : Fin 128))) rfl ?_
  refine congrArg (fun z => q (ix2 n z)) (Fin.ext ?_)
  dsimp only
  omega

theorem bit_word (x : BitVec 32) (t : ℕ) (ht : t < 32) : IntOp.andi (IntOp.shrsi .host x (BitVec.ofNat 32 t)) 1#32 = if x.getLsbD t then 1#32 else 0#32 := by
  have h : (BitVec.ofNat 32 t).toNat = t := by rw [BitVec.toNat_ofNat]; omega
  unfold IntOp.shrsi
  rw [if_pos (by rw [h]; exact ht)]
  refine BitVec.eq_of_getLsbD_eq fun i hi => ?_
  show (BitVec.sshiftRight x (BitVec.ofNat 32 t).toNat &&& 1#32).getLsbD i = _
  rw [h, BitVec.getLsbD_and, BitVec.getLsbD_sshiftRight]
  rcases Nat.eq_zero_or_pos i with rfl | hp
  · have : (1#32).getLsbD 0 = true := by decide
    rw [this, Nat.add_zero, Bool.and_true, if_pos ht]
    cases x.getLsbD t <;> rfl
  · have : (1#32).getLsbD i = false := by simp [BitVec.getLsbD_one]; omega
    rw [this, Bool.and_false]
    split
    · rw [this]
    · simp

theorem sign_word (x : BitVec 32) (t : ℕ) (ht : t < 32) :
    FloatOps.sitofp (F := Ideal) .bf16 (IntOp.subi (IntOp.muli 2#32 (IntOp.andi (IntOp.shrsi .host x (BitVec.ofNat 32 t)) 1#32)) 1#32) = if x.getLsbD t then (1 : EReal) else -1 := by
  rw [bit_word x t ht]
  split
  · show (((IntOp.subi (IntOp.muli 2#32 1#32) 1#32 : BitVec 32).toInt : ℝ) : EReal) = 1
    rw [show (IntOp.subi (IntOp.muli 2#32 1#32) 1#32 : BitVec 32).toInt = 1 by decide]
    simp
  · show (((IntOp.subi (IntOp.muli 2#32 0#32) 1#32 : BitVec 32).toInt : ℝ) : EReal) = -1
    rw [show (IntOp.subi (IntOp.muli 2#32 0#32) 1#32 : BitVec 32).toInt = -1 by decide]
    simp

/-- The signs of the words' bits. -/
def signs (x : IVec S4096x4x1024 32) : FVec Ideal S4096x1024x128 .bf16 :=
  transpose S4096x1024x128 [0, 2, 1] (shapeCast _ (sitofp .bf16 (subi (muli (broadcastInDim S4096x4x32x1024 ![] bcast_S_S4096x4x32x1024 (constantI S_ 32 2#32)) (andi (Host.shrsi (broadcastInDim S4096x4x32x1024 ![0, 1, 2, 3] bcast_S4096x4x1x1024_S4096x4x32x1024_0_1_2_3 (broadcastInDim S4096x4x1x1024 ![0, 1, 3] bcast_S4096x4x1024_S4096x4x1x1024_0_1_3 x)) (broadcastInDim S4096x4x32x1024 ![0, 1, 2, 3] bcast_S1x1x32x1_S4096x4x32x1024_0_1_2_3 (broadcastInDim S1x1x32x1 ![2] bcast_S32_S1x1x32x1_2 (iotaInDim S32 32 0)))) (broadcastInDim S4096x4x32x1024 ![] bcast_S_S4096x4x32x1024 (constantI S_ 32 1#32)))) (broadcastInDim S4096x4x32x1024 ![] bcast_S_S4096x4x32x1024 (constantI S_ 32 1#32)))) shapeCasts_S4096x4x32x1024_S4096x128x1024) transposes_S4096x128x1024_S4096x1024x128_0_2_1

theorem signs_at (x : IVec S4096x4x1024 32) (k : Fin 4096) (j : Fin 1024) (c : Fin 128) :
    signs x (ix3 k j c) = if (x (ix3 k (⟨c.val / 32, by omega⟩ : Fin 4) j)).getLsbD (c.val % 32) then (1 : EReal) else -1 := by
  pointwise [signs]
  exact sign_word _ _ (Nat.mod_lt _ (by omega))

/-- The largest scaled product of a page's patches. -/
def best (p : FVec Ideal S4096x1024x128 .bf16) (q : FVec Ideal S3840x128 .bf16) (s : FVec Ideal S4096x1024 .f32) : FVec Ideal S4096x3840 .f32 :=
  Host.reduce FloatOps.maximumf (mulf (Host.dotGeneral dot_S4096x1024x128_S3840x128_S4096x1024x3840_2_1_01_0_n_n none p q) (broadcastInDim S4096x1024x3840 ![0, 1, 2] bcast_S4096x1024x1_S4096x1024x3840_0_1_2 (broadcastInDim S4096x1024x1 ![0, 1] bcast_S4096x1024_S4096x1024x1_0_1 s))) (constant S_ .f32 0xFF800000#32) reducesTo_S4096x1024x3840_S4096x3840_d1 h_S_

theorem best_at (p : FVec Ideal S4096x1024x128 .bf16) (q : FVec Ideal S3840x128 .bf16) (s : FVec Ideal S4096x1024 .f32) (k : Fin 4096) (n : Fin 3840) :
    best p q s (ix2 k n) = Finset.univ.sup fun j : Fin 1024 => (∑ c : Fin 128, (p (ix3 k j c) : EReal) * q (ix2 n c)) * s (ix2 k j) := by
  pointwise [best]
  rw [show Ideal.ofBits .f32 4286578688#32 = (⊥ : EReal) by simp [Ideal.ofBits, Ideal.ieee]]
  rfl

/-- Which query rows are matched. -/
def cut (a0 : IVec S1 32) : IVec S_ 32 := muli (constantI S_ 32 128#32) (Routing.pyDiv0 (addi (shapeCast _ a0 shapeCasts_S1_S_) (constantI S_ 32 127#32)) (id (constantI S_ 32 128#32)))

theorem cut_at (a0 : IVec S1 32) (h : (a0 (ValueIdx.ix1 0)).toNat ≤ 3840) : cut a0 ix0 = BitVec.ofNat 32 (128 * (((a0 (ValueIdx.ix1 0)).toNat + 127) / 128)) := by
  have hx : (addi (shapeCast _ a0 shapeCasts_S1_S_) (constantI S_ 32 127#32)) ix0 = BitVec.ofNat 32 ((a0 (ValueIdx.ix1 0)).toNat + 127) := by
    pointwise []
    refine BitVec.eq_of_toNat_eq ?_
    show ((a0 (ValueIdx.ix1 0)) + 127#32).toNat = _
    rw [BitVec.toNat_add, BitVec.toNat_ofNat]
    rfl
  have e := Routing.pyDiv0_ap (addi (shapeCast _ a0 shapeCasts_S1_S_) (constantI S_ 32 127#32)) (id (constantI S_ 32 128#32)) hx rfl (by omega) (b := 128) (by decide) (by decide)
  show IntOp.muli 128#32 (Routing.pyDiv0 (addi (shapeCast _ a0 shapeCasts_S1_S_) (constantI S_ 32 127#32)) (id (constantI S_ 32 128#32)) ix0) = _
  refine (congrArg (IntOp.muli 128#32) e).trans ?_
  refine BitVec.eq_of_toNat_eq ?_
  show (128#32 * BitVec.ofNat 32 _).toNat = _
  rw [BitVec.toNat_mul, BitVec.toNat_ofNat, BitVec.toNat_ofNat, BitVec.toNat_ofNat]
  simp only [Nat.mul_mod, Nat.mod_mod]

def final (a0 : IVec S1 32) (b : FVec Ideal S4096x3840 .f32) : FVec Ideal S4096x1x3840 .f32 :=
  shapeCast _ (select (broadcastInDim S4096x3840 ![0, 1] bcast_S1x3840_S4096x3840_0_1 (broadcastInDim S1x3840 ![1] bcast_S3840_S1x3840_1 (cmpi .slt (iotaInDim S3840 32 0) (broadcastInDim S3840 ![] bcast_S_S3840 (cut a0))))) b (broadcastInDim S4096x3840 ![] bcast_S_S4096x3840 (id (constant S_ .f32 0x00000000#32)))) shapeCasts_S4096x3840_S4096x1x3840

theorem final_at (a0 : IVec S1 32) (b : FVec Ideal S4096x3840 .f32) (h : (a0 (ValueIdx.ix1 0)).toNat ≤ 3840) (k : Fin 4096) (n : Fin 3840) :
    final a0 b (ix3 k (0 : Fin 1) n) = if n.val < 128 * (((a0 (ValueIdx.ix1 0)).toNat + 127) / 128) then b (ix2 k n) else (0 : EReal) := by
  pointwise [final]
  have hn := n.isLt
  rw [cut_at a0 h, cmpi_slt_ofNat (by omega) (by omega)]
  have e0 : (id (constant (F := Ideal) S_ FTy.f32 0#32)) ix0 = (0 : EReal) := by
    show Ideal.ofBits .f32 0#32 = 0
    simp [Ideal.ofBits, Ideal.ieee]
  rw [e0]
  unfold Scalar.select
  by_cases hc : n.val < 128 * (((a0 (ValueIdx.ix1 0)).toNat + 127) / 128)
  · rw [if_pos hc, decide_eq_true hc]; rfl
  · rw [if_neg hc, decide_eq_false hc]; rfl

theorem iblk0 (c : Dev nD) : iblk m c 0 t0_0 = m ((c : Thread nD τ).loc main_arg2) := by
  have e : win0_0.index t0_0 = ![0, 0] := by decide +kernel
  blk_ext! [iblk, V, e]

theorem reg_eq (c : Dev nD) : Value.reg_main_v0 m c = m ((c : Thread nD τ).loc main_arg2) := by
  unfold Value.reg_main_v0
  refine (dats m 0 c).arrAt_eq_of_after_last 1 t0_0 (by decide +kernel) _ fun j => ?_
  blk_simp
  rw [after0_1]
  frame_out
  rw [iblk0]
  rfl

theorem run_final (ρ : Dev nD → PrngReg) :
    θ_run defs (onTc (τ := τ) (main (F := Ideal))) ⟨m, fun _ => 0, ρ⟩ fun r => ∀ c : Dev nD,
      r.2.mem ((c.tc : Thread nD τ).loc main_v45) = final (m ((c.tc : Thread nD τ).loc main_arg0)) (best (signs (words (m ((c.tc : Thread nD τ).loc main_arg1)) (m ((c.tc : Thread nD τ).loc main_arg3))))
          (qOrd (m ((c.tc : Thread nD τ).loc main_arg2))) (scales (m ((c.tc : Thread nD τ).loc main_arg1)) (m ((c.tc : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2⟩) (Value.run m ρ)
  refine Eq.trans (b := final (Value.exitV m c (Proc.devRef .tc main_arg0)) (best (signs (words (Value.exitV m c (Proc.devRef .tc main_arg1)) (Value.exitV m c (Proc.devRef .tc main_arg3))))
          (qOrd (Value.exitV m c (Proc.devRef .tc main_v0))) (scales (Value.exitV m c (Proc.devRef .tc main_arg1)) (Value.exitV m c (Proc.devRef .tc main_arg4))))) rfl ?_
  rw [Value.exit_main_arg0, Value.exit_main_arg1, Value.exit_main_arg3, Value.exit_main_arg4, Value.exit_main_v0, reg_eq]

/-- A component's place among the kernel's columns. -/
def fwd (c : Fin 128) : Fin 128 := ⟨32 * (c.val / 32) + 4 * (7 - c.val % 8) + c.val % 32 / 8, by omega⟩
/-- A column's component. -/
def bwd (e : Fin 128) : Fin 128 := ⟨32 * (e.val / 32) + 8 * (e.val % 4) + (7 - e.val % 32 / 4), by omega⟩
theorem bwd_fwd : ∀ c : Fin 128, bwd (fwd c) = c := by decide +kernel
theorem fwd_bwd : ∀ c : Fin 128, fwd (bwd c) = c := by decide +kernel
def place : Fin 128 ≃ Fin 128 := ⟨fwd, bwd, bwd_fwd, fwd_bwd⟩
theorem place_word : ∀ c : Fin 128, (fwd c).val / 32 = c.val / 32 := by decide +kernel
theorem place_bit : ∀ c : Fin 128, 8 * ((fwd c).val % 32 % 4) + 7 - (fwd c).val % 32 / 4 = c.val % 32 := by decide +kernel

theorem mask_len (A : IVec S4096 32) (hA : ∀ k : Fin 4096, (A (ValueIdx.ix1 k)).toNat ≤ 1024) (k : Fin 4096) (j : Fin 1024) :
    mask A (ix2 k j) = BitVec.ofBool (decide (j.val < (A (ValueIdx.ix1 k)).toNat)) := by
  have hj := j.isLt
  have hk := hA k
  rw [mask_at, cmpi_slt_of_lt (by rw [BitVec.toNat_ofNat]; omega) (by omega), BitVec.toNat_ofNat, Nat.mod_eq_of_lt (by omega)]

theorem select_idx {α : Type} (p : Prop) [Decidable p] (f : Fin 1024 → α) (j : Fin 1024) :
    Scalar.select (BitVec.ofBool (decide p)) (f j) (f (0 : Fin 1024)) = f (if p then j else (⟨0, by omega⟩ : Fin 1024)) := by
  unfold Scalar.select
  by_cases h : p
  · rw [if_pos h, decide_eq_true h]; rfl
  · rw [if_neg h, decide_eq_false h]; rfl

end Cert.ReferenceIdeal.Hand

end
-- ==== Proof.Agree.lean ====
/-
  The reference's entries are the kernel's.
-/
module

public import proofs.«01_k».proof.Proof.Best
public import proofs.«01_k».proof.Proof.RefValue

@[expose] public section

noncomputable section

namespace Cert.ReferenceIdeal.Hand

open Cert.ReferenceIdeal Cert.ReferenceIdeal.Gen
open Idealize.ShloMosaic Idealize.ShloMosaic.TcCoe Idealize.ShloMosaic.Tactic Idealize.SL.Sem
open Idealize.ShloMosaic.ValueIdx hiding ix0 ix1 ix2 ix3 ix4

theorem dot_eq (A : IVec S4096 32) (Q : FVec Ideal S3840x128 .bf16) (B : IVec S4096x4x1024 32)
    (hA : ∀ k : Fin 4096, (A (ValueIdx.ix1 k)).toNat ≤ 1024) (k : Fin 4096) (n : Fin 3840) (j : Fin 1024) :
    (∑ c : Fin 128, (signs (words A B) (ix3 k j c) : EReal) * qOrd Q (ix2 n c))
      = ∑ e : Fin 128, (Q (ix2 n e) : EReal) * Cert.Kernel.Hand.sgnW (B (ix3 k (⟨e.val / 32, by omega⟩ : Fin 4) (if j.val < (A (ValueIdx.ix1 k)).toNat then j else (⟨0, by omega⟩ : Fin 1024)))) (e.val % 32) := by
  refine Fintype.sum_equiv place _ _ fun c => ?_
  have hc := c.isLt
  rw [signs_at, words_at, mask_len A hA, qOrd_at, select_idx (j.val < (A (ValueIdx.ix1 k)).toNat) (fun z => B (ix3 k (⟨c.val / 32, by omega⟩ : Fin 4) z)) j, mul_comm]
  refine congrArg₂ (· * ·) rfl ?_
  unfold Cert.Kernel.Hand.sgnW
  show _ = (if (B (ix3 k (⟨(fwd c).val / 32, by omega⟩ : Fin 4) (if j.val < (A (ValueIdx.ix1 k)).toNat then j else (⟨0, by omega⟩ : Fin 1024)))).getLsbD (8 * ((fwd c).val % 32 % 4) + 7 - (fwd c).val % 32 / 4) then (1 : EReal) else -1)
  have h1 : (⟨(fwd c).val / 32, by omega⟩ : Fin 4) = ⟨c.val / 32, by omega⟩ := Fin.ext (place_word c)
  have h2 := place_bit c
  rw [h1, h2]

theorem final_spec (a0 : IVec S1 32) (A : IVec S4096 32) (Q : FVec Ideal S3840x128 .bf16) (B : IVec S4096x4x1024 32) (S : FVec Ideal S4096x1024 .f32)
    (h0 : (a0 (ValueIdx.ix1 0)).toNat ≤ 3840) (hA : ∀ k : Fin 4096, (A (ValueIdx.ix1 k)).toNat ≤ 1024) (k : Fin 4096) (n : Fin 3840) :
    final a0 (best (signs (words A B)) (qOrd Q) (scales A S)) (ix3 k (0 : Fin 1) n)
      = Cert.Kernel.Hand.spec (a0 (ValueIdx.ix1 0)).toNat (fun k => (A (ValueIdx.ix1 k)).toNat) Q B S k n := by
  rw [final_at a0 _ h0, best_at]
  unfold Cert.Kernel.Hand.spec
  refine congrArg (fun z => if n.val < 128 * (((a0 (ValueIdx.ix1 0)).toNat + 127) / 128) then z else (0 : EReal)) ?_
  refine Finset.sup_congr rfl fun j _ => ?_
  rw [dot_eq A Q B hA, scales_at, mask_len A hA, select_idx (j.val < (A (ValueIdx.ix1 k)).toNat) (fun z => S (ix2 k z)) j]

/-- The kernel's result array is the reference's. -/
theorem out_final (a0 : IVec S1 32) (A : IVec S4096 32) (Q : FVec Ideal S3840x128 .bf16) (B : IVec S4096x4x1024 32) (S : FVec Ideal S4096x1024 .f32)
    (h0 hA) :
    (Cert.Kernel.Hand.outFin (F := Ideal) (Cert.Kernel.Hand.mkInp a0 A Q B S h0 hA) (Cert.Kernel.Hand.TF (Cert.Kernel.Hand.mkInp a0 A Q B S h0 hA)) : S4096x1x3840.Idx → EReal)
      = final a0 (best (signs (words A B)) (qOrd Q) (scales A S)) := by
  funext x
  obtain ⟨k, z, n, rfl⟩ : ∃ (k : Fin 4096) (z : Fin 1) (n : Fin 3840), x = ix3 k z n := ⟨x 0, x 1, x 2, Idealize.ShloMosaic.eq_ix3 x⟩
  obtain rfl : z = 0 := Subsingleton.elim _ _
  exact (Cert.Kernel.Hand.out_val a0 A Q B S h0 hA k n).trans (final_spec a0 A Q B S h0 (fun k => (hA k).2) k n).symm

end Cert.ReferenceIdeal.Hand

end
-- ==== Proof.lean ====
module

public import proofs.«01_k».proof.Defs
public import proofs.«01_k».proof.Proof.Frames
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range

@[expose] public section

noncomputable section

namespace Cert.Proof

open Idealize.ShloMosaic Idealize.SL.Sem

theorem frame_kernel : quiescent_Kernel := fun m g hm =>
  (θ_run _ _ _).mono (fun _ h => ⟨fun c => (h.1 c).2, h.2⟩)
    (Cert.Kernel.Hand.run_range m g (Cert.Kernel.Hand.pre_nv _ _ _ _ _ (hm 0).1) (Cert.Kernel.Hand.pre_len _ _ _ _ _ (hm 0).2))

set_option maxRecDepth 100000 in
theorem frame_ideal : quiescent_KernelIdeal := fun m g hm =>
  (θ_run (Cert.KernelIdeal.defs (F := Ideal)) (onTc (τ := Cert.KernelIdeal.τ) (Cert.KernelIdeal.main (F := Ideal))) _).mono (fun _ h => ⟨fun c => (h.1 c).2, h.2⟩)
    (Cert.Kernel.Hand.run_range_ideal (F := Ideal) m g (Cert.Kernel.Hand.pre_nv (F := Ideal) _ _ _ _ _ (hm 0).1) (Cert.Kernel.Hand.pre_len (F := Ideal) _ _ _ _ _ (hm 0).2))

theorem frame_reference : quiescent_ReferenceIdeal := fun m g _ => Cert.ReferenceIdeal.Gen.frame m g

theorem frame_reference_in_range : quiescent_ReferenceIdeal_pre_in_range := fun m g _ => Cert.ReferenceIdeal.Gen.frame m g

set_option maxRecDepth 100000 in
theorem algebraic : algebraic_KernelIdeal_ReferenceIdeal := fun m g m' g' hm hargs => by
  have h0 := Cert.Kernel.Hand.pre_nv (F := Ideal) _ _ _ _ _ (hm 0).1
  have hA := Cert.Kernel.Hand.pre_len (F := Ideal) _ _ _ _ _ (hm 0).2
  refine ⟨_, (θ_run (Cert.KernelIdeal.defs (F := Ideal)) (onTc (τ := Cert.KernelIdeal.τ) (Cert.KernelIdeal.main (F := Ideal))) _).mono (fun _ h c => h.1 c)
    (Cert.Kernel.Hand.run_range_ideal (F := Ideal) m g h0 hA), ?_⟩
  refine (θ_run (Cert.ReferenceIdeal.defs (F := Ideal)) (onTc (τ := Cert.ReferenceIdeal.τ) (Cert.ReferenceIdeal.main (F := Ideal))) _).mono (fun _ h c => ⟨(h c).1.trans ?_, (h c).2⟩)
    (Cert.ReferenceIdeal.Hand.run_final m' g')
  obtain rfl : c = 0 := Subsingleton.elim _ _
  obtain ⟨e0, e1, e2, e3, e4⟩ := hargs 0
  rw [e0, e1, e2, e3, e4]
  exact (Cert.ReferenceIdeal.Hand.out_final _ _ _ _ _ h0 hA).symm

theorem claim : Cert.Claim :=
  ⟨inferInstance, inferInstance, inferInstance, inferInstance, frame_kernel, frame_ideal, frame_reference, frame_reference_in_range, trivial, algebraic⟩

end Cert.Proof

end
